-- ==== Defs.lean ====
def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_flash_pre [hPre_flash_pre : Cert.Pre_flash_pre.Facts] (m : (ℓ : Loc Cert.FlashIdeal.nD Cert.FlashIdeal.τ Cert.FlashIdeal.sig) → Buf (Elt Ideal) ℓ) : Prop :=
  ∀ c : Dev Cert.FlashIdeal.nD,
    (Cert.Pre_flash_pre.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3)) (m ((c.tc : Thread Cert.FlashIdeal.nD Cert.FlashIdeal.τ).loc Cert.FlashIdeal.main_arg4)) (m ((c.tc : Thread Cert.FlashIdeal.nD Cert.FlashIdeal.τ).loc Cert.FlashIdeal.main_arg5))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_flash_pre [hPre_flash_pre : Cert.Pre_flash_pre.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_flash_pre.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3)) (m ((c.tc : Thread Cert.FlashRefIdeal.nD Cert.FlashRefIdeal.τ).loc Cert.FlashRefIdeal.main_arg4)) (m ((c.tc : Thread Cert.FlashRefIdeal.nD Cert.FlashRefIdeal.τ).loc Cert.FlashRefIdeal.main_arg5))) = (fun _ => 1#1)

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpIdeal_cmp_pre [hPre_cmp_pre : Cert.Pre_cmp_pre.Facts] (m : (ℓ : Loc Cert.CmpIdeal.nD Cert.CmpIdeal.τ Cert.CmpIdeal.sig) → Buf (Elt Ideal) ℓ) : Prop :=
  ∀ c : Dev Cert.CmpIdeal.nD,
    (Cert.Pre_cmp_pre.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2))) = (fun _ => 1#1)

def Pre_CmpRefIdeal (m : (ℓ : Loc Cert.CmpRefIdeal.nD Cert.CmpRefIdeal.τ Cert.CmpRefIdeal.sig) → Buf (Elt Ideal) ℓ) : Prop :=
  True

def Pre_CmpRefIdeal_cmp_pre [hPre_cmp_pre : Cert.Pre_cmp_pre.Facts] (m : (ℓ : Loc Cert.CmpRefIdeal.nD Cert.CmpRefIdeal.τ Cert.CmpRefIdeal.sig) → Buf (Elt Ideal) ℓ) : Prop :=
  ∀ c : Dev Cert.CmpRefIdeal.nD,
    (Cert.Pre_cmp_pre.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2))) = (fun _ => 1#1)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3)
      ∧ r.2.mem ((c.tc : Thread Cert.Flash.nD Cert.Flash.τ).loc Cert.Flash.main_arg4) = m ((c.tc : Thread Cert.Flash.nD Cert.Flash.τ).loc Cert.Flash.main_arg4)
      ∧ r.2.mem ((c.tc : Thread Cert.Flash.nD Cert.Flash.τ).loc Cert.Flash.main_arg5) = m ((c.tc : Thread Cert.Flash.nD Cert.Flash.τ).loc Cert.Flash.main_arg5))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3)
      ∧ r.2.mem ((c.tc : Thread Cert.FlashIdeal.nD Cert.FlashIdeal.τ).loc Cert.FlashIdeal.main_arg4) = m ((c.tc : Thread Cert.FlashIdeal.nD Cert.FlashIdeal.τ).loc Cert.FlashIdeal.main_arg4)
      ∧ r.2.mem ((c.tc : Thread Cert.FlashIdeal.nD Cert.FlashIdeal.τ).loc Cert.FlashIdeal.main_arg5) = m ((c.tc : Thread Cert.FlashIdeal.nD Cert.FlashIdeal.τ).loc Cert.FlashIdeal.main_arg5))
      ∧ r.2.sem = fun _ => 0)

def quiescent_FlashIdeal_pre_flash_pre [hFlashIdeal : Cert.FlashIdeal.Facts] [hPre_flash_pre : Cert.Pre_flash_pre.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_flash_pre m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3)
      ∧ r.2.mem ((c.tc : Thread Cert.FlashIdeal.nD Cert.FlashIdeal.τ).loc Cert.FlashIdeal.main_arg4) = m ((c.tc : Thread Cert.FlashIdeal.nD Cert.FlashIdeal.τ).loc Cert.FlashIdeal.main_arg4)
      ∧ r.2.mem ((c.tc : Thread Cert.FlashIdeal.nD Cert.FlashIdeal.τ).loc Cert.FlashIdeal.main_arg5) = m ((c.tc : Thread Cert.FlashIdeal.nD Cert.FlashIdeal.τ).loc Cert.FlashIdeal.main_arg5))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3)
      ∧ r.2.mem ((c.tc : Thread Cert.FlashRefIdeal.nD Cert.FlashRefIdeal.τ).loc Cert.FlashRefIdeal.main_arg4) = m ((c.tc : Thread Cert.FlashRefIdeal.nD Cert.FlashRefIdeal.τ).loc Cert.FlashRefIdeal.main_arg4)
      ∧ r.2.mem ((c.tc : Thread Cert.FlashRefIdeal.nD Cert.FlashRefIdeal.τ).loc Cert.FlashRefIdeal.main_arg5) = m ((c.tc : Thread Cert.FlashRefIdeal.nD Cert.FlashRefIdeal.τ).loc Cert.FlashRefIdeal.main_arg5))
      ∧ r.2.sem = fun _ => 0)

def quiescent_FlashRefIdeal_pre_flash_pre [hFlashRefIdeal : Cert.FlashRefIdeal.Facts] [hPre_flash_pre : Cert.Pre_flash_pre.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_flash_pre m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3)
      ∧ r.2.mem ((c.tc : Thread Cert.FlashRefIdeal.nD Cert.FlashRefIdeal.τ).loc Cert.FlashRefIdeal.main_arg4) = m ((c.tc : Thread Cert.FlashRefIdeal.nD Cert.FlashRefIdeal.τ).loc Cert.FlashRefIdeal.main_arg4)
      ∧ r.2.mem ((c.tc : Thread Cert.FlashRefIdeal.nD Cert.FlashRefIdeal.τ).loc Cert.FlashRefIdeal.main_arg5) = m ((c.tc : Thread Cert.FlashRefIdeal.nD Cert.FlashRefIdeal.τ).loc Cert.FlashRefIdeal.main_arg5))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ r.2.sem = fun _ => 0)

def quiescent_CmpIdeal_pre_cmp_pre [hCmpIdeal : Cert.CmpIdeal.Facts] [hPre_cmp_pre : Cert.Pre_cmp_pre.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal_cmp_pre m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2))
      ∧ r.2.sem = fun _ => 0)

def quiescent_CmpRefIdeal_pre_cmp_pre [hCmpRefIdeal : Cert.CmpRefIdeal.Facts] [hPre_cmp_pre : Cert.Pre_cmp_pre.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal_cmp_pre m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2))
      ∧ r.2.sem = fun _ => 0)

def preserves_Flash_FlashIdeal : Prop :=
  IdealRules.named_const.Statement Cert.FlashIdeal.κ "mask" .f32 0xF149F2CA#32 ⊥

def algebraic_FlashIdeal_FlashRefIdeal_pre_flash_pre [hFlashIdeal : Cert.FlashIdeal.Facts] [hFlashRefIdeal : Cert.FlashRefIdeal.Facts] [hPre_flash_pre : Cert.Pre_flash_pre.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_flash_pre m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)
      ∧ m' ((c.tc : Thread Cert.FlashRefIdeal.nD Cert.FlashRefIdeal.τ).loc Cert.FlashRefIdeal.main_arg4) = m ((c.tc : Thread Cert.FlashIdeal.nD Cert.FlashIdeal.τ).loc Cert.FlashIdeal.main_arg4)
      ∧ m' ((c.tc : Thread Cert.FlashRefIdeal.nD Cert.FlashRefIdeal.τ).loc Cert.FlashRefIdeal.main_arg5) = m ((c.tc : Thread Cert.FlashIdeal.nD Cert.FlashIdeal.τ).loc Cert.FlashIdeal.main_arg5)) →
    ∃ (v0 : (c : Dev Cert.FlashIdeal.nD) → Buf (Elt Ideal) ((c.tc : Thread Cert.FlashIdeal.nD Cert.FlashIdeal.τ).loc Cert.FlashIdeal.main_v10)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v10) = v0 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3)
          ∧ r.2.mem ((c.tc : Thread Cert.FlashIdeal.nD Cert.FlashIdeal.τ).loc Cert.FlashIdeal.main_arg4) = m ((c.tc : Thread Cert.FlashIdeal.nD Cert.FlashIdeal.τ).loc Cert.FlashIdeal.main_arg4)
          ∧ r.2.mem ((c.tc : Thread Cert.FlashIdeal.nD Cert.FlashIdeal.τ).loc Cert.FlashIdeal.main_arg5) = m ((c.tc : Thread Cert.FlashIdeal.nD Cert.FlashIdeal.τ).loc Cert.FlashIdeal.main_arg5))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v76) = v0 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3)
          ∧ r.2.mem ((c.tc : Thread Cert.FlashRefIdeal.nD Cert.FlashRefIdeal.τ).loc Cert.FlashRefIdeal.main_arg4) = m' ((c.tc : Thread Cert.FlashRefIdeal.nD Cert.FlashRefIdeal.τ).loc Cert.FlashRefIdeal.main_arg4)
          ∧ r.2.mem ((c.tc : Thread Cert.FlashRefIdeal.nD Cert.FlashRefIdeal.τ).loc Cert.FlashRefIdeal.main_arg5) = m' ((c.tc : Thread Cert.FlashRefIdeal.nD Cert.FlashRefIdeal.τ).loc Cert.FlashRefIdeal.main_arg5))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)) →
    ∃ (v0 : (c : Dev Cert.OprojIdeal.nD) → Buf (Elt Ideal) ((c.tc : Thread Cert.OprojIdeal.nD Cert.OprojIdeal.τ).loc Cert.OprojIdeal.main_v2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v2) = v0 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v3) = v0 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v36_0)) (v1 : (c : Dev Cert.ProjIdeal.nD) → Buf (Elt Ideal) ((c.tc : Thread Cert.ProjIdeal.nD Cert.ProjIdeal.τ).loc Cert.ProjIdeal.main_v36_1)) (v2 : (c : Dev Cert.ProjIdeal.nD) → Buf (Elt Ideal) ((c.tc : Thread Cert.ProjIdeal.nD Cert.ProjIdeal.τ).loc Cert.ProjIdeal.main_v36_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v36_0) = v0 c
          ∧ r.2.mem ((c.tc : Thread Cert.ProjIdeal.nD Cert.ProjIdeal.τ).loc Cert.ProjIdeal.main_v36_1) = v1 c
          ∧ r.2.mem ((c.tc : Thread Cert.ProjIdeal.nD Cert.ProjIdeal.τ).loc Cert.ProjIdeal.main_v36_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v67) = v0 c
          ∧ r.2.mem ((c.tc : Thread Cert.ProjRefIdeal.nD Cert.ProjRefIdeal.τ).loc Cert.ProjRefIdeal.main_v68) = v1 c
          ∧ r.2.mem ((c.tc : Thread Cert.ProjRefIdeal.nD Cert.ProjRefIdeal.τ).loc Cert.ProjRefIdeal.main_v69) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Cmp_CmpIdeal : Prop :=
  IdealRules.named_const.Statement Cert.CmpIdeal.κ "mask" .f32 0xF149F2CA#32 ⊥

def algebraic_CmpIdeal_CmpRefIdeal_pre_cmp_pre [hCmpIdeal : Cert.CmpIdeal.Facts] [hCmpRefIdeal : Cert.CmpRefIdeal.Facts] [hPre_cmp_pre : Cert.Pre_cmp_pre.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal_cmp_pre m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)) →
    ∃ (v0 : (c : Dev Cert.CmpIdeal.nD) → Buf (Elt Ideal) ((c.tc : Thread Cert.CmpIdeal.nD Cert.CmpIdeal.τ).loc Cert.CmpIdeal.main_v66_0)) (v1 : (c : Dev Cert.CmpIdeal.nD) → Buf (Elt Ideal) ((c.tc : Thread Cert.CmpIdeal.nD Cert.CmpIdeal.τ).loc Cert.CmpIdeal.main_v66_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v66_0) = v0 c
          ∧ r.2.mem ((c.tc : Thread Cert.CmpIdeal.nD Cert.CmpIdeal.τ).loc Cert.CmpIdeal.main_v66_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v66) = v0 c
          ∧ r.2.mem ((c.tc : Thread Cert.CmpRefIdeal.nD Cert.CmpRefIdeal.τ).loc Cert.CmpRefIdeal.main_v108) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2))

def Claim : Prop :=
  ∃ (hFlash : Cert.Flash.Facts) (hFlashIdeal : Cert.FlashIdeal.Facts) (hFlashRefIdeal : Cert.FlashRefIdeal.Facts) (hOproj : Cert.Oproj.Facts) (hOprojIdeal : Cert.OprojIdeal.Facts) (hOprojRefIdeal : Cert.OprojRefIdeal.Facts) (hProj : Cert.Proj.Facts) (hProjIdeal : Cert.ProjIdeal.Facts) (hProjRefIdeal : Cert.ProjRefIdeal.Facts) (hCmp : Cert.Cmp.Facts) (hCmpIdeal : Cert.CmpIdeal.Facts) (hCmpRefIdeal : Cert.CmpRefIdeal.Facts) (hPre_flash_pre : Cert.Pre_flash_pre.Facts) (hPre_cmp_pre : Cert.Pre_cmp_pre.Facts),
    quiescent_Flash (hFlash := hFlash)
    ∧ quiescent_FlashIdeal (hFlashIdeal := hFlashIdeal)
    ∧ quiescent_FlashIdeal_pre_flash_pre (hFlashIdeal := hFlashIdeal) (hPre_flash_pre := hPre_flash_pre)
    ∧ quiescent_FlashRefIdeal (hFlashRefIdeal := hFlashRefIdeal)
    ∧ quiescent_FlashRefIdeal_pre_flash_pre (hFlashRefIdeal := hFlashRefIdeal) (hPre_flash_pre := hPre_flash_pre)
    ∧ quiescent_Oproj (hOproj := hOproj)
    ∧ quiescent_OprojIdeal (hOprojIdeal := hOprojIdeal)
    ∧ quiescent_OprojRefIdeal (hOprojRefIdeal := hOprojRefIdeal)
    ∧ quiescent_Proj (hProj := hProj)
    ∧ quiescent_ProjIdeal (hProjIdeal := hProjIdeal)
    ∧ quiescent_ProjRefIdeal (hProjRefIdeal := hProjRefIdeal)
    ∧ quiescent_Cmp (hCmp := hCmp)
    ∧ quiescent_CmpIdeal (hCmpIdeal := hCmpIdeal)
    ∧ quiescent_CmpIdeal_pre_cmp_pre (hCmpIdeal := hCmpIdeal) (hPre_cmp_pre := hPre_cmp_pre)
    ∧ quiescent_CmpRefIdeal (hCmpRefIdeal := hCmpRefIdeal)
    ∧ quiescent_CmpRefIdeal_pre_cmp_pre (hCmpRefIdeal := hCmpRefIdeal) (hPre_cmp_pre := hPre_cmp_pre)
    ∧ preserves_Flash_FlashIdeal
    ∧ algebraic_FlashIdeal_FlashRefIdeal_pre_flash_pre (hFlashIdeal := hFlashIdeal) (hFlashRefIdeal := hFlashRefIdeal) (hPre_flash_pre := hPre_flash_pre)
    ∧ preserves_Oproj_OprojIdeal
    ∧ algebraic_OprojIdeal_OprojRefIdeal (hOprojIdeal := hOprojIdeal) (hOprojRefIdeal := hOprojRefIdeal)
    ∧ preserves_Proj_ProjIdeal
    ∧ algebraic_ProjIdeal_ProjRefIdeal (hProjIdeal := hProjIdeal) (hProjRefIdeal := hProjRefIdeal)
    ∧ preserves_Cmp_CmpIdeal
    ∧ algebraic_CmpIdeal_CmpRefIdeal_pre_cmp_pre (hCmpIdeal := hCmpIdeal) (hCmpRefIdeal := hCmpRefIdeal) (hPre_cmp_pre := hPre_cmp_pre)
-- ==== Pre_cmp_pre.lean ====
abbrev S2048x1024 : Shape := ⟨2, ![2048, 1024]⟩
abbrev S2048x256 : Shape := ⟨2, ![2048, 256]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S2048x1024 .f32) (main_arg1 : FVec F S2048x256 .f32) (main_arg2 : FVec F S2048x256 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Pre_flash_pre.lean ====
abbrev S2048x1024 : Shape := ⟨2, ![2048, 1024]⟩
abbrev S2048x256 : Shape := ⟨2, ![2048, 256]⟩
abbrev S4x2048x32 : Shape := ⟨3, ![4, 2048, 32]⟩
abbrev S4x4x2048x64 : Shape := ⟨4, ![4, 4, 2048, 64]⟩
abbrev S64x3 : Shape := ⟨2, ![64, 3]⟩
abbrev S_ : Shape := ⟨0, ![]⟩

class Facts : Prop where
  bcast_S_S4x2048x32 : S_.BroadcastsInDim S4x2048x32 (![] : Fin 0 → Fin S4x2048x32.rank)
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  reducesTo_S4x2048x32_S_d0_1_2 : S4x2048x32.ReducesTo [0, 1, 2] S_

variable [Facts]

def fn_part1 {F : FTy → Type} [FloatOps F] (main_arg3 : FVec F S4x2048x32 .f32) (main_v10 : IVec S4x2048x32 1) (main_v14 : IVec S_ 1) (main_v17 : IVec S2048x256 1) : IVec S_ 1 :=
  let main_c_4 : IVec S_ 1 := constantI S_ 1 1#1
  let main_v18 : IVec S_ 1 := (fun x v => Host.reduce IntOp.andi x v reducesTo_S2048x256_S_d0_1 h_S_) main_v17 main_c_4
  let main_v19 : IVec S_ 1 := andi main_v14 main_v18
  let main_cst_5 : FVec F S_ .f32 := constant S_ .f32 0x3F000000#32
  let main_v20 : FVec F S4x2048x32 .f32 := broadcastInDim S4x2048x32 ![] bcast_S_S4x2048x32 main_cst_5
  let main_v21 : IVec S4x2048x32 1 := cmpf .ogt main_arg3 main_v20
  let main_v22 : IVec S4x2048x32 1 := noti main_v10
  let main_v23 : IVec S4x2048x32 1 := ori main_v21 main_v22
  let main_c_6 : IVec S_ 1 := constantI S_ 1 1#1
  let main_v24 : IVec S_ 1 := (fun x v => Host.reduce IntOp.andi x v reducesTo_S4x2048x32_S_d0_1_2 h_S_) main_v23 main_c_6
  let main_v25 : IVec S_ 1 := andi main_v19 main_v24
  main_v25

def fn {F : FTy → Type} [FloatOps F] (main_arg0 : FVec F S2048x1024 .f32) (main_arg1 : FVec F S2048x256 .f32) (main_arg2 : FVec F S2048x256 .f32) (main_arg3 : FVec F S4x2048x32 .f32) (main_arg4 : FVec F S4x4x2048x64 .f32) (main_arg5 : FVec F S64x3 .f32) : IVec S_ 1 :=
  let main_v0 : IVec S4x2048x32 32 := iotaInDim S4x2048x32 32 2
  let main_v1 : IVec S4x2048x32 32 := iotaInDim S4x2048x32 32 1
  let main_c : IVec S_ 32 := constantI S_ 32 64#32
  let main_v2 : IVec S4x2048x32 32 := broadcastInDim S4x2048x32 ![] bcast_S_S4x2048x32 main_c
  let main_v3 : IVec S4x2048x32 32 := muli main_v0 main_v2
  let main_v4 : IVec S4x2048x32 1 := cmpi .sle main_v3 main_v1
  let main_c_0 : IVec S_ 32 := constantI S_ 32 64#32
  let main_v5 : IVec S4x2048x32 32 := broadcastInDim S4x2048x32 ![] bcast_S_S4x2048x32 main_c_0
  let main_v6 : IVec S4x2048x32 32 := muli main_v0 main_v5
  let main_c_1 : IVec S_ 32 := constantI S_ 32 64#32
  let main_v7 : IVec S4x2048x32 32 := broadcastInDim S4x2048x32 ![] bcast_S_S4x2048x32 main_c_1
  let main_v8 : IVec S4x2048x32 32 := addi main_v6 main_v7
  let main_v9 : IVec S4x2048x32 1 := cmpi .slt main_v1 main_v8
  let main_v10 : IVec S4x2048x32 1 := andi main_v4 main_v9
  let main_v11 : FVec F S2048x1024 .f32 := Host.absf main_arg0
  let main_cst : FVec F S_ .f32 := constant S_ .f32 0x7F800000#32
  let main_v12 : FVec F S2048x1024 .f32 := broadcastInDim S2048x1024 ![] bcast_S_S2048x1024 main_cst
  let main_v13 : IVec S2048x1024 1 := cmpf .olt main_v11 main_v12
  let main_c_2 : IVec S_ 1 := constantI S_ 1 1#1
  let main_v14 : IVec S_ 1 := (fun x v => Host.reduce IntOp.andi x v reducesTo_S2048x1024_S_d0_1 h_S_) main_v13 main_c_2
  let main_v15 : FVec F S2048x256 .f32 := Host.absf main_arg1
  let main_cst_3 : FVec F S_ .f32 := constant S_ .f32 0x7F800000#32
  let main_v16 : FVec F S2048x256 .f32 := broadcastInDim S2048x256 ![] bcast_S_S2048x256 main_cst_3
  let main_v17 : IVec S2048x256 1 := cmpf .olt main_v15 main_v16
  fn_part1 (F := F) main_arg3 main_v10 main_v14 main_v17
-- ==== Flash.lean ====
abbrev S2048x1024 : Shape := ⟨2, ![2048, 1024]⟩
abbrev S2048x256 : Shape := ⟨2, ![2048, 256]⟩
abbrev S4x2048x32 : Shape := ⟨3, ![4, 2048, 32]⟩
abbrev S4x4x2048x64 : Shape := ⟨4, ![4, 4, 2048, 64]⟩
abbrev S64x3 : Shape := ⟨2, ![64, 3]⟩
abbrev S2048x16x64 : Shape := ⟨3, ![2048, 16, 64]⟩
abbrev S16x2048x64 : Shape := ⟨3, ![16, 2048, 64]⟩
abbrev S2048x4x64 : Shape := ⟨3, ![2048, 4, 64]⟩
abbrev S4x2048x64 : Shape := ⟨3, ![4, 2048, 64]⟩
abbrev S_ : Shape := ⟨0, ![]⟩
abbrev S64x128 : Shape := ⟨2, ![64, 128]⟩
abbrev S1 : Shape := ⟨1, ![1]⟩
abbrev S1x256x64 : Shape := ⟨3, ![1, 256, 64]⟩
abbrev S1x2048x64 : Shape := ⟨3, ![1, 2048, 64]⟩
abbrev S1x256x32 : Shape := ⟨3, ![1, 256, 32]⟩
abbrev S256x64 : Shape := ⟨2, ![256, 64]⟩
abbrev S256x32 : Shape := ⟨2, ![256, 32]⟩
abbrev S256x1 : Shape := ⟨2, ![256, 1]⟩
abbrev S1x1x1 : Shape := ⟨3, ![1, 1, 1]⟩
abbrev S1x64x64 : Shape := ⟨3, ![1, 64, 64]⟩
abbrev S64x64 : Shape := ⟨2, ![64, 64]⟩
abbrev S256 : Shape := ⟨1, ![256]⟩
abbrev S256x128 : Shape := ⟨2, ![256, 128]⟩

abbrev nBuf : Space → Nat
  | .hbm => 19
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S4x2048x32, .f32⟩
  | .hbm, ⟨4, _⟩ => ⟨S4x4x2048x64, .f32⟩
  | .hbm, ⟨5, _⟩ => ⟨S64x3, .f32⟩
  | .hbm, ⟨6, _⟩ => ⟨S2048x16x64, .f32⟩
  | .hbm, ⟨7, _⟩ => ⟨S16x2048x64, .f32⟩
  | .hbm, ⟨8, _⟩ => ⟨S2048x4x64, .f32⟩
  | .hbm, ⟨9, _⟩ => ⟨S4x2048x64, .f32⟩
  | .hbm, ⟨10, _⟩ => ⟨S2048x4x64, .f32⟩
  | .hbm, ⟨11, _⟩ => ⟨S4x2048x64, .f32⟩
  | .hbm, ⟨12, _⟩ => ⟨S16x2048x64, .f32⟩
  | .hbm, ⟨13, _⟩ => ⟨S_, .f32⟩
  | .hbm, ⟨14, _⟩ => ⟨S64x128, .f32⟩
  | .hbm, ⟨15, _⟩ => ⟨S_, .i32⟩
  | .hbm, ⟨16, _⟩ => ⟨S1, .i32⟩
  | .hbm, ⟨17, _⟩ => ⟨S64x128, .f32⟩
  | .hbm, ⟨18, _⟩ => ⟨S16x2048x64, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x32, .f32⟩
  | .local _ .vmem, ⟨7, _⟩ => ⟨S1x256x32, .f32⟩
  | .local _ .vmem, ⟨8, _⟩ => ⟨S1x256x64, .f32⟩
  | .local _ .vmem, ⟨9, _⟩ => ⟨S1x256x64, .f32⟩
  | .local _ .vmem, ⟨10, _⟩ => ⟨S64x128, .f32⟩
  | .local _ .vmem, ⟨11, _⟩ => ⟨S1x256x64, .f32⟩
  | .local _ .vmem, ⟨12, _⟩ => ⟨S1x256x64, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_23 : BitVec 32 := 0#32
  let arg1 : BitVec 32 := BitVec.ofNat 32 (i 1).val
  let c256_i32 : BitVec 32 := 256#32
  let v0 : BitVec 32 := Scalar.muli arg1 c256_i32
  let c511_i32 : BitVec 32 := 511#32
  let v34 : BitVec 32 := Scalar.subi v0 c511_i32
  let c0_i32_15 : BitVec 32 := 0#32
  let v35 : BitVec 32 := Scalar.maxsi v34 c0_i32_15
  let c0_i32_17 : BitVec 32 := 0#32
  let v37 : BitVec 1 := Scalar.cmpi .sgt v35 c0_i32_17
  let v38 : BitVec 32 := Scalar.extui v37
  let c0_i32_18 : BitVec 32 := 0#32
  let v39 : BitVec 1 := Scalar.cmpi .slt v35 c0_i32_18
  let v40 : BitVec 32 := Scalar.extui v39
  let v41 : BitVec 32 := Scalar.subi v38 v40
  let c64_i32_16 : BitVec 32 := 64#32
  let c0_i32_19 : BitVec 32 := 0#32
  let v42 : BitVec 1 := Scalar.cmpi .sgt c64_i32_16 c0_i32_19
  let v43 : BitVec 32 := Scalar.extui v42
  let c0_i32_20 : BitVec 32 := 0#32
  let v44 : BitVec 1 := Scalar.cmpi .slt c64_i32_16 c0_i32_20
  let v45 : BitVec 32 := Scalar.extui v44
  let v46 : BitVec 32 := Scalar.subi v43 v45
  let v47 : BitVec 1 := Scalar.cmpi .ne v41 v46
  let v48 : BitVec 32 := Scalar.remsi v35 c64_i32_16
  let c0_i32_21 : BitVec 32 := 0#32
  let v49 : BitVec 1 := Scalar.cmpi .ne v48 c0_i32_21
  let v50 : BitVec 1 := Scalar.andi v47 v49
  let v36 : BitVec 32 := Scalar.divsi v35 c64_i32_16
  let c1_i32_22 : BitVec 32 := 1#32
  let v51 : BitVec 32 := Scalar.subi v36 c1_i32_22
  let v52 : BitVec 32 := Scalar.select v50 v51 v36
  let v53 : BitVec 32 := Scalar.subi v52 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_25 : BitVec 32 := 1#32
  ⟨c0_i32_23, v57, c1_i32_25⟩
def k0_off1 (i : grid0.Coords) (k0_t1 : Fin (k0_t1_loop i).trips) : Fin 3 → Nat :=
  let c0_54 : Index := 0#32
  let c0_i32_23 : BitVec 32 := 0#32
  let c1_i32_25 : BitVec 32 := 1#32
  let arg9 : BitVec 32 := Scf.iv c0_i32_23 c1_i32_25 k0_t1
  let c64_i32_53 : BitVec 32 := 64#32
  let v123 : BitVec 32 := Scalar.muli arg9 c64_i32_53
  let v124 : Index := Scalar.indexCast v123
  let c0_55 : Index := 0#32
  ![0, v124.toNat, 0]
@[reducible] def k0_t2_loop (i : grid0.Coords) : Scf.Loop 32 :=
  let c0_i32_23 : BitVec 32 := 0#32
  let arg1 : BitVec 32 := BitVec.ofNat 32 (i 1).val
  let c256_i32 : BitVec 32 := 256#32
  let v0 : BitVec 32 := Scalar.muli arg1 c256_i32
  let c511_i32 : BitVec 32 := 511#32
  let v34 : BitVec 32 := Scalar.subi v0 c511_i32
  let c0_i32_15 : BitVec 32 := 0#32
  let v35 : BitVec 32 := Scalar.maxsi v34 c0_i32_15
  let c0_i32_17 : BitVec 32 := 0#32
  let v37 : BitVec 1 := Scalar.cmpi .sgt v35 c0_i32_17
  let v38 : BitVec 32 := Scalar.extui v37
  let c0_i32_18 : BitVec 32 := 0#32
  let v39 : BitVec 1 := Scalar.cmpi .slt v35 c0_i32_18
  let v40 : BitVec 32 := Scalar.extui v39
  let v41 : BitVec 32 := Scalar.subi v38 v40
  let c64_i32_16 : BitVec 32 := 64#32
  let c0_i32_19 : BitVec 32 := 0#32
  let v42 : BitVec 1 := Scalar.cmpi .sgt c64_i32_16 c0_i32_19
  let v43 : BitVec 32 := Scalar.extui v42
  let c0_i32_20 : BitVec 32 := 0#32
  let v44 : BitVec 1 := Scalar.cmpi .slt c64_i32_16 c0_i32_20
  let v45 : BitVec 32 := Scalar.extui v44
  let v46 : BitVec 32 := Scalar.subi v43 v45
  let v47 : BitVec 1 := Scalar.cmpi .ne v41 v46
  let v48 : BitVec 32 := Scalar.remsi v35 c64_i32_16
  let c0_i32_21 : BitVec 32 := 0#32
  let v49 : BitVec 1 := Scalar.cmpi .ne v48 c0_i32_21
  let v50 : BitVec 1 := Scalar.andi v47 v49
  let v36 : BitVec 32 := Scalar.divsi v35 c64_i32_16
  let c1_i32_22 : BitVec 32 := 1#32
  let v51 : BitVec 32 := Scalar.subi v36 c1_i32_22
  let v52 : BitVec 32 := Scalar.select v50 v51 v36
  let v53 : BitVec 32 := Scalar.subi v52 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let v54 : BitVec 32 := Scalar.addi c0_i32_23 v53
  let c1_i32_26 : BitVec 32 := 1#32
  ⟨v57, v54, c1_i32_26⟩
def k0_off2 (i : grid0.Coords) (k0_t2 : Fin (k0_t2_loop i).trips) : Fin 3 → Nat :=
  let c0_54 : Index := 0#32
  let c0_i32_23 : BitVec 32 := 0#32
  let arg1 : BitVec 32 := BitVec.ofNat 32 (i 1).val
  let c256_i32 : BitVec 32 := 256#32
  let v0 : BitVec 32 := Scalar.muli arg1 c256_i32
  let c511_i32 : BitVec 32 := 511#32
  let v34 : BitVec 32 := Scalar.subi v0 c511_i32
  let c0_i32_15 : BitVec 32 := 0#32
  let v35 : BitVec 32 := Scalar.maxsi v34 c0_i32_15
  let c0_i32_17 : BitVec 32 := 0#32
  let v37 : BitVec 1 := Scalar.cmpi .sgt v35 c0_i32_17
  let v38 : BitVec 32 := Scalar.extui v37
  let c0_i32_18 : BitVec 32 := 0#32
  let v39 : BitVec 1 := Scalar.cmpi .slt v35 c0_i32_18
  let v40 : BitVec 32 := Scalar.extui v39
  let v41 : BitVec 32 := Scalar.subi v38 v40
  let c64_i32_16 : BitVec 32 := 64#32
  let c0_i32_19 : BitVec 32 := 0#32
  let v42 : BitVec 1 := Scalar.cmpi .sgt c64_i32_16 c0_i32_19
  let v43 : BitVec 32 := Scalar.extui v42
  let c0_i32_20 : BitVec 32 := 0#32
  let v44 : BitVec 1 := Scalar.cmpi .slt c64_i32_16 c0_i32_20
  let v45 : BitVec 32 := Scalar.extui v44
  let v46 : BitVec 32 := Scalar.subi v43 v45
  let v47 : BitVec 1 := Scalar.cmpi .ne v41 v46
  let v48 : BitVec 32 := Scalar.remsi v35 c64_i32_16
  let c0_i32_21 : BitVec 32 := 0#32
  let v49 : BitVec 1 := Scalar.cmpi .ne v48 c0_i32_21
  let v50 : BitVec 1 := Scalar.andi v47 v49
  let v36 : BitVec 32 := Scalar.divsi v35 c64_i32_16
  let c1_i32_22 : BitVec 32 := 1#32
  let v51 : BitVec 32 := Scalar.subi v36 c1_i32_22
  let v52 : BitVec 32 := Scalar.select v50 v51 v36
  let v53 : BitVec 32 := Scalar.subi v52 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg9 : BitVec 32 := Scf.iv v57 c1_i32_26 k0_t2
  let c64_i32_53 : BitVec 32 := 64#32
  let v123 : BitVec 32 := Scalar.muli arg9 c64_i32_53
  let v124 : Index := Scalar.indexCast v123
  let c0_55 : Index := 0#32
  ![0, v124.toNat, 0]
@[reducible] def k0_t3_loop (i : grid0.Coords) : Scf.Loop 32 :=
  let arg1 : BitVec 32 := BitVec.ofNat 32 (i 1).val
  let c256_i32 : BitVec 32 := 256#32
  let v0 : BitVec 32 := Scalar.muli arg1 c256_i32
  let c511_i32 : BitVec 32 := 511#32
  let v34 : BitVec 32 := Scalar.subi v0 c511_i32
  let c0_i32_15 : BitVec 32 := 0#32
  let v35 : BitVec 32 := Scalar.maxsi v34 c0_i32_15
  let c0_i32_17 : BitVec 32 := 0#32
  let v37 : BitVec 1 := Scalar.cmpi .sgt v35 c0_i32_17
  let v38 : BitVec 32 := Scalar.extui v37
  let c0_i32_18 : BitVec 32 := 0#32
  let v39 : BitVec 1 := Scalar.cmpi .slt v35 c0_i32_18
  let v40 : BitVec 32 := Scalar.extui v39
  let v41 : BitVec 32 := Scalar.subi v38 v40
  let c64_i32_16 : BitVec 32 := 64#32
  let c0_i32_19 : BitVec 32 := 0#32
  let v42 : BitVec 1 := Scalar.cmpi .sgt c64_i32_16 c0_i32_19
  let v43 : BitVec 32 := Scalar.extui v42
  let c0_i32_20 : BitVec 32 := 0#32
  let v44 : BitVec 1 := Scalar.cmpi .slt c64_i32_16 c0_i32_20
  let v45 : BitVec 32 := Scalar.extui v44
  let v46 : BitVec 32 := Scalar.subi v43 v45
  let v47 : BitVec 1 := Scalar.cmpi .ne v41 v46
  let v48 : BitVec 32 := Scalar.remsi v35 c64_i32_16
  let c0_i32_21 : BitVec 32 := 0#32
  let v49 : BitVec 1 := Scalar.cmpi .ne v48 c0_i32_21
  let v50 : BitVec 1 := Scalar.andi v47 v49
  let v36 : BitVec 32 := Scalar.divsi v35 c64_i32_16
  let c1_i32_22 : BitVec 32 := 1#32
  let v51 : BitVec 32 := Scalar.subi v36 c1_i32_22
  let v52 : BitVec 32 := Scalar.select v50 v51 v36
  let c256_i32_10 : BitVec 32 := 256#32
  let v16 : BitVec 32 := Scalar.addi v0 c256_i32_10
  let c0_i32 : BitVec 32 := 0#32
  let v18 : BitVec 1 := Scalar.cmpi .sgt v16 c0_i32
  let v19 : BitVec 32 := Scalar.extui v18
  let c0_i32_11 : BitVec 32 := 0#32
  let v20 : BitVec 1 := Scalar.cmpi .slt v16 c0_i32_11
  let v21 : BitVec 32 := Scalar.extui v20
  let v22 : BitVec 32 := Scalar.subi v19 v21
  let c64_i32 : BitVec 32 := 64#32
  let c0_i32_12 : BitVec 32 := 0#32
  let v23 : BitVec 1 := Scalar.cmpi .sgt c64_i32 c0_i32_12
  let v24 : BitVec 32 := Scalar.extui v23
  let c0_i32_13 : BitVec 32 := 0#32
  let v25 : BitVec 1 := Scalar.cmpi .slt c64_i32 c0_i32_13
  let v26 : BitVec 32 := Scalar.extui v25
  let v27 : BitVec 32 := Scalar.subi v24 v26
  let v28 : BitVec 1 := Scalar.cmpi .ne v22 v27
  let v29 : BitVec 32 := Scalar.remsi v16 c64_i32
  let c0_i32_14 : BitVec 32 := 0#32
  let v30 : BitVec 1 := Scalar.cmpi .ne v29 c0_i32_14
  let v31 : BitVec 1 := Scalar.andi v28 v30
  let v17 : BitVec 32 := Scalar.divsi v16 c64_i32
  let c1_i32 : BitVec 32 := 1#32
  let v32 : BitVec 32 := Scalar.subi v17 c1_i32
  let v33 : BitVec 32 := Scalar.select v31 v32 v17
  let v60 : BitVec 32 := Scalar.subi v33 v52
  let c1_i32_27 : BitVec 32 := 1#32
  let v62 : BitVec 32 := Scalar.divsi v60 c1_i32_27
  let v63 : BitVec 32 := Scalar.muli v62 c1_i32_27
  let v64 : BitVec 32 := Scalar.addi v52 v63
  let c1_i32_28 : BitVec 32 := 1#32
  ⟨v52, v64, c1_i32_28⟩
def k0_off3 (i : grid0.Coords) (k0_t3 : Fin (k0_t3_loop i).trips) : Fin 3 → Nat :=
  let c0_50 : Index := 0#32
  let arg1 : BitVec 32 := BitVec.ofNat 32 (i 1).val
  let c256_i32 : BitVec 32 := 256#32
  let v0 : BitVec 32 := Scalar.muli arg1 c256_i32
  let c511_i32 : BitVec 32 := 511#32
  let v34 : BitVec 32 := Scalar.subi v0 c511_i32
  let c0_i32_15 : BitVec 32 := 0#32
  let v35 : BitVec 32 := Scalar.maxsi v34 c0_i32_15
  let c0_i32_17 : BitVec 32 := 0#32
  let v37 : BitVec 1 := Scalar.cmpi .sgt v35 c0_i32_17
  let v38 : BitVec 32 := Scalar.extui v37
  let c0_i32_18 : BitVec 32 := 0#32
  let v39 : BitVec 1 := Scalar.cmpi .slt v35 c0_i32_18
  let v40 : BitVec 32 := Scalar.extui v39
  let v41 : BitVec 32 := Scalar.subi v38 v40
  let c64_i32_16 : BitVec 32 := 64#32
  let c0_i32_19 : BitVec 32 := 0#32
  let v42 : BitVec 1 := Scalar.cmpi .sgt c64_i32_16 c0_i32_19
  let v43 : BitVec 32 := Scalar.extui v42
  let c0_i32_20 : BitVec 32 := 0#32
  let v44 : BitVec 1 := Scalar.cmpi .slt c64_i32_16 c0_i32_20
  let v45 : BitVec 32 := Scalar.extui v44
  let v46 : BitVec 32 := Scalar.subi v43 v45
  let v47 : BitVec 1 := Scalar.cmpi .ne v41 v46
  let v48 : BitVec 32 := Scalar.remsi v35 c64_i32_16
  let c0_i32_21 : BitVec 32 := 0#32
  let v49 : BitVec 1 := Scalar.cmpi .ne v48 c0_i32_21
  let v50 : BitVec 1 := Scalar.andi v47 v49
  let v36 : BitVec 32 := Scalar.divsi v35 c64_i32_16
  let c1_i32_22 : BitVec 32 := 1#32
  let v51 : BitVec 32 := Scalar.subi v36 c1_i32_22
  let v52 : BitVec 32 := Scalar.select v50 v51 v36
  let c1_i32_28 : BitVec 32 := 1#32
  let arg9 : BitVec 32 := Scf.iv v52 c1_i32_28 k0_t3
  let c64_i32_49 : BitVec 32 := 64#32
  let v111 : BitVec 32 := Scalar.muli arg9 c64_i32_49
  let v112 : Index := Scalar.indexCast v111
  let c0_51 : Index := 0#32
  ![0, v112.toNat, 0]
@[reducible] def k0_t4_loop (i : grid0.Coords) : Scf.Loop 32 :=
  let arg1 : BitVec 32 := BitVec.ofNat 32 (i 1).val
  let c256_i32 : BitVec 32 := 256#32
  let v0 : BitVec 32 := Scalar.muli arg1 c256_i32
  let c511_i32 : BitVec 32 := 511#32
  let v34 : BitVec 32 := Scalar.subi v0 c511_i32
  let c0_i32_15 : BitVec 32 := 0#32
  let v35 : BitVec 32 := Scalar.maxsi v34 c0_i32_15
  let c0_i32_17 : BitVec 32 := 0#32
  let v37 : BitVec 1 := Scalar.cmpi .sgt v35 c0_i32_17
  let v38 : BitVec 32 := Scalar.extui v37
  let c0_i32_18 : BitVec 32 := 0#32
  let v39 : BitVec 1 := Scalar.cmpi .slt v35 c0_i32_18
  let v40 : BitVec 32 := Scalar.extui v39
  let v41 : BitVec 32 := Scalar.subi v38 v40
  let c64_i32_16 : BitVec 32 := 64#32
  let c0_i32_19 : BitVec 32 := 0#32
  let v42 : BitVec 1 := Scalar.cmpi .sgt c64_i32_16 c0_i32_19
  let v43 : BitVec 32 := Scalar.extui v42
  let c0_i32_20 : BitVec 32 := 0#32
  let v44 : BitVec 1 := Scalar.cmpi .slt c64_i32_16 c0_i32_20
  let v45 : BitVec 32 := Scalar.extui v44
  let v46 : BitVec 32 := Scalar.subi v43 v45
  let v47 : BitVec 1 := Scalar.cmpi .ne v41 v46
  let v48 : BitVec 32 := Scalar.remsi v35 c64_i32_16
  let c0_i32_21 : BitVec 32 := 0#32
  let v49 : BitVec 1 := Scalar.cmpi .ne v48 c0_i32_21
  let v50 : BitVec 1 := Scalar.andi v47 v49
  let v36 : BitVec 32 := Scalar.divsi v35 c64_i32_16
  let c1_i32_22 : BitVec 32 := 1#32
  let v51 : BitVec 32 := Scalar.subi v36 c1_i32_22
  let v52 : BitVec 32 := Scalar.select v50 v51 v36
  let c256_i32_10 : BitVec 32 := 256#32
  let v16 : BitVec 32 := Scalar.addi v0 c256_i32_10
  let c0_i32 : BitVec 32 := 0#32
  let v18 : BitVec 1 := Scalar.cmpi .sgt v16 c0_i32
  let v19 : BitVec 32 := Scalar.extui v18
  let c0_i32_11 : BitVec 32 := 0#32
  let v20 : BitVec 1 := Scalar.cmpi .slt v16 c0_i32_11
  let v21 : BitVec 32 := Scalar.extui v20
  let v22 : BitVec 32 := Scalar.subi v19 v21
  let c64_i32 : BitVec 32 := 64#32
  let c0_i32_12 : BitVec 32 := 0#32
  let v23 : BitVec 1 := Scalar.cmpi .sgt c64_i32 c0_i32_12
  let v24 : BitVec 32 := Scalar.extui v23
  let c0_i32_13 : BitVec 32 := 0#32
  let v25 : BitVec 1 := Scalar.cmpi .slt c64_i32 c0_i32_13
  let v26 : BitVec 32 := Scalar.extui v25
  let v27 : BitVec 32 := Scalar.subi v24 v26
  let v28 : BitVec 1 := Scalar.cmpi .ne v22 v27
  let v29 : BitVec 32 := Scalar.remsi v16 c64_i32
  let c0_i32_14 : BitVec 32 := 0#32
  let v30 : BitVec 1 := Scalar.cmpi .ne v29 c0_i32_14
  let v31 : BitVec 1 := Scalar.andi v28 v30
  let v17 : BitVec 32 := Scalar.divsi v16 c64_i32
  let c1_i32 : BitVec 32 := 1#32
  let v32 : BitVec 32 := Scalar.subi v17 c1_i32
  let v33 : BitVec 32 := Scalar.select v31 v32 v17
  let v60 : BitVec 32 := Scalar.subi v33 v52
  let c1_i32_27 : BitVec 32 := 1#32
  let v62 : BitVec 32 := Scalar.divsi v60 c1_i32_27
  let v63 : BitVec 32 := Scalar.muli v62 c1_i32_27
  let v64 : BitVec 32 := Scalar.addi v52 v63
  let v61 : BitVec 32 := Scalar.addi v52 v60
  let c1_i32_29 : BitVec 32 := 1#32
  ⟨v64, v61, c1_i32_29⟩
def k0_off4 (i : grid0.Coords) (k0_t4 : Fin (k0_t4_loop i).trips) : Fin 3 → Nat :=
  let c0_50 : Index := 0#32
  let arg1 : BitVec 32 := BitVec.ofNat 32 (i 1).val
  let c256_i32 : BitVec 32 := 256#32
  let v0 : BitVec 32 := Scalar.muli arg1 c256_i32
  let c511_i32 : BitVec 32 := 511#32
  let v34 : BitVec 32 := Scalar.subi v0 c511_i32
  let c0_i32_15 : BitVec 32 := 0#32
  let v35 : BitVec 32 := Scalar.maxsi v34 c0_i32_15
  let c0_i32_17 : BitVec 32 := 0#32
  let v37 : BitVec 1 := Scalar.cmpi .sgt v35 c0_i32_17
  let v38 : BitVec 32 := Scalar.extui v37
  let c0_i32_18 : BitVec 32 := 0#32
  let v39 : BitVec 1 := Scalar.cmpi .slt v35 c0_i32_18
  let v40 : BitVec 32 := Scalar.extui v39
  let v41 : BitVec 32 := Scalar.subi v38 v40
  let c64_i32_16 : BitVec 32 := 64#32
  let c0_i32_19 : BitVec 32 := 0#32
  let v42 : BitVec 1 := Scalar.cmpi .sgt c64_i32_16 c0_i32_19
  let v43 : BitVec 32 := Scalar.extui v42
  let c0_i32_20 : BitVec 32 := 0#32
  let v44 : BitVec 1 := Scalar.cmpi .slt c64_i32_16 c0_i32_20
  let v45 : BitVec 32 := Scalar.extui v44
  let v46 : BitVec 32 := Scalar.subi v43 v45
  let v47 : BitVec 1 := Scalar.cmpi .ne v41 v46
  let v48 : BitVec 32 := Scalar.remsi v35 c64_i32_16
  let c0_i32_21 : BitVec 32 := 0#32
  let v49 : BitVec 1 := Scalar.cmpi .ne v48 c0_i32_21
  let v50 : BitVec 1 := Scalar.andi v47 v49
  let v36 : BitVec 32 := Scalar.divsi v35 c64_i32_16
  let c1_i32_22 : BitVec 32 := 1#32
  let v51 : BitVec 32 := Scalar.subi v36 c1_i32_22
  let v52 : BitVec 32 := Scalar.select v50 v51 v36
  let c256_i32_10 : BitVec 32 := 256#32
  let v16 : BitVec 32 := Scalar.addi v0 c256_i32_10
  let c0_i32 : BitVec 32 := 0#32
  let v18 : BitVec 1 := Scalar.cmpi .sgt v16 c0_i32
  let v19 : BitVec 32 := Scalar.extui v18
  let c0_i32_11 : BitVec 32 := 0#32
  let v20 : BitVec 1 := Scalar.cmpi .slt v16 c0_i32_11
  let v21 : BitVec 32 := Scalar.extui v20
  let v22 : BitVec 32 := Scalar.subi v19 v21
  let c64_i32 : BitVec 32 := 64#32
  let c0_i32_12 : BitVec 32 := 0#32
  let v23 : BitVec 1 := Scalar.cmpi .sgt c64_i32 c0_i32_12
  let v24 : BitVec 32 := Scalar.extui v23
  let c0_i32_13 : BitVec 32 := 0#32
  let v25 : BitVec 1 := Scalar.cmpi .slt c64_i32 c0_i32_13
  let v26 : BitVec 32 := Scalar.extui v25
  let v27 : BitVec 32 := Scalar.subi v24 v26
  let v28 : BitVec 1 := Scalar.cmpi .ne v22 v27
  let v29 : BitVec 32 := Scalar.remsi v16 c64_i32
  let c0_i32_14 : BitVec 32 := 0#32
  let v30 : BitVec 1 := Scalar.cmpi .ne v29 c0_i32_14
  let v31 : BitVec 1 := Scalar.andi v28 v30
  let v17 : BitVec 32 := Scalar.divsi v16 c64_i32
  let c1_i32 : BitVec 32 := 1#32
  let v32 : BitVec 32 := Scalar.subi v17 c1_i32
  let v33 : BitVec 32 := Scalar.select v31 v32 v17
  let v60 : BitVec 32 := Scalar.subi v33 v52
  let c1_i32_27 : BitVec 32 := 1#32
  let v62 : BitVec 32 := Scalar.divsi v60 c1_i32_27
  let v63 : BitVec 32 := Scalar.muli v62 c1_i32_27
  let v64 : BitVec 32 := Scalar.addi v52 v63
  let c1_i32_29 : BitVec 32 := 1#32
  let arg9 : BitVec 32 := Scf.iv v64 c1_i32_29 k0_t4
  let c64_i32_49 : BitVec 32 := 64#32
  let v111 : BitVec 32 := Scalar.muli arg9 c64_i32_49
  let v112 : Index := Scalar.indexCast v111
  let c0_51 : Index := 0#32
  ![0, v112.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FlashIdeal.lean ====
variable {F : FTy → Type} [FloatOps F] [Named F]
def κ : String → Option EReal := fun
  | "mask" => some ⊥
  | _ => none
-- ==== FlashRefIdeal.lean ====
abbrev S2048x1024 : Shape := ⟨2, ![2048, 1024]⟩
abbrev S2048x256 : Shape := ⟨2, ![2048, 256]⟩
abbrev S4x2048x32 : Shape := ⟨3, ![4, 2048, 32]⟩
abbrev S4x4x2048x64 : Shape := ⟨4, ![4, 4, 2048, 64]⟩
abbrev S64x3 : Shape := ⟨2, ![64, 3]⟩
abbrev S2048x4x4x64 : Shape := ⟨4, ![2048, 4, 4, 64]⟩
abbrev S2048x4x64 : Shape := ⟨3, ![2048, 4, 64]⟩
abbrev S4x2048x64 : Shape := ⟨3, ![4, 2048, 64]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S4x2048x2048 : Shape := ⟨3, ![4, 2048, 2048]⟩
abbrev S1x2048 : Shape := ⟨2, ![1, 2048]⟩
abbrev S2048x2048 : Shape := ⟨2, ![2048, 2048]⟩
abbrev S4x4x2048x2048 : Shape := ⟨4, ![4, 4, 2048, 2048]⟩
abbrev S4x1x2048x2048 : Shape := ⟨4, ![4, 1, 2048, 2048]⟩
abbrev S1x1x2048x2048 : Shape := ⟨4, ![1, 1, 2048, 2048]⟩
abbrev S4x4x2048 : Shape := ⟨3, ![4, 4, 2048]⟩
abbrev S4x4x2048x1 : Shape := ⟨4, ![4, 4, 2048, 1]⟩
abbrev S4x4x2048x3 : Shape := ⟨4, ![4, 4, 2048, 3]⟩
abbrev S16x2048x64 : Shape := ⟨3, ![16, 2048, 64]⟩

abbrev nBuf : Space → Nat
  | .hbm => 141
  | .vmem => 0
  | .smem => 0
  | _ => 0

abbrev hbmTy0_0 (i : Nat) : BufTy := match i % 128 with
  | 0 => ⟨S2048x1024, .f32⟩
  | 1 => ⟨S2048x256, .f32⟩
  | 2 => ⟨S2048x256, .f32⟩
  | 3 => ⟨S4x2048x32, .f32⟩
  | 4 => ⟨S4x4x2048x64, .f32⟩
  | 5 => ⟨S64x3, .f32⟩
  | 6 => ⟨S2048x4x4x64, .f32⟩
  | 7 => ⟨S4x4x2048x64, .f32⟩
  | 8 => ⟨S2048x4x64, .f32⟩
  | 9 => ⟨S4x2048x64, .f32⟩
  | 10 => ⟨S2048x4x64, .f32⟩
  | 11 => ⟨S4x2048x64, .f32⟩
  | 12 => ⟨S2048, .i32⟩
  | 13 => ⟨S_, .i32⟩
  | 14 => ⟨S_, .i32⟩
  | 15 => ⟨S2048, .i32⟩
  | 16 => ⟨S2048, .i32⟩
  | 17 => ⟨S2048, .i32⟩
  | 18 => ⟨S_, .i32⟩
  | 19 => ⟨S2048, .i32⟩
  | 20 => ⟨S2048, .i1⟩
  | 21 => ⟨S2048, .i32⟩
  | 22 => ⟨S2048, .i32⟩
  | 23 => ⟨S_, .i32⟩
  | 24 => ⟨S2048, .i32⟩
  | 25 => ⟨S2048, .i1⟩
  | 26 => ⟨S2048, .i1⟩
  | 27 => ⟨S_, .i32⟩
  | 28 => ⟨S2048, .i32⟩
  | 29 => ⟨S2048, .i32⟩
  | 30 => ⟨S2048, .i32⟩
  | 31 => ⟨S_, .f32⟩
  | 32 => ⟨S4x2048x32, .f32⟩
  | 33 => ⟨S4x2048x32, .i1⟩
  | 34 => ⟨S_, .i32⟩
  | 35 => ⟨S2048, .i32⟩
  | 36 => ⟨S2048, .i1⟩
  | 37 => ⟨S_, .i32⟩
  | 38 => ⟨S2048, .i32⟩
  | 39 => ⟨S2048, .i32⟩
  | 40 => ⟨S2048, .i32⟩
  | 41 => ⟨S2048x1, .i32⟩
  | 42 => ⟨S1, .i32⟩
  | 43 => ⟨S_, .i32⟩
  | 44 => ⟨S2048x1, .i32⟩
  | 45 => ⟨S2048x1, .i1⟩
  | 46 => ⟨S1x1, .i32⟩
  | 47 => ⟨S2048x1, .i32⟩
  | 48 => ⟨S2048x1, .i1⟩
  | 49 => ⟨S2048x1, .i1⟩
  | 50 => ⟨S_, .i1⟩
  | 51 => ⟨S2048, .i1⟩
  | 52 => ⟨S4x2048x2048, .i1⟩
  | 53 => ⟨S4x2048x2048, .i1⟩
  | 54 => ⟨S_, .i1⟩
  | 55 => ⟨S4x2048x2048, .i1⟩
  | 56 => ⟨S4x2048x2048, .i1⟩
  | 57 => ⟨S2048x1, .i32⟩
  | 58 => ⟨S1x2048, .i32⟩
  | 59 => ⟨S2048x2048, .i32⟩
  | 60 => ⟨S2048x2048, .i32⟩
  | 61 => ⟨S2048x2048, .i1⟩
  | 62 => ⟨S4x4x2048x2048, .f32⟩
  | 63 => ⟨S_, .f32⟩
  | 64 => ⟨S4x4x2048x2048, .f32⟩
  | 65 => ⟨S4x4x2048x2048, .f32⟩
  | 66 => ⟨S4x1x2048x2048, .i1⟩
  | 67 => ⟨S1x1x2048x2048, .i1⟩
  | 68 => ⟨S4x1x2048x2048, .i1⟩
  | 69 => ⟨S4x1x2048x2048, .i1⟩
  | 70 => ⟨S_, .f32⟩
  | 71 => ⟨S_, .f32⟩
  | 72 => ⟨S4x4x2048x2048, .i1⟩
  | 73 => ⟨S4x4x2048x2048, .f32⟩
  | 74 => ⟨S4x4x2048x2048, .f32⟩
  | 75 => ⟨S_, .f32⟩
  | 76 => ⟨S4x4x2048, .f32⟩
  | 77 => ⟨S_, .f32⟩
  | 78 => ⟨S4x4x2048, .f32⟩
  | 79 => ⟨S4x4x2048, .f32⟩
  | 80 => ⟨S4x4x2048x1, .f32⟩
  | 81 => ⟨S4x4x2048x2048, .f32⟩
  | 82 => ⟨S4x4x2048x2048, .f32⟩
  | 83 => ⟨S4x4x2048x2048, .f32⟩
  | 84 => ⟨S_, .f32⟩
  | 85 => ⟨S4x4x2048, .f32⟩
  | 86 => ⟨S4x4x2048x1, .f32⟩
  | 87 => ⟨S4x4x2048x2048, .f32⟩
  | 88 => ⟨S4x4x2048x2048, .f32⟩
  | 89 => ⟨S4x4x2048x64, .f32⟩
  | 90 => ⟨S1x2048, .i32⟩
  | 91 => ⟨S2048x1, .i32⟩
  | 92 => ⟨S_, .i32⟩
  | 93 => ⟨S2048x1, .i32⟩
  | 94 => ⟨S2048x1, .i32⟩
  | 95 => ⟨S2048x2048, .i32⟩
  | 96 => ⟨S2048x2048, .i32⟩
  | 97 => ⟨S2048x2048, .i1⟩
  | 98 => ⟨S2048x2048, .i1⟩
  | 99 => ⟨S1x1x2048x2048, .i1⟩
  | 100 => ⟨S_, .f32⟩
  | 101 => ⟨S_, .f32⟩
  | 102 => ⟨S4x4x2048x2048, .i1⟩
  | 103 => ⟨S4x4x2048x2048, .f32⟩
  | 104 => ⟨S4x4x2048x2048, .f32⟩
  | 105 => ⟨S_, .f32⟩
  | 106 => ⟨S4x4x2048, .f32⟩
  | 107 => ⟨S_, .f32⟩
  | 108 => ⟨S4x4x2048, .f32⟩
  | 109 => ⟨S4x4x2048, .f32⟩
  | 110 => ⟨S4x4x2048x1, .f32⟩
  | 111 => ⟨S4x4x2048x2048, .f32⟩
  | 112 => ⟨S4x4x2048x2048, .f32⟩
  | 113 => ⟨S4x4x2048x2048, .f32⟩
  | 114 => ⟨S_, .f32⟩
  | 115 => ⟨S4x4x2048, .f32⟩
  | 116 => ⟨S4x4x2048x1, .f32⟩
  | 117 => ⟨S4x4x2048x2048, .f32⟩
  | 118 => ⟨S4x4x2048x2048, .f32⟩
  | 119 => ⟨S4x4x2048x64, .f32⟩
  | 120 => ⟨S4x4x2048x3, .f32⟩
  | 121 => ⟨S4x4x2048x3, .f32⟩
  | 122 => ⟨S4x4x2048x3, .f32⟩
  | 123 => ⟨S_, .f32⟩
  | 124 => ⟨S4x4x2048x3, .f32⟩
  | 125 => ⟨S4x4x2048x3, .f32⟩
  | 126 => ⟨S_, .f32⟩
  | 127 => ⟨S4x4x2048x3, .f32⟩
  | _ => ⟨S2048x1024, .f32⟩

abbrev hbmTy0_1 (i : Nat) : BufTy := match i % 128 with
  | 0 => ⟨S4x4x2048x3, .f32⟩
  | 1 => ⟨S4x4x2048x1, .f32⟩
  | 2 => ⟨S4x4x2048x64, .f32⟩
  | 3 => ⟨S4x4x2048x64, .f32⟩
  | 4 => ⟨S4x4x2048x1, .f32⟩
  | 5 => ⟨S4x4x2048x64, .f32⟩
  | 6 => ⟨S4x4x2048x64, .f32⟩
  | 7 => ⟨S4x4x2048x64, .f32⟩
  | 8 => ⟨S4x4x2048x1, .f32⟩
  | 9 => ⟨S4x4x2048x64, .f32⟩
  | 10 => ⟨S4x4x2048x64, .f32⟩
  | 11 => ⟨S4x4x2048x64, .f32⟩
  | 12 => ⟨S16x2048x64, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_c_4 : Ref sig .tc := ⟨.hbm, 54, rfl⟩
abbrev main_call1_v15 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_cst_0 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_cst_1 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v23 : Ref sig .tc := ⟨.hbm, 74, rfl⟩
abbrev main_cst_2 : Ref sig .tc := ⟨.hbm, 75, rfl⟩
abbrev main_v24 : Ref sig .tc := ⟨.hbm, 76, rfl⟩
abbrev main_cst_3 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_cst_4 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_c_5 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_cst_6 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_v45 : Ref sig .tc := ⟨.hbm, 104, rfl⟩
abbrev main_cst_7 : Ref sig .tc := ⟨.hbm, 105, rfl⟩
abbrev main_v46 : Ref sig .tc := ⟨.hbm, 106, rfl⟩
abbrev main_cst_8 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_cst_9 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_cst_10 : Ref sig .tc := ⟨.hbm, 123, rfl⟩
abbrev main_v61 : Ref sig .tc := ⟨.hbm, 124, rfl⟩
abbrev main_v62 : Ref sig .tc := ⟨.hbm, 125, rfl⟩
abbrev main_cst_11 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩

abbrev nD : Nat := 1
abbrev τ : Topo := Topo.v7x

variable {F : FTy → Type} [FloatOps F]
-- ==== Oproj.lean ====
abbrev S16x2048x64 : Shape := ⟨3, ![16, 2048, 64]⟩
abbrev S1024x1024 : Shape := ⟨2, ![1024, 1024]⟩
abbrev S2048x16x64 : Shape := ⟨3, ![2048, 16, 64]⟩
abbrev S2048x1024 : Shape := ⟨2, ![2048, 1024]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16x2048x64, .f32⟩
  | .hbm, ⟨1, _⟩ => ⟨S1024x1024, .f32⟩
  | .hbm, ⟨2, _⟩ => ⟨S2048x16x64, .f32⟩
  | .hbm, ⟨3, _⟩ => ⟨S2048x1024, .f32⟩
  | .hbm, ⟨4, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S256x1024, .f32⟩
  | .local _ .vmem, ⟨4, _⟩ => ⟨S256x1024, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OprojRefIdeal.lean ====
abbrev S16x2048x64 : Shape := ⟨3, ![16, 2048, 64]⟩
abbrev S1024x1024 : Shape := ⟨2, ![1024, 1024]⟩
abbrev S2048x16x64 : Shape := ⟨3, ![2048, 16, 64]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S1024x1024, .f32⟩
  | .hbm, ⟨2, _⟩ => ⟨S2048x16x64, .f32⟩
  | .hbm, ⟨3, _⟩ => ⟨S2048x1024, .f32⟩
  | .hbm, ⟨4, _⟩ => ⟨S1024x1024, .f32⟩
  | .hbm, ⟨5, _⟩ => ⟨S2048x1024, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proj.lean ====
abbrev S1x2048x1024 : Shape := ⟨3, ![1, 2048, 1024]⟩
abbrev S2048x32x2 : Shape := ⟨3, ![2048, 32, 2]⟩
abbrev S1024x1024 : Shape := ⟨2, ![1024, 1024]⟩
abbrev S256x1024 : Shape := ⟨2, ![256, 1024]⟩
abbrev S32 : Shape := ⟨1, ![32]⟩
abbrev S2048x1024 : Shape := ⟨2, ![2048, 1024]⟩
abbrev S1536x1024 : Shape := ⟨2, ![1536, 1024]⟩
abbrev S2048x32x1 : Shape := ⟨3, ![2048, 32, 1]⟩
abbrev S2048x32 : Shape := ⟨2, ![2048, 32]⟩
abbrev S2048x64 : Shape := ⟨2, ![2048, 64]⟩
abbrev S_ : Shape := ⟨0, ![]⟩
abbrev S64x64 : Shape := ⟨2, ![64, 64]⟩
abbrev S32x1 : Shape := ⟨2, ![32, 1]⟩
abbrev S32x2 : Shape := ⟨2, ![32, 2]⟩
abbrev S2048x256 : Shape := ⟨2, ![2048, 256]⟩
abbrev S256x64 : Shape := ⟨2, ![256, 64]⟩
abbrev S256x256 : Shape := ⟨2, ![256, 256]⟩
abbrev S256x1536 : Shape := ⟨2, ![256, 1536]⟩

abbrev nBuf : Space → Nat
  | .hbm => 58
  | .vmem => 14
  | .smem => 0
  | _ => 0

abbrev bufTy : (tb : Table) → Fin (tcTables nBuf tb) → BufTy
  | .hbm, ⟨0, _⟩ => ⟨S1x2048x1024, .f32⟩
  | .hbm, ⟨1, _⟩ => ⟨S2048x32x2, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S32, .i32⟩
  | .hbm, ⟨6, _⟩ => ⟨S32, .i1⟩
  | .hbm, ⟨7, _⟩ => ⟨S32, .i32⟩
  | .hbm, ⟨8, _⟩ => ⟨S32, .i1⟩
  | .hbm, ⟨9, _⟩ => ⟨S32, .i1⟩
  | .hbm, ⟨10, _⟩ => ⟨S32, .i32⟩
  | .hbm, ⟨11, _⟩ => ⟨S32, .i1⟩
  | .hbm, ⟨12, _⟩ => ⟨S2048x1024, .f32⟩
  | .hbm, ⟨13, _⟩ => ⟨S1536x1024, .f32⟩
  | .hbm, ⟨14, _⟩ => ⟨S2048x32x1, .f32⟩
  | .hbm, ⟨15, _⟩ => ⟨S2048x32, .f32⟩
  | .hbm, ⟨16, _⟩ => ⟨S2048x32x1, .f32⟩
  | .hbm, ⟨17, _⟩ => ⟨S2048x32, .f32⟩
  | .hbm, ⟨18, _⟩ => ⟨S2048x32x2, .f32⟩
  | .hbm, ⟨19, _⟩ => ⟨S2048x64, .f32⟩
  | .hbm, ⟨20, _⟩ => ⟨S2048x32, .f32⟩
  | .hbm, ⟨21, _⟩ => ⟨S2048x32x1, .f32⟩
  | .hbm, ⟨22, _⟩ => ⟨S2048x32x1, .f32⟩
  | .hbm, ⟨23, _⟩ => ⟨S2048x32x2, .f32⟩
  | .hbm, ⟨24, _⟩ => ⟨S2048x64, .f32⟩
  | .hbm, ⟨25, _⟩ => ⟨S_, .f32⟩
  | .hbm, ⟨26, _⟩ => ⟨S64x64, .f32⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S32, .i32⟩
  | .hbm, ⟨35, _⟩ => ⟨S32x1, .i32⟩
  | .hbm, ⟨36, _⟩ => ⟨S32x1, .i32⟩
  | .hbm, ⟨37, _⟩ => ⟨S32x2, .i32⟩
  | .hbm, ⟨38, _⟩ => ⟨S_, .f32⟩
  | .hbm, ⟨39, _⟩ => ⟨S32, .f32⟩
  | .hbm, ⟨40, _⟩ => ⟨S64x64, .f32⟩
  | .hbm, ⟨41, _⟩ => ⟨S_, .i32⟩
  | .hbm, ⟨42, _⟩ => ⟨S32, .i32⟩
  | .hbm, ⟨43, _⟩ => ⟨S32, .i32⟩
  | .hbm, ⟨44, _⟩ => ⟨S32, .i32⟩
  | .hbm, ⟨45, _⟩ => ⟨S_, .i32⟩
  | .hbm, ⟨46, _⟩ => ⟨S32, .i32⟩
  | .hbm, ⟨47, _⟩ => ⟨S32, .i32⟩
  | .hbm, ⟨48, _⟩ => ⟨S32, .i32⟩
  | .hbm, ⟨49, _⟩ => ⟨S32x1, .i32⟩
  | .hbm, ⟨50, _⟩ => ⟨S32x1, .i32⟩
  | .hbm, ⟨51, _⟩ => ⟨S32x2, .i32⟩
  | .hbm, ⟨52, _⟩ => ⟨S_, .f32⟩
  | .hbm, ⟨53, _⟩ => ⟨S32, .f32⟩
  | .hbm, ⟨54, _⟩ => ⟨S64x64, .f32⟩
  | .hbm, ⟨55, _⟩ => ⟨S2048x1024, .f32⟩
  | .hbm, ⟨56, _⟩ => ⟨S2048x256, .f32⟩
  | .hbm, ⟨57, _⟩ => ⟨S2048x256, .f32⟩
  | .local _ .vmem, ⟨0, _⟩ => ⟨S256x1024, .f32⟩
  | .local _ .vmem, ⟨1, _⟩ => ⟨S256x1024, .f32⟩
  | .local _ .vmem, ⟨2, _⟩ => ⟨S1536x1024, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S64x64, .f32⟩
  | .local _ .vmem, ⟨8, _⟩ => ⟨S256x1024, .f32⟩
  | .local _ .vmem, ⟨9, _⟩ => ⟨S256x1024, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_c_6 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_7 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_c_9 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_10 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_11 : Ref sig .tc := ⟨.hbm, 52, rfl⟩
abbrev main_v34 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev main_v36_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjRefIdeal.lean ====
abbrev S1x2048x1024 : Shape := ⟨3, ![1, 2048, 1024]⟩
abbrev S2048x32x2 : Shape := ⟨3, ![2048, 32, 2]⟩
abbrev S1024x1024 : Shape := ⟨2, ![1024, 1024]⟩
abbrev S256x1024 : Shape := ⟨2, ![256, 1024]⟩
abbrev S1x2048x16x64 : Shape := ⟨4, ![1, 2048, 16, 64]⟩
abbrev S1024x256 : Shape := ⟨2, ![1024, 256]⟩
abbrev S1x2048x256 : Shape := ⟨3, ![1, 2048, 256]⟩
abbrev S1x2048x4x64 : Shape := ⟨4, ![1, 2048, 4, 64]⟩
abbrev S1x2048x16x32x2 : Shape := ⟨5, ![1, 2048, 16, 32, 2]⟩
abbrev S2048x32x1 : Shape := ⟨3, ![2048, 32, 1]⟩
abbrev S2048x32 : Shape := ⟨2, ![2048, 32]⟩
abbrev S1x2048x1x32 : Shape := ⟨4, ![1, 2048, 1, 32]⟩
abbrev S1x2048x16x32x1 : Shape := ⟨5, ![1, 2048, 16, 32, 1]⟩
abbrev S1x2048x16x32 : Shape := ⟨4, ![1, 2048, 16, 32]⟩
abbrev S1x2048x4x32x2 : Shape := ⟨5, ![1, 2048, 4, 32, 2]⟩
abbrev S1x2048x4x32x1 : Shape := ⟨5, ![1, 2048, 4, 32, 1]⟩
abbrev S1x2048x4x32 : Shape := ⟨4, ![1, 2048, 4, 32]⟩
abbrev S2048x1024 : Shape := ⟨2, ![2048, 1024]⟩
abbrev S2048x256 : Shape := ⟨2, ![2048, 256]⟩

abbrev nBuf : Space → Nat
  | .hbm => 75
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S2048x32x2, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S1x2048x1024, .f32⟩
  | .hbm, ⟨7, _⟩ => ⟨S1x2048x16x64, .f32⟩
  | .hbm, ⟨8, _⟩ => ⟨S1024x256, .f32⟩
  | .hbm, ⟨9, _⟩ => ⟨S1x2048x256, .f32⟩
  | .hbm, ⟨10, _⟩ => ⟨S1x2048x4x64, .f32⟩
  | .hbm, ⟨11, _⟩ => ⟨S1024x256, .f32⟩
  | .hbm, ⟨12, _⟩ => ⟨S1x2048x256, .f32⟩
  | .hbm, ⟨13, _⟩ => ⟨S1x2048x4x64, .f32⟩
  | .hbm, ⟨14, _⟩ => ⟨S1x2048x16x32x2, .f32⟩
  | .hbm, ⟨15, _⟩ => ⟨S2048x32x1, .f32⟩
  | .hbm, ⟨16, _⟩ => ⟨S2048x32, .f32⟩
  | .hbm, ⟨17, _⟩ => ⟨S1x2048x1x32, .f32⟩
  | .hbm, ⟨18, _⟩ => ⟨S2048x32x1, .f32⟩
  | .hbm, ⟨19, _⟩ => ⟨S2048x32, .f32⟩
  | .hbm, ⟨20, _⟩ => ⟨S1x2048x1x32, .f32⟩
  | .hbm, ⟨21, _⟩ => ⟨S1x2048x16x32x1, .f32⟩
  | .hbm, ⟨22, _⟩ => ⟨S1x2048x16x32, .f32⟩
  | .hbm, ⟨23, _⟩ => ⟨S1x2048x16x32, .f32⟩
  | .hbm, ⟨24, _⟩ => ⟨S1x2048x16x32, .f32⟩
  | .hbm, ⟨25, _⟩ => ⟨S1x2048x16x32x1, .f32⟩
  | .hbm, ⟨26, _⟩ => ⟨S1x2048x16x32, .f32⟩
  | .hbm, ⟨27, _⟩ => ⟨S1x2048x16x32, .f32⟩
  | .hbm, ⟨28, _⟩ => ⟨S1x2048x16x32, .f32⟩
  | .hbm, ⟨29, _⟩ => ⟨S1x2048x16x32, .f32⟩
  | .hbm, ⟨30, _⟩ => ⟨S1x2048x16x32x1, .f32⟩
  | .hbm, ⟨31, _⟩ => ⟨S1x2048x16x32, .f32⟩
  | .hbm, ⟨32, _⟩ => ⟨S1x2048x16x32, .f32⟩
  | .hbm, ⟨33, _⟩ => ⟨S1x2048x16x32, .f32⟩
  | .hbm, ⟨34, _⟩ => ⟨S1x2048x16x32x1, .f32⟩
  | .hbm, ⟨35, _⟩ => ⟨S1x2048x16x32, .f32⟩
  | .hbm, ⟨36, _⟩ => ⟨S1x2048x16x32, .f32⟩
  | .hbm, ⟨37, _⟩ => ⟨S1x2048x16x32, .f32⟩
  | .hbm, ⟨38, _⟩ => ⟨S1x2048x16x32, .f32⟩
  | .hbm, ⟨39, _⟩ => ⟨S1x2048x16x32x1, .f32⟩
  | .hbm, ⟨40, _⟩ => ⟨S1x2048x16x32x1, .f32⟩
  | .hbm, ⟨41, _⟩ => ⟨S1x2048x16x32x2, .f32⟩
  | .hbm, ⟨42, _⟩ => ⟨S1x2048x16x64, .f32⟩
  | .hbm, ⟨43, _⟩ => ⟨S1x2048x4x32x2, .f32⟩
  | .hbm, ⟨44, _⟩ => ⟨S2048x32x1, .f32⟩
  | .hbm, ⟨45, _⟩ => ⟨S2048x32, .f32⟩
  | .hbm, ⟨46, _⟩ => ⟨S1x2048x1x32, .f32⟩
  | .hbm, ⟨47, _⟩ => ⟨S2048x32x1, .f32⟩
  | .hbm, ⟨48, _⟩ => ⟨S2048x32, .f32⟩
  | .hbm, ⟨49, _⟩ => ⟨S1x2048x1x32, .f32⟩
  | .hbm, ⟨50, _⟩ => ⟨S1x2048x4x32x1, .f32⟩
  | .hbm, ⟨51, _⟩ => ⟨S1x2048x4x32, .f32⟩
  | .hbm, ⟨52, _⟩ => ⟨S1x2048x4x32, .f32⟩
  | .hbm, ⟨53, _⟩ => ⟨S1x2048x4x32, .f32⟩
  | .hbm, ⟨54, _⟩ => ⟨S1x2048x4x32x1, .f32⟩
  | .hbm, ⟨55, _⟩ => ⟨S1x2048x4x32, .f32⟩
  | .hbm, ⟨56, _⟩ => ⟨S1x2048x4x32, .f32⟩
  | .hbm, ⟨57, _⟩ => ⟨S1x2048x4x32, .f32⟩
  | .hbm, ⟨58, _⟩ => ⟨S1x2048x4x32, .f32⟩
  | .hbm, ⟨59, _⟩ => ⟨S1x2048x4x32x1, .f32⟩
  | .hbm, ⟨60, _⟩ => ⟨S1x2048x4x32, .f32⟩
  | .hbm, ⟨61, _⟩ => ⟨S1x2048x4x32, .f32⟩
  | .hbm, ⟨62, _⟩ => ⟨S1x2048x4x32, .f32⟩
  | .hbm, ⟨63, _⟩ => ⟨S1x2048x4x32x1, .f32⟩
  | .hbm, ⟨64, _⟩ => ⟨S1x2048x4x32, .f32⟩
  | .hbm, ⟨65, _⟩ => ⟨S1x2048x4x32, .f32⟩
  | .hbm, ⟨66, _⟩ => ⟨S1x2048x4x32, .f32⟩
  | .hbm, ⟨67, _⟩ => ⟨S1x2048x4x32, .f32⟩
  | .hbm, ⟨68, _⟩ => ⟨S1x2048x4x32x1, .f32⟩
  | .hbm, ⟨69, _⟩ => ⟨S1x2048x4x32x1, .f32⟩
  | .hbm, ⟨70, _⟩ => ⟨S1x2048x4x32x2, .f32⟩
  | .hbm, ⟨71, _⟩ => ⟨S1x2048x4x64, .f32⟩
  | .hbm, ⟨72, _⟩ => ⟨S2048x1024, .f32⟩
  | .hbm, ⟨73, _⟩ => ⟨S2048x256, .f32⟩
  | .hbm, ⟨74, _⟩ => ⟨S2048x256, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩

abbrev nD : Nat := 1
abbrev τ : Topo := Topo.v7x

variable {F : FTy → Type} [FloatOps F]
-- ==== Cmp.lean ====
abbrev S2048x1024 : Shape := ⟨2, ![2048, 1024]⟩
abbrev S2048x256 : Shape := ⟨2, ![2048, 256]⟩
abbrev S2048x16x64 : Shape := ⟨3, ![2048, 16, 64]⟩
abbrev S16x2048x64 : Shape := ⟨3, ![16, 2048, 64]⟩
abbrev S4x4x2048x64 : Shape := ⟨4, ![4, 4, 2048, 64]⟩
abbrev S2048x4x64 : Shape := ⟨3, ![2048, 4, 64]⟩
abbrev S4x2048x64 : Shape := ⟨3, ![4, 2048, 64]⟩
abbrev S128 : Shape := ⟨1, ![128]⟩
abbrev S2048 : Shape := ⟨1, ![2048]⟩
abbrev S1x2048 : Shape := ⟨2, ![1, 2048]⟩
abbrev S128x1 : Shape := ⟨2, ![128, 1]⟩
abbrev S_ : Shape := ⟨0, ![]⟩
abbrev S128x2048 : Shape := ⟨2, ![128, 2048]⟩
abbrev S32 : Shape := ⟨1, ![32]⟩
abbrev S1x32 : Shape := ⟨2, ![1, 32]⟩
abbrev S128x32 : Shape := ⟨2, ![128, 32]⟩
abbrev S4x2048x32 : Shape := ⟨3, ![4, 2048, 32]⟩
abbrev S1x4x2048x64 : Shape := ⟨4, ![1, 4, 2048, 64]⟩
abbrev S1x2048x64 : Shape := ⟨3, ![1, 2048, 64]⟩
abbrev S1x2048x32 : Shape := ⟨3, ![1, 2048, 32]⟩
abbrev S2048x64 : Shape := ⟨2, ![2048, 64]⟩
abbrev S128x64 : Shape := ⟨2, ![128, 64]⟩
abbrev S2048x128 : Shape := ⟨2, ![2048, 128]⟩
abbrev S2048x32 : Shape := ⟨2, ![2048, 32]⟩
abbrev S1x1x2048x64 : Shape := ⟨4, ![1, 1, 2048, 64]⟩
abbrev S2048x1 : Shape := ⟨2, ![2048, 1]⟩

abbrev nBuf : Space → Nat
  | .hbm => 84
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S2048x16x64, .f32⟩
  | .hbm, ⟨4, _⟩ => ⟨S16x2048x64, .f32⟩
  | .hbm, ⟨5, _⟩ => ⟨S4x4x2048x64, .f32⟩
  | .hbm, ⟨6, _⟩ => ⟨S2048x4x64, .f32⟩
  | .hbm, ⟨7, _⟩ => ⟨S4x2048x64, .f32⟩
  | .hbm, ⟨8, _⟩ => ⟨S2048x4x64, .f32⟩
  | .hbm, ⟨9, _⟩ => ⟨S4x2048x64, .f32⟩
  | .hbm, ⟨10, _⟩ => ⟨S128, .i32⟩
  | .hbm, ⟨11, _⟩ => ⟨S2048, .i32⟩
  | .hbm, ⟨12, _⟩ => ⟨S1x2048, .i32⟩
  | .hbm, ⟨13, _⟩ => ⟨S128x1, .i32⟩
  | .hbm, ⟨14, _⟩ => ⟨S_, .i32⟩
  | .hbm, ⟨15, _⟩ => ⟨S128x1, .i32⟩
  | .hbm, ⟨16, _⟩ => ⟨S128x1, .i32⟩
  | .hbm, ⟨17, _⟩ => ⟨S128x2048, .i32⟩
  | .hbm, ⟨18, _⟩ => ⟨S128x2048, .i32⟩
  | .hbm, ⟨19, _⟩ => ⟨S128x2048, .i1⟩
  | .hbm, ⟨20, _⟩ => ⟨S1x2048, .i32⟩
  | .hbm, ⟨21, _⟩ => ⟨S128x1, .i32⟩
  | .hbm, ⟨22, _⟩ => ⟨S_, .i32⟩
  | .hbm, ⟨23, _⟩ => ⟨S128x1, .i32⟩
  | .hbm, ⟨24, _⟩ => ⟨S128x1, .i32⟩
  | .hbm, ⟨25, _⟩ => ⟨S_, .i32⟩
  | .hbm, ⟨26, _⟩ => ⟨S128x1, .i32⟩
  | .hbm, ⟨27, _⟩ => ⟨S128x1, .i32⟩
  | .hbm, ⟨28, _⟩ => ⟨S128x2048, .i32⟩
  | .hbm, ⟨29, _⟩ => ⟨S128x2048, .i32⟩
  | .hbm, ⟨30, _⟩ => ⟨S128x2048, .i1⟩
  | .hbm, ⟨31, _⟩ => ⟨S128x2048, .i1⟩
  | .hbm, ⟨32, _⟩ => ⟨S128x1, .i32⟩
  | .hbm, ⟨33, _⟩ => ⟨S_, .i32⟩
  | .hbm, ⟨34, _⟩ => ⟨S128x1, .i32⟩
  | .hbm, ⟨35, _⟩ => ⟨S128x1, .i1⟩
  | .hbm, ⟨36, _⟩ => ⟨S128x2048, .i1⟩
  | .hbm, ⟨37, _⟩ => ⟨S128x2048, .i1⟩
  | .hbm, ⟨38, _⟩ => ⟨S128x2048, .f32⟩
  | .hbm, ⟨39, _⟩ => ⟨S_, .f32⟩
  | .hbm, ⟨40, _⟩ => ⟨S128x2048, .f32⟩
  | .hbm, ⟨41, _⟩ => ⟨S128x2048, .f32⟩
  | .hbm, ⟨42, _⟩ => ⟨S32, .i32⟩
  | .hbm, ⟨43, _⟩ => ⟨S_, .i32⟩
  | .hbm, ⟨44, _⟩ => ⟨S32, .i32⟩
  | .hbm, ⟨45, _⟩ => ⟨S32, .i32⟩
  | .hbm, ⟨46, _⟩ => ⟨S128x1, .i32⟩
  | .hbm, ⟨47, _⟩ => ⟨S_, .i32⟩
  | .hbm, ⟨48, _⟩ => ⟨S128x1, .i32⟩
  | .hbm, ⟨49, _⟩ => ⟨S128x1, .i32⟩
  | .hbm, ⟨50, _⟩ => ⟨S1x32, .i32⟩
  | .hbm, ⟨51, _⟩ => ⟨S_, .i32⟩
  | .hbm, ⟨52, _⟩ => ⟨S1x32, .i32⟩
  | .hbm, ⟨53, _⟩ => ⟨S1x32, .i32⟩
  | .hbm, ⟨54, _⟩ => ⟨S_, .i32⟩
  | .hbm, ⟨55, _⟩ => ⟨S1x32, .i32⟩
  | .hbm, ⟨56, _⟩ => ⟨S1x32, .i32⟩
  | .hbm, ⟨57, _⟩ => ⟨S128x32, .i32⟩
  | .hbm, ⟨58, _⟩ => ⟨S128x32, .i32⟩
  | .hbm, ⟨59, _⟩ => ⟨S128x32, .i1⟩
  | .hbm, ⟨60, _⟩ => ⟨S128x1, .i32⟩
  | .hbm, ⟨61, _⟩ => ⟨S_, .i32⟩
  | .hbm, ⟨62, _⟩ => ⟨S128x1, .i32⟩
  | .hbm, ⟨63, _⟩ => ⟨S128x1, .i32⟩
  | .hbm, ⟨64, _⟩ => ⟨S_, .i32⟩
  | .hbm, ⟨65, _⟩ => ⟨S128x1, .i32⟩
  | .hbm, ⟨66, _⟩ => ⟨S128x1, .i32⟩
  | .hbm, ⟨67, _⟩ => ⟨S_, .i32⟩
  | .hbm, ⟨68, _⟩ => ⟨S128x1, .i32⟩
  | .hbm, ⟨69, _⟩ => ⟨S128x1, .i32⟩
  | .hbm, ⟨70, _⟩ => ⟨S1x32, .i32⟩
  | .hbm, ⟨71, _⟩ => ⟨S128x32, .i32⟩
  | .hbm, ⟨72, _⟩ => ⟨S128x32, .i32⟩
  | .hbm, ⟨73, _⟩ => ⟨S128x32, .i1⟩
  | .hbm, ⟨74, _⟩ => ⟨S128x32, .i1⟩
  | .hbm, ⟨75, _⟩ => ⟨S128x1, .i32⟩
  | .hbm, ⟨76, _⟩ => ⟨S_, .i32⟩
  | .hbm, ⟨77, _⟩ => ⟨S128x1, .i32⟩
  | .hbm, ⟨78, _⟩ => ⟨S128x1, .i1⟩
  | .hbm, ⟨79, _⟩ => ⟨S128x32, .i1⟩
  | .hbm, ⟨80, _⟩ => ⟨S128x32, .i1⟩
  | .hbm, ⟨81, _⟩ => ⟨S128x32, .f32⟩
  | .hbm, ⟨82, _⟩ => ⟨S4x4x2048x64, .f32⟩
  | .hbm, ⟨83, _⟩ => ⟨S4x2048x32, .f32⟩
  | .local _ .vmem, ⟨0, _⟩ => ⟨S1x4x2048x64, .f32⟩
  | .local _ .vmem, ⟨1, _⟩ => ⟨S1x4x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S128x2048, .f32⟩
  | .local _ .vmem, ⟨7, _⟩ => ⟨S128x32, .f32⟩
  | .local _ .vmem, ⟨8, _⟩ => ⟨S1x4x2048x64, .f32⟩
  | .local _ .vmem, ⟨9, _⟩ => ⟨S1x4x2048x64, .f32⟩
  | .local _ .vmem, ⟨10, _⟩ => ⟨S1x2048x32, .f32⟩
  | .local _ .vmem, ⟨11, _⟩ => ⟨S1x2048x32, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_5 : Ref sig .tc := ⟨.hbm, 51, rfl⟩
abbrev main_v41 : Ref sig .tc := ⟨.hbm, 52, rfl⟩
abbrev main_v42 : Ref sig .tc := ⟨.hbm, 53, rfl⟩
abbrev main_c_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_7 : Ref sig .tc := ⟨.hbm, 61, rfl⟩
abbrev main_v49 : Ref sig .tc := ⟨.hbm, 62, rfl⟩
abbrev main_v50 : Ref sig .tc := ⟨.hbm, 63, rfl⟩
abbrev main_c_8 : Ref sig .tc := ⟨.hbm, 64, rfl⟩
abbrev main_v51 : Ref sig .tc := ⟨.hbm, 65, rfl⟩
abbrev main_v52 : Ref sig .tc := ⟨.hbm, 66, rfl⟩
abbrev main_c_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_10 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66_0 : Ref sig .tc := ⟨.hbm, 82, rfl⟩
abbrev main_v66_1 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CmpIdeal.lean ====
variable {F : FTy → Type} [FloatOps F] [Named F]
def κ : String → Option EReal := fun
  | "mask" => some ⊥
  | _ => none
-- ==== CmpRefIdeal.lean ====
abbrev S2048x1024 : Shape := ⟨2, ![2048, 1024]⟩
abbrev S2048x256 : Shape := ⟨2, ![2048, 256]⟩
abbrev S2048x4x4x64 : Shape := ⟨4, ![2048, 4, 4, 64]⟩
abbrev S4x4x2048x64 : Shape := ⟨4, ![4, 4, 2048, 64]⟩
abbrev S2048x4x64 : Shape := ⟨3, ![2048, 4, 64]⟩
abbrev S4x2048x64 : Shape := ⟨3, ![4, 2048, 64]⟩
abbrev S2048 : Shape := ⟨1, ![2048]⟩
abbrev S127 : Shape := ⟨1, ![127]⟩
abbrev S_ : Shape := ⟨0, ![]⟩
abbrev S127x1 : Shape := ⟨2, ![127, 1]⟩
abbrev S32 : Shape := ⟨1, ![32]⟩
abbrev S1x32 : Shape := ⟨2, ![1, 32]⟩
abbrev S127x32 : Shape := ⟨2, ![127, 32]⟩
abbrev S127x32x1 : Shape := ⟨3, ![127, 32, 1]⟩
abbrev S4x127x32x64 : Shape := ⟨4, ![4, 127, 32, 64]⟩
abbrev S4x127x64 : Shape := ⟨3, ![4, 127, 64]⟩
abbrev S4x4x2048x127 : Shape := ⟨4, ![4, 4, 2048, 127]⟩
abbrev S1x127 : Shape := ⟨2, ![1, 127]⟩
abbrev S2048x1 : Shape := ⟨2, ![2048, 1]⟩
abbrev S2048x127 : Shape := ⟨2, ![2048, 127]⟩
abbrev S1x1x2048x127 : Shape := ⟨4, ![1, 1, 2048, 127]⟩
abbrev S4x4x2048 : Shape := ⟨3, ![4, 4, 2048]⟩
abbrev S4x4x2048x1 : Shape := ⟨4, ![4, 4, 2048, 1]⟩
abbrev S1x1x2048x1 : Shape := ⟨4, ![1, 1, 2048, 1]⟩
abbrev S4x2048x127 : Shape := ⟨3, ![4, 2048, 127]⟩
abbrev S4x2048x32 : Shape := ⟨3, ![4, 2048, 32]⟩
abbrev S2048x32 : Shape := ⟨2, ![2048, 32]⟩
abbrev S1x2048x32 : Shape := ⟨3, ![1, 2048, 32]⟩
abbrev S1x1x32 : Shape := ⟨3, ![1, 1, 32]⟩
abbrev S4x2048x8 : Shape := ⟨3, ![4, 2048, 8]⟩
abbrev S4x2048x8x1 : Shape := ⟨4, ![4, 2048, 8, 1]⟩
abbrev S1x1x1x32 : Shape := ⟨4, ![1, 1, 1, 32]⟩
abbrev S4x2048x8x32 : Shape := ⟨4, ![4, 2048, 8, 32]⟩

abbrev nBuf : Space → Nat
  | .hbm => 175
  | .vmem => 0
  | .smem => 0
  | _ => 0

abbrev hbmTy0_0 (i : Nat) : BufTy := match i % 128 with
  | 0 => ⟨S2048x1024, .f32⟩
  | 1 => ⟨S2048x256, .f32⟩
  | 2 => ⟨S2048x256, .f32⟩
  | 3 => ⟨S2048x4x4x64, .f32⟩
  | 4 => ⟨S4x4x2048x64, .f32⟩
  | 5 => ⟨S2048x4x64, .f32⟩
  | 6 => ⟨S4x2048x64, .f32⟩
  | 7 => ⟨S2048x4x64, .f32⟩
  | 8 => ⟨S4x2048x64, .f32⟩
  | 9 => ⟨S2048, .i32⟩
  | 10 => ⟨S127, .i32⟩
  | 11 => ⟨S_, .i32⟩
  | 12 => ⟨S127, .i32⟩
  | 13 => ⟨S127, .i32⟩
  | 14 => ⟨S_, .i32⟩
  | 15 => ⟨S127, .i32⟩
  | 16 => ⟨S127, .i32⟩
  | 17 => ⟨S_, .i32⟩
  | 18 => ⟨S127, .i32⟩
  | 19 => ⟨S127, .i32⟩
  | 20 => ⟨S_, .i32⟩
  | 21 => ⟨S127, .i32⟩
  | 22 => ⟨S127, .i32⟩
  | 23 => ⟨S127x1, .i32⟩
  | 24 => ⟨S32, .i32⟩
  | 25 => ⟨S1x32, .i32⟩
  | 26 => ⟨S127x32, .i32⟩
  | 27 => ⟨S127x32, .i32⟩
  | 28 => ⟨S127x32, .i32⟩
  | 29 => ⟨S_, .i32⟩
  | 30 => ⟨S127x32, .i32⟩
  | 31 => ⟨S127x32, .i1⟩
  | 32 => ⟨S_, .i32⟩
  | 33 => ⟨S127x32, .i32⟩
  | 34 => ⟨S127x32, .i32⟩
  | 35 => ⟨S127x32, .i32⟩
  | 36 => ⟨S127x32x1, .i32⟩
  | 37 => ⟨S4x127x32x64, .f32⟩
  | 38 => ⟨S_, .f32⟩
  | 39 => ⟨S4x127x64, .f32⟩
  | 40 => ⟨S_, .f32⟩
  | 41 => ⟨S4x127x64, .f32⟩
  | 42 => ⟨S4x127x64, .f32⟩
  | 43 => ⟨S_, .i32⟩
  | 44 => ⟨S127x32, .i32⟩
  | 45 => ⟨S127x32, .i1⟩
  | 46 => ⟨S_, .i32⟩
  | 47 => ⟨S127x32, .i32⟩
  | 48 => ⟨S127x32, .i32⟩
  | 49 => ⟨S127x32, .i32⟩
  | 50 => ⟨S127x32x1, .i32⟩
  | 51 => ⟨S4x127x32x64, .f32⟩
  | 52 => ⟨S_, .f32⟩
  | 53 => ⟨S4x127x64, .f32⟩
  | 54 => ⟨S_, .f32⟩
  | 55 => ⟨S4x127x64, .f32⟩
  | 56 => ⟨S4x127x64, .f32⟩
  | 57 => ⟨S4x4x2048x127, .f32⟩
  | 58 => ⟨S_, .f32⟩
  | 59 => ⟨S4x4x2048x127, .f32⟩
  | 60 => ⟨S4x4x2048x127, .f32⟩
  | 61 => ⟨S1x127, .i32⟩
  | 62 => ⟨S2048x1, .i32⟩
  | 63 => ⟨S2048x127, .i32⟩
  | 64 => ⟨S2048x127, .i32⟩
  | 65 => ⟨S2048x127, .i1⟩
  | 66 => ⟨S1x1x2048x127, .i1⟩
  | 67 => ⟨S_, .f32⟩
  | 68 => ⟨S_, .f32⟩
  | 69 => ⟨S4x4x2048x127, .i1⟩
  | 70 => ⟨S4x4x2048x127, .f32⟩
  | 71 => ⟨S4x4x2048x127, .f32⟩
  | 72 => ⟨S_, .f32⟩
  | 73 => ⟨S4x4x2048, .f32⟩
  | 74 => ⟨S_, .f32⟩
  | 75 => ⟨S4x4x2048, .f32⟩
  | 76 => ⟨S4x4x2048, .f32⟩
  | 77 => ⟨S4x4x2048x1, .f32⟩
  | 78 => ⟨S4x4x2048x127, .f32⟩
  | 79 => ⟨S4x4x2048x127, .f32⟩
  | 80 => ⟨S4x4x2048x127, .f32⟩
  | 81 => ⟨S_, .f32⟩
  | 82 => ⟨S4x4x2048, .f32⟩
  | 83 => ⟨S4x4x2048x1, .f32⟩
  | 84 => ⟨S4x4x2048x127, .f32⟩
  | 85 => ⟨S4x4x2048x127, .f32⟩
  | 86 => ⟨S_, .i1⟩
  | 87 => ⟨S2048, .i1⟩
  | 88 => ⟨S1x1x2048x1, .i1⟩
  | 89 => ⟨S_, .f32⟩
  | 90 => ⟨S_, .f32⟩
  | 91 => ⟨S4x4x2048x127, .i1⟩
  | 92 => ⟨S4x4x2048x127, .f32⟩
  | 93 => ⟨S4x4x2048x127, .f32⟩
  | 94 => ⟨S4x4x2048x64, .f32⟩
  | 95 => ⟨S32, .i32⟩
  | 96 => ⟨S_, .i32⟩
  | 97 => ⟨S32, .i32⟩
  | 98 => ⟨S32, .i32⟩
  | 99 => ⟨S_, .i32⟩
  | 100 => ⟨S32, .i32⟩
  | 101 => ⟨S32, .i32⟩
  | 102 => ⟨S_, .i32⟩
  | 103 => ⟨S32, .i32⟩
  | 104 => ⟨S32, .i32⟩
  | 105 => ⟨S127x1, .i32⟩
  | 106 => ⟨S1x32, .i32⟩
  | 107 => ⟨S127x32, .i32⟩
  | 108 => ⟨S127x32, .i32⟩
  | 109 => ⟨S127x32, .i1⟩
  | 110 => ⟨S127x1, .i32⟩
  | 111 => ⟨S1x32, .i32⟩
  | 112 => ⟨S127x32, .i32⟩
  | 113 => ⟨S127x32, .i32⟩
  | 114 => ⟨S127x32, .i1⟩
  | 115 => ⟨S127x32, .i1⟩
  | 116 => ⟨S127x32, .f32⟩
  | 117 => ⟨S_, .f32⟩
  | 118 => ⟨S4x2048x127, .f32⟩
  | 119 => ⟨S4x2048x32, .f32⟩
  | 120 => ⟨S_, .i32⟩
  | 121 => ⟨S_, .i32⟩
  | 122 => ⟨S2048, .i32⟩
  | 123 => ⟨S2048, .i32⟩
  | 124 => ⟨S2048, .i32⟩
  | 125 => ⟨S_, .i32⟩
  | 126 => ⟨S2048, .i32⟩
  | 127 => ⟨S2048, .i1⟩
  | _ => ⟨S2048x1024, .f32⟩

abbrev hbmTy0_1 (i : Nat) : BufTy := match i % 128 with
  | 0 => ⟨S2048, .i32⟩
  | 1 => ⟨S2048, .i32⟩
  | 2 => ⟨S_, .i32⟩
  | 3 => ⟨S2048, .i32⟩
  | 4 => ⟨S2048, .i1⟩
  | 5 => ⟨S2048, .i1⟩
  | 6 => ⟨S_, .i32⟩
  | 7 => ⟨S2048, .i32⟩
  | 8 => ⟨S2048, .i32⟩
  | 9 => ⟨S2048, .i32⟩
  | 10 => ⟨S2048x1, .i32⟩
  | 11 => ⟨S1x32, .i32⟩
  | 12 => ⟨S2048x32, .i32⟩
  | 13 => ⟨S2048x32, .i32⟩
  | 14 => ⟨S2048x32, .i1⟩
  | 15 => ⟨S2048x32, .f32⟩
  | 16 => ⟨S32, .i32⟩
  | 17 => ⟨S_, .i32⟩
  | 18 => ⟨S32, .i32⟩
  | 19 => ⟨S32, .i1⟩
  | 20 => ⟨S32, .f32⟩
  | 21 => ⟨S1x2048x32, .f32⟩
  | 22 => ⟨S_, .f32⟩
  | 23 => ⟨S1x2048x32, .f32⟩
  | 24 => ⟨S1x2048x32, .f32⟩
  | 25 => ⟨S4x2048x32, .f32⟩
  | 26 => ⟨S4x2048x32, .f32⟩
  | 27 => ⟨S1x1x32, .f32⟩
  | 28 => ⟨S_, .f32⟩
  | 29 => ⟨S1x1x32, .f32⟩
  | 30 => ⟨S1x1x32, .f32⟩
  | 31 => ⟨S4x2048x32, .f32⟩
  | 32 => ⟨S4x2048x32, .f32⟩
  | 33 => ⟨S4x2048x8, .f32⟩
  | 34 => ⟨S4x2048x8, .i32⟩
  | 35 => ⟨S4x2048x8x1, .i32⟩
  | 36 => ⟨S1x1x1x32, .i32⟩
  | 37 => ⟨S4x2048x8x32, .i32⟩
  | 38 => ⟨S4x2048x8x32, .i32⟩
  | 39 => ⟨S4x2048x8x32, .i1⟩
  | 40 => ⟨S4x2048x8x32, .f32⟩
  | 41 => ⟨S_, .f32⟩
  | 42 => ⟨S4x2048x32, .f32⟩
  | 43 => ⟨S_, .f32⟩
  | 44 => ⟨S4x2048x32, .f32⟩
  | 45 => ⟨S4x2048x32, .i1⟩
  | 46 => ⟨S4x2048x32, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_15 : Ref sig .tc := ⟨.hbm, 86, rfl⟩
abbrev main_v63 : Ref sig .tc := ⟨.hbm, 87, rfl⟩
abbrev main_v64 : Ref sig .tc := ⟨.hbm, 88, rfl⟩
abbrev main_cst_16 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_17 : Ref sig .tc := ⟨.hbm, 96, rfl⟩
abbrev main_v68 : Ref sig .tc := ⟨.hbm, 97, rfl⟩
abbrev main_v69 : Ref sig .tc := ⟨.hbm, 98, rfl⟩
abbrev main_c_18 : Ref sig .tc := ⟨.hbm, 99, rfl⟩
abbrev main_v70 : Ref sig .tc := ⟨.hbm, 100, rfl⟩
abbrev main_v71 : Ref sig .tc := ⟨.hbm, 101, rfl⟩
abbrev main_c_19 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_20 : Ref sig .tc := ⟨.hbm, 117, rfl⟩
abbrev main_v86 : Ref sig .tc := ⟨.hbm, 118, rfl⟩
abbrev main_v87 : Ref sig .tc := ⟨.hbm, 119, rfl⟩
abbrev main_c_21 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_call2_v5 : Ref sig .tc := ⟨.hbm, 126, rfl⟩
abbrev main_call2_v6 : Ref sig .tc := ⟨.hbm, 127, rfl⟩
abbrev main_call2_v7 : Ref sig .tc := ⟨.hbm, 128, rfl⟩
abbrev main_call2_v8 : Ref sig .tc := ⟨.hbm, 129, rfl⟩
abbrev main_call2_c : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_c_0 : Ref sig .tc := ⟨.hbm, 134, rfl⟩
abbrev main_call2_v12 : Ref sig .tc := ⟨.hbm, 135, rfl⟩
abbrev main_call2_v13 : Ref sig .tc := ⟨.hbm, 136, rfl⟩
abbrev main_v88 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_v89 : Ref sig .tc := ⟨.hbm, 143, rfl⟩
abbrev main_v90 : Ref sig .tc := ⟨.hbm, 144, rfl⟩
abbrev main_c_22 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_23 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_cst_24 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_values : Ref sig .tc := ⟨.hbm, 161, rfl⟩
abbrev main_indices : Ref sig .tc := ⟨.hbm, 162, rfl⟩
abbrev main_call4_v0 : Ref sig .tc := ⟨.hbm, 163, rfl⟩
abbrev main_call4_v1 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_v104 : Ref sig .tc := ⟨.hbm, 168, rfl⟩
abbrev main_cst_25 : Ref sig .tc := ⟨.hbm, 169, rfl⟩
abbrev main_v105 : Ref sig .tc := ⟨.hbm, 170, rfl⟩
abbrev main_cst_26 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩

abbrev nD : Nat := 1
abbrev τ : Topo := Topo.v7x

variable {F : FTy → Type} [FloatOps F]
-- ==== Proof.FlashIdealBody.lean ====
/-
  The body of `FlashIdeal`'s call at any floats: what one grid point computes as a function of the blocks it reads
  (`out`), the four loops as folds of one trip's step, and the body's triple.
-/
module

public import proofs.«01_k».proof.Proof.Gen.FlashIdeal.Frame
public import proofs.«01_k».proof.Proof.Gen.FlashIdeal.Loops

@[expose] public section

set_option maxRecDepth 16384

noncomputable section

namespace Cert.Proof.FlashIdeal

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! ## What one trip does -/

/-- The carried value of the selection-only loops: a running maximum, a running sum, an accumulator. -/
abbrev C3 (F : FTy → Type) : Type := FVec F S256x1 .f32 × FVec F S256x1 .f32 × FVec F S256x64 .f32
/-- The carried value of the loops that also serve the window: two such triples. -/
abbrev C6 (F : FTy → Type) : Type :=
  FVec F S256x1 .f32 × FVec F S256x1 .f32 × FVec F S256x64 .f32 × FVec F S256x1 .f32 × FVec F S256x1 .f32 × FVec F S256x64 .f32

/-- The rows of keys and of values trip `k` of the first loop reads. -/
abbrev rc1 (i : grid0.Coords) (k : Fin (k0_t1_loop i).trips) : Rect S1x2048x64 :=
  Rect.unit (s := S1x2048x64) (k0_off1 i k) S1x64x64.size (k0_off1_inb i k)
/-- The rows of keys and of values trip `k` of the third loop reads. -/
abbrev rc3 (i : grid0.Coords) (k : Fin (k0_t3_loop i).trips) : Rect S1x2048x64 :=
  Rect.unit (s := S1x2048x64) (k0_off3 i k) S1x64x64.size (k0_off3_inb i k)

/-- Whether any row of the block has the trip's key block selected. -/
def need (i : grid0.Coords) (v4 : FVec F S256x32 .f32) (v9 : IVec S256x32 32) (k : Fin (k0_t1_loop i).trips) : BitVec 1 :=
  Scalar.cmpi .ne (Scalar.extui (Scalar.cmpf .ogt (k0_pay47 i v4 v9 k) (Scalar.ofBits .f32 0x3F000000#32)) : BitVec 32) 0#32

/-- One trip of the first loop on a block it needs. -/
def hit1 (i : grid0.Coords) (v2 : FVec F S256x64 .f32) (v4 : FVec F S256x32 .f32) (v5 v8 : IVec S256x64 32) (v9 : IVec S256x32 32)
    (x3 x4 : Vec F S1x2048x64 .f32) (k : Fin (k0_t1_loop i).trips) (a : C3 F) : C3 F :=
  (k0_pay5 v2 v4 v5 v8 v9 a.1 (Scf.iv 0#32 1#32 k) (View.ld x3 (rc1 i k)),
   k0_pay8 v2 v4 v5 v8 v9 a.1 a.2.1 (Scf.iv 0#32 1#32 k) (View.ld x3 (rc1 i k)),
   k0_pay48 (k0_pay2 (View.ld x4 (rc1 i k))) (k0_pay6 v2 v4 v5 v8 v9 a.1 (Scf.iv 0#32 1#32 k) (View.ld x3 (rc1 i k)))
     (k0_pay9 v2 v4 v5 v8 v9 a.1 a.2.2 (Scf.iv 0#32 1#32 k) (View.ld x3 (rc1 i k))) (constant S256x64 .f32 0x00000000#32))

/-- One trip of the first loop. -/
def step1 (i : grid0.Coords) (v2 : FVec F S256x64 .f32) (v4 : FVec F S256x32 .f32) (v5 v8 : IVec S256x64 32) (v9 : IVec S256x32 32)
    (x3 x4 : Vec F S1x2048x64 .f32) (k : Fin (k0_t1_loop i).trips) (a : C3 F) : C3 F :=
  if need i v4 v9 k = 1#1 then hit1 i v2 v4 v5 v8 v9 x3 x4 k a else a

/-- One trip of the third loop. -/
def step3 (i : grid0.Coords) (v2 : FVec F S256x64 .f32) (v4 : FVec F S256x32 .f32) (v5 v8 : IVec S256x64 32) (v9 : IVec S256x32 32)
    (v52 : BitVec 32) (x3 x4 : Vec F S1x2048x64 .f32) (k : Fin (k0_t3_loop i).trips) (a : C6 F) : C6 F :=
  (k0_pay23 i v2 v4 v5 v8 v9 v52 1#32 k a.1 (View.ld x3 (rc3 i k)),
   k0_pay26 i v2 v4 v5 v8 v9 v52 1#32 k a.1 a.2.1 (View.ld x3 (rc3 i k)),
   k0_pay51 (k0_pay18 (View.ld x4 (rc3 i k))) (k0_pay24 i v2 v4 v5 v8 v9 v52 1#32 k a.1 (View.ld x3 (rc3 i k)))
     (k0_pay27 i v2 v4 v5 v8 v9 v52 1#32 k a.1 a.2.2.1 (View.ld x3 (rc3 i k))),
   k0_pay53 v8 a.2.2.2.1 (k0_pay19 v2 (View.ld x3 (rc3 i k))) (k0_pay20 i v5 v52 1#32 k) (k0_pay21 i v5 v8 v52 1#32 k),
   k0_pay56 v8 a.2.2.2.1 a.2.2.2.2.1 (k0_pay19 v2 (View.ld x3 (rc3 i k))) (k0_pay20 i v5 v52 1#32 k) (k0_pay21 i v5 v8 v52 1#32 k),
   k0_pay57 v8 a.2.2.2.1 a.2.2.2.2.2 (k0_pay18 (View.ld x4 (rc3 i k))) (k0_pay19 v2 (View.ld x3 (rc3 i k)))
     (k0_pay20 i v5 v52 1#32 k) (k0_pay21 i v5 v8 v52 1#32 k))

/-- The carried value before trip `k` of a loop of `n` trips, from the initial one. -/
def iter {α : Type} {n : ℕ} (f : Fin n → α → α) (a : α) : ℕ → α
  | 0 => a
  | k + 1 => if h : k < n then f ⟨k, h⟩ (iter f a k) else iter f a k

theorem iter_succ {α : Type} {n : ℕ} (f : Fin n → α → α) (a : α) (k : Fin n) : iter f a (k.val + 1) = f k (iter f a k.val) := by
  rw [iter]; exact dif_pos k.isLt

/-! ## The loops' trip counts -/

/-- The second loop has no trip: the first one ends where it does. -/
theorem trips2 (i : grid0.Coords) : (k0_t2_loop i).trips = 0 := by
  have h : ∀ j : Fin 8, ∀ g : Fin 16, (k0_t2_loop (fun a => match a with | ⟨0, _⟩ => g | ⟨1, _⟩ => j)).trips = 0 := by decide +kernel
  have := h (i 1) (i 0)
  convert this using 2

/-- The fourth loop has no trip: the third one ends where it does. -/
theorem trips4 (i : grid0.Coords) : (k0_t4_loop i).trips = 0 := by
  have h : ∀ j : Fin 8, ∀ g : Fin 16, (k0_t4_loop (fun a => match a with | ⟨0, _⟩ => g | ⟨1, _⟩ => j)).trips = 0 := by decide +kernel
  have := h (i 1) (i 0)
  convert this using 2

/-! ## The loops -/

section Loops

variable (c : Dev nD) (i : grid0.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x256x32 .f32) (harg5 : arg5.IsWhole) (arg6 : Memref sig .tc .vmem S1x256x64 .f32) (harg6 : arg6.IsWhole) (arg7 : Memref sig .tc .vmem S64x128 .f32) (harg7 : arg7.IsWhole) (arg8 : Memref sig .tc .vmem S1x256x64 .f32) (harg8 : arg8.IsWhole)
  (v2 : FVec F S256x64 .f32) (v4 : FVec F S256x32 .f32) (v5 : IVec S256x64 32) (v8 : IVec S256x64 32) (v9 : IVec S256x32 32) (v10 : FVec F S256x1 .f32) (v11 : FVec F S256x1 .f32) (v12 : FVec F S256x64 .f32) (v13 : FVec F S256x1 .f32) (v14 : FVec F S256x1 .f32) (v15 : FVec F S256x64 .f32) (v33 : BitVec 32) (v34 : BitVec 32) (c0_i32_15 : BitVec 32)

/-- What a trip touches: the keys' and the values' buffers, read. -/
abbrev KV (X3 : BufTy.Contents (Elt F) arg3.view.ty) (X4 : BufTy.Contents (Elt F) arg4.view.ty) : sProp 𝕄 :=
  iprop((arg3.view.loc (c : Thread nD τ) ↦[arg3.view.set]{fullShare} X3) ∗ (arg4.view.loc (c : Thread nD τ) ↦[arg4.view.set]{fullShare} X4))

set_option maxHeartbeats 4000000 in
/-- One trip of the first loop computes `step1` of the carried value. -/
theorem trip1 (X3 : BufTy.Contents (Elt F) arg3.view.ty) (X4 : BufTy.Contents (Elt F) arg4.view.ty) (k : Fin (k0_t1_loop i).trips) (acc : C3 F) :
    KV (F := F) c arg3 arg4 X3 X4
      ⊢ wp frame (wpE (defs₀ (F := F)) Variants.none (c : Thread nD τ) none) Set.univ
          (k0_t1_body (F := F) i arg2 harg2 arg3 harg3 arg4 harg4 arg5 harg5 arg6 harg6 arg7 harg7 arg8 harg8 v2 v4 v5 v8 v9 v10 v11 v12 v13 v14 v15 v33 v34 c0_i32_15 k acc)
          (fun y => iprop(⌜y = step1 i v2 v4 v5 v8 v9 (arg3.view.read (Elt F) X3) (arg4.view.read (Elt F) X4) k acc⌝ ∗ KV (F := F) c arg3 arg4 X3 X4)) := by
  unfold step1
  by_cases hn : need i v4 v9 k = 1#1
  · rw [if_pos hn]
    have hn' : Scalar.cmpi .ne (Scalar.extui (Scalar.cmpf .ogt (k0_pay47 i v4 v9 k) (FloatOps.ofBits .f32 0x3F000000#32)) : BitVec 32) 0#32 = 1#1 := hn
    unfold k0_t1_body
    iintro ⟨H3, H4⟩
    sl_exec
    sl_step
    isplitr
    · ipureintro; rfl
    isplitl [H3]; · iexact H3
    iexact H4
  · rw [if_neg hn]
    have hn' : ¬ (Scalar.cmpi .ne (Scalar.extui (Scalar.cmpf .ogt (k0_pay47 i v4 v9 k) (FloatOps.ofBits .f32 0x3F000000#32)) : BitVec 32) 0#32 = 1#1) := hn
    unfold k0_t1_body
    iintro ⟨H3, H4⟩
    sl_exec
    sl_step
    isplitr
    · ipureintro; rfl
    isplitl [H3]; · iexact H3
    iexact H4

set_option warn.classDefReducibility false in
/-- The first loop's invariant: the keys and values as they are, the carried value the fold of `step1`. -/
@[sl_loop] def loopInv1 (X3 : BufTy.Contents (Elt F) arg3.view.ty) (X4 : BufTy.Contents (Elt F) arg4.view.ty) (init : C3 F) :
    LoopInvTy_k0_t1 (F := F) Unit ℕ (UR sig nD τ) ℕ Variants.none c none Set.univ i arg2 harg2 arg3 harg3 arg4 harg4 arg5 harg5 arg6 harg6 arg7 harg7 arg8 harg8 v2 v4 v5 v8 v9 v10 v11 v12 v13 v14 v15 v33 v34 c0_i32_15 init where
  inv k acc := iprop((arg3.view.loc (c : Thread nD τ) ↦[arg3.view.set]{fullShare} X3) ∗ (arg4.view.loc (c : Thread nD τ) ↦[arg4.view.set]{fullShare} X4)
    ∗ ⌜acc = iter (step1 i v2 v4 v5 v8 v9 (arg3.view.read (Elt F) X3) (arg4.view.read (Elt F) X4)) init k⌝)
  step k acc := by
    iintro ⟨H3, H4, %h⟩
    subst h
    iapply (wp_wand_r Idealize.ShloMosaic.frame (wpE (defs₀ (F := F)) Variants.none (c : Thread nD τ) none) Set.univ)
    isplitl [H3 H4]
    · iapply (trip1 (F := F) c i arg2 harg2 arg3 harg3 arg4 harg4 arg5 harg5 arg6 harg6 arg7 harg7 arg8 harg8 v2 v4 v5 v8 v9 v10 v11 v12 v13 v14 v15 v33 v34 c0_i32_15 X3 X4 k _)
      isplitl [H3]; · iexact H3
      iexact H4
    · iintro %y ⟨%hy, H3, H4⟩
      isplitl [H3]; · iexact H3
      isplitl [H4]; · iexact H4
      ipureintro; rw [hy, iter_succ]

set_option warn.classDefReducibility false in
/-- The second loop's invariant, whatever the trip, as there is none. -/
@[sl_loop] def loopInv2 (v57 : BitVec 32) (X3 : BufTy.Contents (Elt F) arg3.view.ty) (X4 : BufTy.Contents (Elt F) arg4.view.ty) (init : C3 F) :
    LoopInvTy_k0_t2 (F := F) Unit ℕ (UR sig nD τ) ℕ Variants.none c none Set.univ i arg2 harg2 arg3 harg3 arg4 harg4 arg5 harg5 arg6 harg6 arg7 harg7 arg8 harg8 v2 v4 v5 v8 v9 v10 v11 v12 v13 v14 v15 v33 v34 c0_i32_15 v57 init where
  inv _ acc := iprop((arg3.view.loc (c : Thread nD τ) ↦[arg3.view.set]{fullShare} X3) ∗ (arg4.view.loc (c : Thread nD τ) ↦[arg4.view.set]{fullShare} X4) ∗ ⌜acc = init⌝)
  step k _ := (Nat.not_lt_zero _ (Nat.lt_of_lt_of_eq k.isLt (trips2 i))).elim

/-- One trip of the third loop computes `step3` of the carried value. -/
theorem tripR3 (v52 : BitVec 32) (X3 : BufTy.Contents (Elt F) arg3.view.ty) (X4 : BufTy.Contents (Elt F) arg4.view.ty) (k : Fin (k0_t3_loop i).trips) (acc : C6 F) :
    tripR_k0_t3 (F := F) Variants.none c none i arg2 harg2 arg3 harg3 arg4 harg4 arg5 harg5 arg6 harg6 arg7 harg7 arg8 harg8 v2 v4 v5 v8 v9 v10 v11 v12 v13 v14 v15 v33 v34 c0_i32_15 v52 X3 X4 k acc
      = step3 i v2 v4 v5 v8 v9 v52 (arg3.view.read (Elt F) X3) (arg4.view.read (Elt F) X4) k acc := by
  unfold tripR_k0_t3 trip_k0_t3
  rfl

/-- The carried value of the third loop is the fold of `step3`. -/
theorem st3 (v52 : BitVec 32) (X3 : BufTy.Contents (Elt F) arg3.view.ty) (X4 : BufTy.Contents (Elt F) arg4.view.ty) (init : C6 F) (n : ℕ) :
    st_k0_t3 (F := F) Variants.none c none i arg2 harg2 arg3 harg3 arg4 harg4 arg5 harg5 arg6 harg6 arg7 harg7 arg8 harg8 v2 v4 v5 v8 v9 v10 v11 v12 v13 v14 v15 v33 v34 c0_i32_15 v52 X3 X4 init n
      = iter (step3 i v2 v4 v5 v8 v9 v52 (arg3.view.read (Elt F) X3) (arg4.view.read (Elt F) X4)) init n := by
  induction n with
  | zero => rfl
  | succ n ih =>
    rw [st_k0_t3.eq_2, ih]; unfold st_k0_t3Step; rw [iter]
    split
    · exact tripR3 ..
    · rfl

/-- The fourth loop hands on what it was handed. -/
theorem st4 (v64 : BitVec 32) (X3 : BufTy.Contents (Elt F) arg3.view.ty) (X4 : BufTy.Contents (Elt F) arg4.view.ty) (init : C6 F) :
    st_k0_t4 (F := F) Variants.none c none i arg2 harg2 arg3 harg3 arg4 harg4 arg5 harg5 arg6 harg6 arg7 harg7 arg8 harg8 v2 v4 v5 v8 v9 v10 v11 v12 v13 v14 v15 v33 v34 c0_i32_15 v64 X3 X4 init
      (Scf.trips (k0_t4_loop i).lb (k0_t4_loop i).ub (k0_t4_loop i).st) = init := by
  rw [show Scf.trips (k0_t4_loop i).lb (k0_t4_loop i).ub (k0_t4_loop i).st = 0 from trips4 i]; rfl

end Loops

/-! ## What the body leaves -/

/-- The word of the lower bound of the loop over the window's blocks. -/
def w52 (i : grid0.Coords) : BitVec 32 := (k0_t3_loop i).lb

theorem w52_eq (i : grid0.Coords) : w52 i = (k0_t3_loop i).lb := rfl

/-- The result of the first loop. -/
def res1 (i : grid0.Coords) (x0 : Vec F S1x256x64 .f32) (x1 x2 : Vec F S1x2048x64 .f32) (x3 : Vec F S1x256x32 .f32) : C3 F :=
  iter (step1 i (k0_pay38 x0) (k0_pay39 x3) (iota .tc S256x64 32 [1] iota_S256x64_d1_w32) (k0_pay40 i) (iota .tc S256x32 32 [1] iota_S256x32_d1_w32) x1 x2)
    (k0_pay41, k0_pay42, k0_pay43) (k0_t1_loop i).trips

/-- The result of the third loop. -/
def res3 (i : grid0.Coords) (x0 : Vec F S1x256x64 .f32) (x1 x2 : Vec F S1x2048x64 .f32) (x3 : Vec F S1x256x32 .f32) : C6 F :=
  iter (step3 i (k0_pay38 x0) (k0_pay39 x3) (iota .tc S256x64 32 [1] iota_S256x64_d1_w32) (k0_pay40 i) (iota .tc S256x32 32 [1] iota_S256x32_d1_w32) (w52 i) x1 x2)
    ((res1 i x0 x1 x2 x3).1, (res1 i x0 x1 x2 x3).2.1, (res1 i x0 x1 x2 x3).2.2, k0_pay44, k0_pay45, k0_pay46) (k0_t3_loop i).trips

/-- The block of results a grid point computes from the blocks it reads. -/
def val (i : grid0.Coords) (x0 : Vec F S1x256x64 .f32) (x1 x2 : Vec F S1x2048x64 .f32) (x3 : Vec F S1x256x32 .f32)
    (x4 : Vec F S1x256x64 .f32) (x5 : Vec F S64x128 .f32) : Vec F S1x256x64 .f32 :=
  k0_pay1 (k0_pay38 x0) (k0_pay65 (res3 i x0 x1 x2 x3).2.1 (res3 i x0 x1 x2 x3).2.2.1)
    (k0_pay66 (res3 i x0 x1 x2 x3).2.2.2.2.1 (res3 i x0 x1 x2 x3).2.2.2.2.2) (k0_pay67 x5) x4

/-- The block written, a store of the whole block. -/
abbrev rO : Rect S1x256x64 := Rect.unit (s := S1x256x64) ![0, 0, 0] S1x256x64.size inb_S1x256x64_S1x256x64_0_0_0
abbrev rS : Rect S1x256x32 := Rect.unit (s := S1x256x32) ![0, 0, 0] S1x256x32.size inb_S1x256x32_S1x256x32_0_0_0
abbrev rG : Rect S64x128 := Rect.unit (s := S64x128) ![0, 0] S64x128.size inb_S64x128_S64x128_0_0

/-- The output's staging buffer after the body. -/
def out (i : grid0.Coords) (x0 : Vec F S1x256x64 .f32) (x1 x2 : Vec F S1x2048x64 .f32) (x3 : Vec F S1x256x32 .f32)
    (x4 : Vec F S1x256x64 .f32) (x5 : Vec F S64x128 .f32) : Vec F S1x256x64 .f32 :=
  View.canon [⟨rO, val i (View.ld x0 rO) x1 x2 (View.ld x3 rS) (View.ld x4 rO) (View.ld x5 rG)⟩]

theorem cover (p0 : Vec F S1x256x64 .f32) (y : S1x256x64.Idx) : ∃ pc ∈ ([⟨rO, p0⟩] : List (View.Piece (Elt F) S1x256x64 .f32)), y ∈ pc.1.set :=
  View.cover_of_tiled [⟨rO, p0⟩] S1x256x64.size (by rfl) y

attribute [local irreducible] step1 step3 w52

set_option maxHeartbeats 2000000 in
/-- The body on whole staging buffers: the inputs as they were, the output at `out` of them. -/
theorem sound_kernel (c : Dev nD) (i : grid0.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x256x32 .f32) (harg5 : arg5.IsWhole) (arg6 : Memref sig .tc .vmem S1x256x64 .f32) (harg6 : arg6.IsWhole) (arg7 : Memref sig .tc .vmem S64x128 .f32) (harg7 : arg7.IsWhole) (arg8 : Memref sig .tc .vmem S1x256x64 .f32) (harg8 : arg8.IsWhole)
    (x0 : Vec F S1x256x64 .f32) (x1 x2 : Vec F S1x2048x64 .f32) (x3 : Vec F S1x256x32 .f32) (x4 : Vec F S1x256x64 .f32) (x5 : Vec F S64x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out i x0 x1 x2 x3 x4 x5)) -∗ K ⟨⟩))
      ⊢ wp frame (wpE (defs₀ (F := F)) Variants.none c none) Set.univ (cc0__flash_kernel i arg2 harg2 arg3 harg3 arg4 harg4 arg5 harg5 arg6 harg6 arg7 harg7 arg8 harg8) K := by
  simp only [cc0__flash_kernel_eq_skeleton]; unfold cc0__flash_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover _)).trans ?_
  unfold out val
  have e0 : sound_kernel.sl.r c arg2 f0 = k0_pay38 (View.ld (View.read (Elt F) arg2.view f0) rO) := rfl
  have e1 : sound_kernel.sl.r_1 c arg5 f3 = k0_pay39 (View.ld (View.read (Elt F) arg5.view f3) rS) := rfl
  have e2 : sound_kernel.sl.v5 = iota .tc S256x64 32 [1] iota_S256x64_d1_w32 := rfl
  have e3 : sound_kernel.sl.v9 = iota .tc S256x32 32 [1] iota_S256x32_d1_w32 := rfl
  have e4 : sound_kernel.sl.v52 i = w52 i := (w52_eq i).symm
  have e5 : sound_kernel.sl.r_4 c arg7 f5 = k0_pay67 (View.ld (View.read (Elt F) arg7.view f5) rG) := rfl
  unfold sound_kernel.sl.r_2 sound_kernel.sl.r_3
  rw [st4, st3, e0, e1, e2, e3, e4, e5]
  unfold res3 res1
  rfl

end Cert.Proof.FlashIdeal

end
-- ==== Proof.FlashMath.lean ====
/-
  The mathematics of the blockwise softmax on extended reals: a running maximum, a running sum of exponentials and a
  running weighted sum, each taken relative to the maximum so far, and the weighted mean they end at. Nothing here
  mentions a program.
-/
module

public import Idealize.ShloMosaic.PureOps.Ideal.Laws

@[expose] public section

noncomputable section

namespace Cert.Proof.FlashMath

open Idealize.ShloMosaic

variable {ι κ : Type} [Fintype ι] [DecidableEq ι] [Fintype κ]

/-! ## Real weights on extended reals -/

/-- A sum of reals, as extended reals. -/
theorem coe_sum (A : Finset ι) (f : ι → ℝ) : ((∑ t ∈ A, f t : ℝ) : EReal) = ∑ t ∈ A, (f t : EReal) := by
  induction A using Finset.induction_on with
  | empty => simp
  | insert a A ha ih => rw [Finset.sum_insert ha, Finset.sum_insert ha, EReal.coe_add, ih]

/-- A nonnegative real factor goes into a sum of extended reals. -/
theorem mul_sum (A : Finset ι) {r : ℝ} (hr : 0 ≤ r) (f : ι → EReal) : (r : EReal) * ∑ t ∈ A, f t = ∑ t ∈ A, (r : EReal) * f t := by
  induction A using Finset.induction_on with
  | empty => simp
  | insert a A ha ih =>
    rw [Finset.sum_insert ha, Finset.sum_insert ha, EReal.left_distrib_of_nonneg_of_ne_top (by exact_mod_cast hr) (EReal.coe_ne_top r), ih]

/-- Two real factors in a row are their product. -/
theorem coe_mul_mul (a b : ℝ) (x : EReal) : (a : EReal) * ((b : EReal) * x) = ((a * b : ℝ) : EReal) * x := by
  rw [EReal.coe_mul, mul_assoc]

/-- The exponential of a difference of reals. -/
theorem exp_sub (a b : ℝ) : Ideal.exp ((a : EReal) - (b : EReal)) = ((Real.exp (a - b) : ℝ) : EReal) := by
  rw [← EReal.coe_sub, Ideal.exp_coe]

/-- Nothing is left of a score of minus infinity. -/
theorem exp_bot_sub (b : ℝ) : Ideal.exp ((⊥ : EReal) - (b : EReal)) = 0 := by
  rw [EReal.bot_sub, Ideal.exp_bot]

/-! ## Maxima -/

/-- The running maximum of a family is at least each member. -/
theorem le_fold (f : κ → EReal) (j : κ) : f j ≤ Finset.univ.fold max ⊥ f :=
  Finset.le_sup (f := f) (Finset.mem_univ j)

/-- The running maximum of a family is minus infinity or a member. -/
theorem fold_eq (f : κ → EReal) : Finset.univ.fold max ⊥ f = ⊥ ∨ ∃ j, Finset.univ.fold max ⊥ f = f j := by
  by_cases h : (Finset.univ : Finset κ).Nonempty
  · obtain ⟨j, _, hj⟩ := Finset.exists_mem_eq_sup Finset.univ h f
    exact .inr ⟨j, hj⟩
  · rw [Finset.not_nonempty_iff_eq_empty.mp h]
    exact .inl rfl

/-! ## The running state -/

variable (s : ι → ℝ) (v : ι → EReal)

/-- The running maximum `m`, sum `l` and weighted sum `a` of the entries of `A`. -/
def IsSt (A : Finset ι) (m l a : EReal) : Prop :=
  (A = ∅ ∧ m = ⊥ ∧ l = 0 ∧ a = 0) ∨
    ∃ μ : ℝ, m = μ ∧ (∀ t ∈ A, s t ≤ μ) ∧ (∃ t ∈ A, s t = μ) ∧ l = ((∑ t ∈ A, Real.exp (s t - μ) : ℝ) : EReal)
      ∧ a = ∑ t ∈ A, ((Real.exp (s t - μ) : ℝ) : EReal) * v t

/-- The state of no entries. -/
theorem IsSt.init : IsSt s v ∅ ⊥ 0 0 := .inl ⟨rfl, rfl, rfl, rfl⟩

variable {s v}

/-- The old sums rescaled to a new maximum. -/
theorem IsSt.rescale {A : Finset ι} {m l a : EReal} (h : IsSt s v A m l a) (μ' : ℝ) :
    l * Ideal.exp (m - μ') = ((∑ t ∈ A, Real.exp (s t - μ') : ℝ) : EReal)
      ∧ a * Ideal.exp (m - μ') = ∑ t ∈ A, ((Real.exp (s t - μ') : ℝ) : EReal) * v t := by
  rcases h with ⟨rfl, rfl, rfl, rfl⟩ | ⟨μ, rfl, -, -, rfl, rfl⟩
  · simp
  · have e (t : ι) : Real.exp (μ - μ') * Real.exp (s t - μ) = Real.exp (s t - μ') := by
      rw [← Real.exp_add]; congr 1; ring
    rw [exp_sub]
    constructor
    · rw [← EReal.coe_mul, Finset.sum_mul]
      congr 1
      exact Finset.sum_congr rfl fun t _ => by rw [mul_comm, e]
    · rw [mul_comm, mul_sum A (Real.exp_pos _).le]
      exact Finset.sum_congr rfl fun t _ => by rw [coe_mul_mul, e]

variable [DecidableEq κ]

/-- A weight that is one on the entries of a mask and zero off it. -/
theorem sum_masked (e : κ → ι) (he : Function.Injective e) (p : κ → Prop) [DecidablePred p] (f : ι → EReal) :
    ∑ j, (if p j then f (e j) else 0) = ∑ t ∈ (Finset.univ.filter p).image e, f t := by
  rw [Finset.sum_image (fun _ _ _ _ h => he h), Finset.sum_filter]

/-- One block: the new maximum over the block's selected entries, the sums rescaled to it and the block's added. -/
theorem IsSt.step {A A' : Finset ι} {m l a : EReal} (h : IsSt s v A m l a) (e : κ → ι) (he : Function.Injective e)
    (p : κ → Prop) [DecidablePred p] (hd : ∀ j, p j → e j ∉ A) (hA' : ∀ t, t ∈ A' ↔ t ∈ A ∨ ∃ j, p j ∧ e j = t) (m' : EReal)
    (hm' : m' = max m (Finset.univ.fold max ⊥ fun j => if p j then (s (e j) : EReal) else ⊥)) :
    IsSt s v A' m' (l * Ideal.exp (m - m') + ∑ j, Ideal.exp ((s (e j) : EReal) - m') * (if p j then 1 else 0))
      (a * Ideal.exp (m - m') + ∑ j, Ideal.exp ((s (e j) : EReal) - m') * (if p j then 1 else 0) * v (e j)) := by
  have hU : A' = A ∪ (Finset.univ.filter p).image e := by
    ext t; rw [hA']; simp
  have hdisj : Disjoint A ((Finset.univ.filter p).image e) := by
    rw [Finset.disjoint_right]; intro t ht
    obtain ⟨j, hj, rfl⟩ := Finset.mem_image.mp ht
    exact hd j (Finset.mem_filter.mp hj).2
  set M := Finset.univ.fold max ⊥ (fun j => if p j then (s (e j) : EReal) else ⊥) with hM
  have hle (j : κ) (hj : p j) : (s (e j) : EReal) ≤ M := by
    have := le_fold (fun j => if p j then (s (e j) : EReal) else ⊥) j
    simpa [hj] using this
  have hreal : (A = ∅ ∧ (∀ j, ¬ p j) ∧ m' = ⊥ ∧ m = ⊥ ∧ l = 0 ∧ a = 0) ∨ ∃ μ' : ℝ, m' = μ' ∧ (∀ t ∈ A', s t ≤ μ') ∧ (∃ t ∈ A', s t = μ') := by
    have hMc : (M = ⊥ ∧ ∀ j, ¬ p j) ∨ ∃ j, p j ∧ M = (s (e j) : EReal) := by
      rcases fold_eq (fun j => if p j then (s (e j) : EReal) else ⊥) with h0 | ⟨j, hj⟩
      · refine .inl ⟨h0, fun j hj => ?_⟩
        have := hle j hj
        rw [hM, h0] at this
        exact absurd (le_bot_iff.mp this) (EReal.coe_ne_bot _)
      · by_cases hp : p j
        · exact .inr ⟨j, hp, by rw [hM, hj, if_pos hp]⟩
        · rw [if_neg hp] at hj
          refine .inl ⟨hj, fun j hj' => ?_⟩
          have := hle j hj'
          rw [hM, hj] at this
          exact absurd (le_bot_iff.mp this) (EReal.coe_ne_bot _)
    rcases h with ⟨rfl, rfl, rfl, rfl⟩ | ⟨μ, rfl, hμ, ⟨t0, ht0, hst0⟩, -, -⟩
    · rcases hMc with ⟨hb, hn⟩ | ⟨j, hj, hMj⟩
      · exact .inl ⟨rfl, hn, by rw [hm', hb]; simp, rfl, rfl, rfl⟩
      · refine .inr ⟨s (e j), by rw [hm', hMj]; simp, ?_, ⟨e j, (hA' _).mpr (.inr ⟨j, hj, rfl⟩), rfl⟩⟩
        intro t ht
        rcases (hA' t).mp ht with h0 | ⟨i, hi, rfl⟩
        · simp at h0
        · have := hle i hi; rw [hMj] at this; exact_mod_cast this
    · rcases hMc with ⟨hb, hn⟩ | ⟨j, hj, hMj⟩
      · refine .inr ⟨μ, by rw [hm', hb]; simp, ?_, ⟨t0, (hA' _).mpr (.inl ht0), hst0⟩⟩
        intro t ht
        rcases (hA' t).mp ht with h0 | ⟨i, hi, rfl⟩
        · exact hμ t h0
        · exact absurd hi (hn i)
      · refine .inr ⟨max μ (s (e j)), by rw [hm', hMj]; exact (EReal.coe_strictMono.monotone.map_max).symm, ?_, ?_⟩
        · intro t ht
          rcases (hA' t).mp ht with h0 | ⟨i, hi, rfl⟩
          · exact le_max_of_le_left (hμ t h0)
          · have := hle i hi; rw [hMj] at this
            exact le_max_of_le_right (by exact_mod_cast this)
        · rcases le_total μ (s (e j)) with hc | hc
          · exact ⟨e j, (hA' _).mpr (.inr ⟨j, hj, rfl⟩), (max_eq_right hc).symm⟩
          · exact ⟨t0, (hA' _).mpr (.inl ht0), by rw [hst0, max_eq_left hc]⟩
  rcases hreal with ⟨rfl, hn, hb, rfl, rfl, rfl⟩ | ⟨μ', hμ', hub, hat⟩
  · refine .inl ⟨?_, hb, ?_, ?_⟩
    · rw [hU]; simp [hn]
    · simp [hn]
    · simp [hn]
  · refine .inr ⟨μ', hμ', hub, hat, ?_, ?_⟩
    · rw [hμ', (h.rescale μ').1, hU, Finset.sum_union hdisj, EReal.coe_add, coe_sum ((Finset.univ.filter p).image e),
        ← sum_masked e he p fun t => ((Real.exp (s t - μ') : ℝ) : EReal)]
      congr 1
      refine Finset.sum_congr rfl fun j _ => ?_
      rw [exp_sub]; split <;> simp
    · rw [hμ', (h.rescale μ').2, hU, Finset.sum_union hdisj,
        ← sum_masked e he p fun t => ((Real.exp (s t - μ') : ℝ) : EReal) * v t]
      congr 1
      refine Finset.sum_congr rfl fun j _ => ?_
      rw [exp_sub]; split <;> simp

omit [DecidableEq κ]

/-! ## The end -/

/-- The weighted mean of the entries of `A` by exponential weights. -/
def mean (s : ι → ℝ) (v : ι → EReal) (A : Finset ι) : EReal :=
  ∑ t ∈ A, ((Real.exp (s t) / ∑ u ∈ A, Real.exp (s u) : ℝ) : EReal) * v t

theorem weight (A : Finset ι) (μ : ℝ) (t : ι) :
    Real.exp (s t - μ) / ∑ u ∈ A, Real.exp (s u - μ) = Real.exp (s t) / ∑ u ∈ A, Real.exp (s u) := by
  have e (u : ι) : Real.exp (s u - μ) = Real.exp (s u) * Real.exp (-μ) := by rw [← Real.exp_add]; congr 1
  simp only [e]
  rw [← Finset.sum_mul, mul_div_mul_right _ _ (Real.exp_pos _).ne']

/-- The state of a nonempty set divides out to the weighted mean, whatever lower bound of at most one the sum is held to. -/
theorem IsSt.finish {A : Finset ι} {m l a : EReal} (h : IsSt s v A m l a) (hA : A.Nonempty) {c : EReal} (hc : c ≤ 1) :
    Ideal.div a (max l c) = mean s v A := by
  rcases h with ⟨rfl, -⟩ | ⟨μ, rfl, hμ, ⟨t0, ht0, hst0⟩, rfl, rfl⟩
  · exact absurd hA Finset.not_nonempty_empty
  · have h1 : (1 : ℝ) ≤ ∑ t ∈ A, Real.exp (s t - μ) := by
      refine le_trans ?_ (Finset.single_le_sum (f := fun t => Real.exp (s t - μ)) (fun t _ => (Real.exp_pos _).le) ht0)
      rw [hst0]; simp
    have h2 : max ((∑ t ∈ A, Real.exp (s t - μ) : ℝ) : EReal) c = ((∑ t ∈ A, Real.exp (s t - μ) : ℝ) : EReal) :=
      max_eq_left (hc.trans (by exact_mod_cast h1))
    have hp : (0 : ℝ) < ∑ t ∈ A, Real.exp (s t - μ) := lt_of_lt_of_le one_pos h1
    rw [h2, Ideal.div_coe hp.ne', mul_comm, mul_sum A (by positivity)]
    refine Finset.sum_congr rfl fun t _ => ?_
    rw [coe_mul_mul, ← weight A μ t]
    congr 2; ring

/-- The softmax of scores masked by minus infinity, taken over a whole row, weighs the row's values to the same mean. -/
theorem softmax_mean (A : Finset ι) (hA : A.Nonempty) (x : ι → EReal) (hx : ∀ t, x t = if t ∈ A then (s t : EReal) else ⊥) :
    ∑ t, Ideal.div (Ideal.exp (x t - max ⊥ (Finset.univ.fold max ⊥ x))) (0 + ∑ u, Ideal.exp (x u - max ⊥ (Finset.univ.fold max ⊥ x))) * v t
      = mean s v A := by
  obtain ⟨μ, hμ⟩ : ∃ μ : ℝ, max ⊥ (Finset.univ.fold max ⊥ x) = (μ : EReal) := by
    obtain ⟨t0, ht0⟩ := hA
    rw [max_eq_right bot_le]
    rcases fold_eq x with h0 | ⟨j, hj⟩
    · have := le_fold x t0
      rw [h0, hx, if_pos ht0] at this
      exact absurd (le_bot_iff.mp this) (EReal.coe_ne_bot _)
    · by_cases hjA : j ∈ A
      · exact ⟨s j, by rw [hj, hx, if_pos hjA]⟩
      · have := le_fold x t0
        rw [hj, hx j, if_neg hjA, hx, if_pos ht0] at this
        exact absurd (le_bot_iff.mp this) (EReal.coe_ne_bot _)
  rw [hμ]
  have hex (t : ι) : Ideal.exp (x t - (μ : EReal)) = (((if t ∈ A then Real.exp (s t - μ) else 0) : ℝ) : EReal) := by
    rw [hx]; split
    · rw [exp_sub]
    · rw [exp_bot_sub, EReal.coe_zero]
  simp only [hex]
  have hsum : ∑ u, (((if u ∈ A then Real.exp (s u - μ) else 0) : ℝ) : EReal) = ((∑ u ∈ A, Real.exp (s u - μ) : ℝ) : EReal) := by
    rw [← coe_sum, Finset.sum_ite_mem, Finset.univ_inter]
  have hp : (0 : ℝ) < ∑ u ∈ A, Real.exp (s u - μ) := Finset.sum_pos (fun _ _ => Real.exp_pos _) hA
  rw [hsum, zero_add]
  have e (t : ι) : Ideal.div (((if t ∈ A then Real.exp (s t - μ) else 0) : ℝ) : EReal) ((∑ u ∈ A, Real.exp (s u - μ) : ℝ) : EReal) * v t
      = if t ∈ A then ((Real.exp (s t) / ∑ u ∈ A, Real.exp (s u) : ℝ) : EReal) * v t else 0 := by
    split
    · rw [Ideal.div_coe hp.ne', ← weight A μ t, ← EReal.coe_mul]; congr 2; ring
    · rw [Ideal.div_coe hp.ne']; simp
  simp only [e]
  rw [Finset.sum_ite_mem, Finset.univ_inter]
  rfl

end Cert.Proof.FlashMath

end
-- ==== Proof.FlashRead.lean ====
/-
  The payloads of `FlashIdeal`'s body read at a row and a column, on extended reals: scores, masks, one block's update of
  a running state, the gates.
-/
module

public import proofs.«01_k».proof.Proof.FlashIdealBody
public import proofs.«01_k».proof.Proof.FlashMath
public import Idealize.ShloMosaic.Lib.Pointwise
public import Idealize.ShloMosaic.PureOps.IdealRules
public import Idealize.ShloMosaic.Lib.WordCmp
public import Idealize.ShloMosaic.Lib.WordArith

@[expose] public section

set_option maxRecDepth 16384

noncomputable section

namespace Cert.Proof.FlashIdeal

open Cert.FlashIdeal Cert.FlashIdeal.Gen
open Idealize.ShloMosaic Idealize.ShloMosaic.TcCoe

/-- The named mask is minus infinity. -/
theorem mask_eq : (Named.named (F := Ideal) κ "mask" 0xF149F2CA#32 : Ideal .f32) = (⊥ : EReal) :=
  IdealRules.named_const.ideal_named_scalar _ _ _ _ rfl

/-- The word of minus infinity denotes it. -/
theorem ofBits_ninf : Ideal.ofBits .f32 0xFF800000#32 = (⊥ : EReal) := by
  simp [Ideal.ofBits, Ideal.ieee]

/-- The word of a half denotes a half. -/
theorem ofBits_half : Ideal.ofBits .f32 0x3F000000#32 = ((1 / 2 : ℝ) : EReal) := by
  simp [Ideal.ofBits, Ideal.ieee, -EReal.coe_mul]; norm_num

/-- The scores of a block of keys. -/
theorem scores_apply (v2 : FVec Ideal S256x64 .f32) (kb : Vec Ideal S1x64x64 .f32) (r : Fin 256) (j : Fin 64) :
    k0_pay3 (F := Ideal) v2 kb (ix2 r j) = (∑ d : Fin 64, v2 (ix2 r d) * kb (ix3 0 j d)) * Ideal.ofBits .f32 0x3E000000#32 := by
  pointwise [k0_pay3]

/-- The new maximum of a row. -/
theorem max_apply (M : IVec S256x64 1) (sf : FVec Ideal S256x64 .f32) (m : FVec Ideal S256x1 .f32) (r : Fin 256) :
    maximumf m (shapeCast S256x1 (multiReduction .maximumf [1] S256 (select M sf (broadcast S256x64 (Named.named (F := Ideal) κ "mask" 0xF149F2CA#32 : Ideal .f32)))
      0xFF800000#32 reduces_S256x64_S256 (.inl rfl) rfl) shapeCasts_S256_S256x1) (ix2 r 0)
      = max (m (ix2 r 0)) (Finset.univ.fold max ⊥ fun j : Fin 64 => if M (ix2 r j) = 1#1 then sf (ix2 r j) else ⊥) := by
  pointwise [mask_eq, ofBits_ninf]
  rfl

/-- The exponentials of a block, zero off the mask. -/
theorem p_apply (M : IVec S256x64 1) (sf : FVec Ideal S256x64 .f32) (m : FVec Ideal S256x1 .f32) (r : Fin 256) (j : Fin 64) :
    mulf (exp (subf sf (broadcastTo S256x64 m broadcasts_S256x1_S256x64))) (sitofp (F := Ideal) .f32 (extui 32 M natLt_1_32)) (ix2 r j)
      = Ideal.exp (sf (ix2 r j) - m (ix2 r 0)) * (if M (ix2 r j) = 1#1 then 1 else 0) := by
  pointwise []
  rcases BitVec.eq_zero_or_eq_one (M (ix2 r j)) with h | h <;> rw [h] <;> congr 1 <;> simp [FloatOps.sitofp]

/-- The new sum of a row. -/
theorem l_apply (P : FVec Ideal S256x64 .f32) (m m' l : FVec Ideal S256x1 .f32) (r : Fin 256) :
    addf (mulf l (exp (subf m m'))) (shapeCast S256x1 (multiReduction .add [1] S256 P 0x00000000#32 reduces_S256x64_S256 (.inl rfl) rfl) shapeCasts_S256_S256x1) (ix2 r 0)
      = l (ix2 r 0) * Ideal.exp (m (ix2 r 0) - m' (ix2 r 0)) + ∑ j : Fin 64, P (ix2 r j) := by
  pointwise []

/-- The new weighted sums of a row. -/
theorem a_apply (P a : FVec Ideal S256x64 .f32) (vb : FVec Ideal S64x64 .f32) (m m' : FVec Ideal S256x1 .f32) (r : Fin 256) (d : Fin 64) :
    addf (mulf a (broadcastTo S256x64 (exp (subf m m')) broadcasts_S256x1_S256x64))
        (matmul dot_S256x64_S64x64_S256x64_1_0_0_1_n_n none P vb (constant S256x64 .f32 0x00000000#32)) (ix2 r d)
      = a (ix2 r d) * Ideal.exp (m (ix2 r 0) - m' (ix2 r 0)) + ∑ j : Fin 64, P (ix2 r j) * vb (ix2 j d) := by
  pointwise []

/-- Whether a row has a block selected, as the greatest of the lanes that are the block's, against a half. -/
theorem sel_apply (b : Fin 32 → EReal) (kt : Fin 32) :
    (((1 / 2 : ℝ) : EReal) < Finset.univ.fold max ⊥ fun k : Fin 32 => if k = kt then b k else 0) ↔ ((1 / 2 : ℝ) : EReal) < b kt := by
  constructor
  · intro h
    rcases FlashMath.fold_eq (fun k : Fin 32 => if k = kt then b k else 0) with h0 | ⟨k, hk⟩
    · rw [h0] at h; exact absurd h not_lt_bot
    · rw [hk] at h
      by_cases hkt : k = kt
      · rw [if_pos hkt, hkt] at h; exact h
      · rw [if_neg hkt] at h
        exact absurd h (not_lt.mpr (by exact_mod_cast (by norm_num : (0 : ℝ) ≤ 1 / 2)))
  · intro h
    refine lt_of_lt_of_le h ?_
    have := FlashMath.le_fold (fun k : Fin 32 => if k = kt then b k else 0) kt
    simpa using this

/-- Whether a row has a block selected: the greatest of the words' lanes that are the block's, against a half. -/
theorem selword (b : Fin 32 → EReal) (kt : Fin 32) :
    (((1 / 2 : ℝ) : EReal) < Finset.univ.fold max ⊥ fun k : Fin 32 => Scalar.select (IntOp.cmpi .eq (BitVec.ofNat 32 k.val) (BitVec.ofNat 32 kt.val)) (b k) 0)
      ↔ ((1 / 2 : ℝ) : EReal) < b kt := by
  rw [← sel_apply b kt]
  have e : (fun k : Fin 32 => Scalar.select (IntOp.cmpi .eq (BitVec.ofNat 32 k.val) (BitVec.ofNat 32 kt.val)) (b k) 0) = fun k => if k = kt then b k else 0 := by
    funext k
    have h : (IntOp.cmpi .eq (BitVec.ofNat 32 k.val) (BitVec.ofNat 32 kt.val) = 1#1) ↔ k = kt := by
      revert k kt; decide +kernel
    unfold Scalar.select
    by_cases hk : k = kt
    · rw [if_pos hk]; exact if_pos (h.mpr hk)
    · rw [if_neg hk]; exact if_neg (fun h' => hk (h.mp h'))
  rw [e]

/-- A word of a place in a block of keys. -/
theorem word_t {kt : ℕ} (j : Fin 64) : IntOp.addi (Scalar.muli (BitVec.ofNat 32 kt) 64#32) (BitVec.ofNat 32 j.val) = BitVec.ofNat 32 (64 * kt + j.val) := by
  show BitVec.ofNat 32 kt * BitVec.ofNat 32 64 + BitVec.ofNat 32 j.val = _
  rw [← BitVec.ofNat_mul, ← BitVec.ofNat_add, mul_comm]

/-- A word of a row. -/
theorem word_row {J : ℕ} (r : Fin 256) : IntOp.addi (BitVec.ofNat 32 r.val) (Scalar.muli (BitVec.ofNat 32 J) 256#32) = BitVec.ofNat 32 (256 * J + r.val) := by
  show BitVec.ofNat 32 r.val + BitVec.ofNat 32 J * BitVec.ofNat 32 256 = _
  rw [← BitVec.ofNat_mul, ← BitVec.ofNat_add, add_comm, mul_comm]

/-- The mask of the selected branch. -/
theorem selmask_apply (i : grid0.Coords) (v4 : FVec Ideal S256x32 .f32) (kt : Fin 32) (r : Fin 256) (j : Fin 64) :
    k0_pay4 (F := Ideal) v4 (iota .tc S256x64 32 [1] iota_S256x64_d1_w32) (k0_pay40 i) (iota .tc S256x32 32 [1] iota_S256x32_d1_w32)
        (BitVec.ofNat 32 kt.val) (ix2 r j) = 1#1
      ↔ 64 * kt.val + j.val ≤ 256 * (i 1).val + r.val ∧ ((1 / 2 : ℝ) : EReal) < v4 (ix2 r kt) := by
  have hi : (i 1).val < 8 := (i 1).isLt
  pointwise [k0_pay4, k0_pay40, ofBits_ninf, ofBits_half]
  rw [word_t, word_row, IntOp.andi_eq_one, WordCmp.cmpi_sle_ofNat_eq_one_iff (by omega) (by omega), WordArith.ofBool_eq_one_iff, decide_eq_true_eq, selword (fun x => v4 (ix2 r x))]

/-- The mask of the window. -/
theorem winmask_apply (i : grid0.Coords) (kt : Fin 32) (r : Fin 256) (j : Fin 64) (v124 : IVec S256x64 32)
    (h124 : v124 (ix2 r j) = BitVec.ofNat 32 (64 * kt.val + j.val)) :
    k0_pay52 (k0_pay40 i) v124 (cmpi .sle v124 (k0_pay40 i)) (ix2 r j) = 1#1
      ↔ 64 * kt.val + j.val ≤ 256 * (i 1).val + r.val ∧ 256 * (i 1).val + r.val < 64 * kt.val + j.val + 512 := by
  have hi : (i 1).val < 8 := (i 1).isLt
  pointwise [k0_pay52, k0_pay40]
  rw [h124, word_row, IntOp.andi_eq_one, WordCmp.cmpi_sle_ofNat_eq_one_iff (by omega) (by omega), WordCmp.cmpi_sgt_eq, WordArith.ofBool_eq_one_iff, decide_eq_true_eq,
    WordArith.toInt_subi_of_nonneg, WordArith.toInt_ofNat_small _ (by omega), WordArith.toInt_ofNat_small _ (by omega)]
  · refine and_congr Iff.rfl ?_
    rw [WordArith.toInt_ofNat_small (64 * kt.val + j.val) (by omega)]
    omega
  · rw [WordArith.toInt_ofNat_small _ (by omega)]; omega
  · decide

/-- The induction variable of a loop from zero by ones. -/
theorem iv01 (k : ℕ) : Scf.iv 0#32 1#32 k = BitVec.ofNat 32 k := by simp [Scf.iv]

/-- The induction variable of a loop from a word by ones. -/
theorem ivl (l k : ℕ) : Scf.iv (BitVec.ofNat 32 l) 1#32 k = BitVec.ofNat 32 (l + k) := by
  rw [BitVec.ofNat_add]; simp [Scf.iv]

/-- Off the need, no row of the block has the key block selected. -/
theorem need_apply (i : grid0.Coords) (v4 : FVec Ideal S256x32 .f32) (k : Fin (k0_t1_loop i).trips) (hk : k.val < 32)
    (hn : ¬ need i v4 (iota .tc S256x32 32 [1] iota_S256x32_d1_w32) k = 1#1) (r : Fin 256) : ¬ ((1 / 2 : ℝ) : EReal) < v4 (ix2 r ⟨k.val, hk⟩) := by
  intro h
  apply hn
  pointwise [need, k0_pay47, ofBits_ninf, ofBits_half]
  rw [decide_eq_true]
  · rfl
  refine lt_of_lt_of_le h ?_
  have := FlashMath.le_fold (fun x : Fin 256 × Fin 32 =>
    Scalar.select (IntOp.cmpi .eq (BitVec.ofNat 32 x.2.val) (Scf.iv 0#32 1#32 k.val)) (v4 (ix2 x.1 x.2)) 0) (r, ⟨k.val, hk⟩)
  refine le_trans (le_of_eq ?_) this
  rw [iv01]
  exact (if_pos (by simp [IntOp.cmpi])).symm

/-- The words that bound the loops. -/
theorem t1_trips (i : grid0.Coords) : (k0_t1_loop i).trips = 4 * ((i 1).val - 2) := by
  have h : ∀ j : Fin 8, ∀ g : Fin 16, (k0_t1_loop (fun a => match a with | ⟨0, _⟩ => g | ⟨1, _⟩ => j)).trips = 4 * (j.val - 2) := by decide +kernel
  have := h (i 1) (i 0)
  convert this using 2

theorem t3_trips (i : grid0.Coords) : (k0_t3_loop i).trips = 4 * (i 1).val + 4 - 4 * ((i 1).val - 2) := by
  have h : ∀ j : Fin 8, ∀ g : Fin 16, (k0_t3_loop (fun a => match a with | ⟨0, _⟩ => g | ⟨1, _⟩ => j)).trips = 4 * j.val + 4 - 4 * (j.val - 2) := by decide +kernel
  have := h (i 1) (i 0)
  convert this using 2

theorem t3_lb (i : grid0.Coords) : w52 i = BitVec.ofNat 32 (4 * ((i 1).val - 2)) := by
  have h : ∀ j : Fin 8, ∀ g : Fin 16, (k0_t3_loop (fun a => match a with | ⟨0, _⟩ => g | ⟨1, _⟩ => j)).lb = BitVec.ofNat 32 (4 * (j.val - 2)) := by decide +kernel
  have := h (i 1) (i 0)
  rw [w52_eq]
  convert this using 2

theorem off1 (i : grid0.Coords) (k : Fin (k0_t1_loop i).trips) : k0_off1 i k 1 = 64 * k.val := by
  have h : ∀ j : Fin 8, ∀ g : Fin 16, ∀ k : Fin (k0_t1_loop (fun a => match a with | ⟨0, _⟩ => g | ⟨1, _⟩ => j)).trips,
    k0_off1 (fun a => match a with | ⟨0, _⟩ => g | ⟨1, _⟩ => j) k 1 = 64 * k.val := by decide +kernel
  have e : i = (fun a => match a with | ⟨0, _⟩ => i 0 | ⟨1, _⟩ => i 1) := by
    funext a; match a with | ⟨0, _⟩ => rfl | ⟨1, _⟩ => rfl
  generalize i 0 = g at e
  generalize i 1 = j at e
  subst e
  exact h j g k

theorem off3 (i : grid0.Coords) (k : Fin (k0_t3_loop i).trips) : k0_off3 i k 1 = 64 * (4 * ((i 1).val - 2) + k.val) := by
  have h : ∀ j : Fin 8, ∀ g : Fin 16, ∀ k : Fin (k0_t3_loop (fun a => match a with | ⟨0, _⟩ => g | ⟨1, _⟩ => j)).trips,
    k0_off3 (fun a => match a with | ⟨0, _⟩ => g | ⟨1, _⟩ => j) k 1 = 64 * (4 * (j.val - 2) + k.val) := by decide +kernel
  have e : i = (fun a => match a with | ⟨0, _⟩ => i 0 | ⟨1, _⟩ => i 1) := by
    funext a; match a with | ⟨0, _⟩ => rfl | ⟨1, _⟩ => rfl
  generalize i 0 = g at e
  generalize hj : i 1 = j at e
  subst e
  exact h j g k

/-- A row of the keys a trip of the first loop reads. -/
theorem ld1 (i : grid0.Coords) (k : Fin (k0_t1_loop i).trips) (x : Vec Ideal S1x2048x64 .f32) (j d : Fin 64) (t : Fin 2048) (ht : t.val = 64 * k.val + j.val) :
    View.ld x (rc1 i k) (ix3 0 j d) = x (ix3 0 t d) := by
  show x ((rc1 i k).idx (ix3 0 j d)) = _
  congr 1
  funext a
  match a with
  | ⟨0, _⟩ => exact Fin.ext rfl
  | ⟨1, _⟩ => refine Fin.ext ?_; show k0_off1 i k 1 + 1 * j.val = t.val; rw [off1, ht, one_mul]
  | ⟨2, _⟩ => refine Fin.ext ?_; show 0 + 1 * d.val = d.val; omega

/-- A row of the keys a trip of the third loop reads. -/
theorem ld3 (i : grid0.Coords) (k : Fin (k0_t3_loop i).trips) (x : Vec Ideal S1x2048x64 .f32) (j d : Fin 64) (t : Fin 2048)
    (ht : t.val = 64 * (4 * ((i 1).val - 2) + k.val) + j.val) :
    View.ld x (rc3 i k) (ix3 0 j d) = x (ix3 0 t d) := by
  show x ((rc3 i k).idx (ix3 0 j d)) = _
  congr 1
  funext a
  match a with
  | ⟨0, _⟩ => exact Fin.ext rfl
  | ⟨1, _⟩ => refine Fin.ext ?_; show k0_off3 i k 1 + 1 * j.val = t.val; rw [off3, ht, one_mul]
  | ⟨2, _⟩ => refine Fin.ext ?_; show 0 + 1 * d.val = d.val; omega

end Cert.Proof.FlashIdeal

end
-- ==== Proof.FlashBlock.lean ====
/-
  The two states the loops of `FlashIdeal`'s body carry, row by row: after the blocks of keys before block `n`, each row
  holds the running maximum, sum and weighted sums of the keys of its mask among them.
-/
module

public import proofs.«01_k».proof.Proof.FlashRead

@[expose] public section

set_option maxRecDepth 16384

noncomputable section

namespace Cert.Proof.FlashIdeal

open Cert.FlashIdeal Cert.FlashIdeal.Gen
open Idealize.ShloMosaic Idealize.ShloMosaic.TcCoe
open Cert.Proof.FlashMath (IsSt)

/-- The place of a lane of a block of keys. -/
def place {n : ℕ} (hn : n < 32) (j : Fin 64) : Fin 2048 := ⟨64 * n + j.val, by omega⟩

theorem place_inj {n : ℕ} (hn : n < 32) : Function.Injective (place hn) := fun a b h => Fin.ext (by have := congrArg Fin.val h; simp only [place] at this; omega)

/-- The block of a place. -/
def blockOf (t : Fin 2048) : Fin 32 := ⟨t.val / 64, by omega⟩

theorem blockOf_place {n : ℕ} (hn : n < 32) (j : Fin 64) : blockOf (place hn j) = ⟨n, hn⟩ := Fin.ext (by show (64 * n + j.val) / 64 = n; omega)

/-- The keys of the selected branch of a row, among those before block `n`: not after the row, in a selected block. -/
def selSet (J : ℕ) (x3 : Vec Ideal S1x256x32 .f32) (r : Fin 256) (n : ℕ) : Finset (Fin 2048) := by
  classical exact Finset.univ.filter fun t => t.val < 64 * n ∧ t.val ≤ 256 * J + r.val ∧ ((1 / 2 : ℝ) : EReal) < x3 (ix3 0 r (blockOf t))

/-- The keys of the window of a row, among those before block `n`: not after the row, fewer than 512 before it. -/
def winSet (J : ℕ) (r : Fin 256) (n : ℕ) : Finset (Fin 2048) :=
  Finset.univ.filter fun t => t.val < 64 * n ∧ t.val ≤ 256 * J + r.val ∧ 256 * J + r.val < t.val + 512

theorem mem_selSet {J : ℕ} {x3 : Vec Ideal S1x256x32 .f32} {r : Fin 256} {n : ℕ} {t : Fin 2048} :
    t ∈ selSet J x3 r n ↔ t.val < 64 * n ∧ t.val ≤ 256 * J + r.val ∧ ((1 / 2 : ℝ) : EReal) < x3 (ix3 0 r (blockOf t)) := by
  classical
  unfold selSet
  simp

theorem mem_winSet {J : ℕ} {r : Fin 256} {n : ℕ} {t : Fin 2048} :
    t ∈ winSet J r n ↔ t.val < 64 * n ∧ t.val ≤ 256 * J + r.val ∧ 256 * J + r.val < t.val + 512 := by
  unfold winSet
  simp

section Block

variable (i : grid0.Coords) (x0 : Vec Ideal S1x256x64 .f32) (x1 x2 : Vec Ideal S1x2048x64 .f32) (x3 : Vec Ideal S1x256x32 .f32)

/-- The scores of the block's rows are reals. -/
def Scores (s : Fin 256 → Fin 2048 → ℝ) : Prop :=
  ∀ r t, (∑ d : Fin 64, x0 (ix3 0 r d) * x1 (ix3 0 t d)) * Ideal.ofBits .f32 0x3E000000#32 = ((s r t : ℝ) : EReal)

/-- A column of the values. -/
def col (d : Fin 64) (t : Fin 2048) : EReal := x2 (ix3 0 t d)

/-- A carried triple holds, row by row, the states of the keys of the sets `A`. -/
def Holds (s : Fin 256 → Fin 2048 → ℝ) (A : Fin 256 → Finset (Fin 2048)) (m l : FVec Ideal S256x1 .f32) (a : FVec Ideal S256x64 .f32) : Prop :=
  ∀ (r : Fin 256) (d : Fin 64), IsSt (s r) (col x2 d) (A r) (m (ix2 r 0)) (l (ix2 r 0)) (a (ix2 r d))

variable {x0 x1 x2 x3}

/-- One block's update of a carried triple, for any mask. -/
theorem Holds.update {s : Fin 256 → Fin 2048 → ℝ} {A A' : Fin 256 → Finset (Fin 2048)} {m m' l l' : FVec Ideal S256x1 .f32}
    {a a' sf P : FVec Ideal S256x64 .f32} {vb : FVec Ideal S64x64 .f32} {M : IVec S256x64 1} {n : ℕ} (hn : n < 32)
    (h : Holds x2 s A m l a)
    (hsf : ∀ r j, sf (ix2 r j) = ((s r (place hn j) : ℝ) : EReal))
    (hvb : ∀ j d, vb (ix2 j d) = col x2 d (place hn j))
    (hd : ∀ r j, M (ix2 r j) = 1#1 → place hn j ∉ A r)
    (hA' : ∀ r t, t ∈ A' r ↔ t ∈ A r ∨ ∃ j, M (ix2 r j) = 1#1 ∧ place hn j = t)
    (hm : m' = maximumf m (shapeCast S256x1 (multiReduction .maximumf [1] S256 (select M sf (broadcast S256x64 (Named.named (F := Ideal) κ "mask" 0xF149F2CA#32 : Ideal .f32)))
      0xFF800000#32 reduces_S256x64_S256 (.inl rfl) rfl) shapeCasts_S256_S256x1))
    (hP : P = mulf (exp (subf sf (broadcastTo S256x64 m' broadcasts_S256x1_S256x64))) (sitofp (F := Ideal) .f32 (extui 32 M natLt_1_32)))
    (hl : l' = addf (mulf l (exp (subf m m'))) (shapeCast S256x1 (multiReduction .add [1] S256 P 0x00000000#32 reduces_S256x64_S256 (.inl rfl) rfl) shapeCasts_S256_S256x1))
    (ha : a' = addf (mulf a (broadcastTo S256x64 (exp (subf m m')) broadcasts_S256x1_S256x64))
        (matmul dot_S256x64_S64x64_S256x64_1_0_0_1_n_n none P vb (constant S256x64 .f32 0x00000000#32))) :
    Holds x2 s A' m' l' a' := by
  intro r d
  have key := (h r d).step (place hn) (place_inj hn) (fun j => M (ix2 r j) = 1#1) (hd r) (hA' r) (m' (ix2 r 0))
    (by rw [hm, max_apply]; simp only [hsf])
  rw [hl, ha, l_apply, a_apply]
  have hPr (j : Fin 64) : P (ix2 r j) = Ideal.exp (((s r (place hn j) : ℝ) : EReal) - m' (ix2 r 0)) * (if M (ix2 r j) = 1#1 then 1 else 0) := by
    rw [hP, p_apply, hsf]
  simp only [hPr, hvb]
  exact key

/-- The queries' row. -/
theorem q_apply (r : Fin 256) (d : Fin 64) : k0_pay38 (F := Ideal) x0 (ix2 r d) = x0 (ix3 0 r d) := by
  pointwise [k0_pay38]

/-- The selection's row. -/
theorem bs_apply (r : Fin 256) (k : Fin 32) : k0_pay39 (F := Ideal) x3 (ix2 r k) = x3 (ix3 0 r k) := by
  pointwise [k0_pay39]

/-- A block of values. -/
theorem vb_apply (v : Vec Ideal S1x64x64 .f32) (j d : Fin 64) : k0_pay2 (F := Ideal) v (ix2 j d) = v (ix3 0 j d) := by
  pointwise [k0_pay2]

theorem selSet_succ {n : ℕ} (hn : n < 32) (J : ℕ) (r : Fin 256) (t : Fin 2048) :
    t ∈ selSet J x3 r (n + 1) ↔ t ∈ selSet J x3 r n ∨ ∃ j, (64 * n + j.val ≤ 256 * J + r.val ∧ ((1 / 2 : ℝ) : EReal) < x3 (ix3 0 r ⟨n, hn⟩)) ∧ place hn j = t := by
  rw [mem_selSet, mem_selSet]
  constructor
  · rintro ⟨h1, h2, h3⟩
    by_cases h : t.val < 64 * n
    · exact .inl ⟨h, h2, h3⟩
    · refine .inr ⟨⟨t.val - 64 * n, by omega⟩, ⟨by show 64 * n + (t.val - 64 * n) ≤ _; omega, ?_⟩, Fin.ext (by show 64 * n + (t.val - 64 * n) = t.val; omega)⟩
      rwa [show blockOf t = ⟨n, hn⟩ from Fin.ext (by show t.val / 64 = n; omega)] at h3
  · rintro (⟨h1, h2, h3⟩ | ⟨j, ⟨h1, h2⟩, rfl⟩)
    · exact ⟨by omega, h2, h3⟩
    · exact ⟨by show 64 * n + j.val < _; omega, h1, by rw [blockOf_place]; exact h2⟩

theorem winSet_succ {n : ℕ} (hn : n < 32) (J : ℕ) (r : Fin 256) (t : Fin 2048) :
    t ∈ winSet J r (n + 1) ↔ t ∈ winSet J r n ∨ ∃ j : Fin 64, (64 * n + j.val ≤ 256 * J + r.val ∧ 256 * J + r.val < 64 * n + j.val + 512) ∧ place hn j = t := by
  rw [mem_winSet, mem_winSet]
  constructor
  · rintro ⟨h1, h2, h3⟩
    by_cases h : t.val < 64 * n
    · exact .inl ⟨h, h2, h3⟩
    · exact .inr ⟨⟨t.val - 64 * n, by omega⟩, ⟨by show 64 * n + (t.val - 64 * n) ≤ _; omega, by show _ < 64 * n + (t.val - 64 * n) + 512; omega⟩,
        Fin.ext (by show 64 * n + (t.val - 64 * n) = t.val; omega)⟩
  · rintro (⟨h1, h2, h3⟩ | ⟨j, ⟨h1, h2⟩, rfl⟩)
    · exact ⟨by omega, h2, h3⟩
    · exact ⟨by show 64 * n + j.val < _; omega, h1, h2⟩

/-- One trip of the first loop. -/
theorem step1_holds {s : Fin 256 → Fin 2048 → ℝ} (hs : Scores x0 x1 s) (k : Fin (k0_t1_loop i).trips) (a : C3 Ideal)
    (h : Holds x2 s (fun r => selSet (i 1).val x3 r k.val) a.1 a.2.1 a.2.2) :
    Holds x2 s (fun r => selSet (i 1).val x3 r (k.val + 1))
      (step1 i (k0_pay38 x0) (k0_pay39 x3) (iota .tc S256x64 32 [1] iota_S256x64_d1_w32) (k0_pay40 i) (iota .tc S256x32 32 [1] iota_S256x32_d1_w32) x1 x2 k a).1
      (step1 i (k0_pay38 x0) (k0_pay39 x3) (iota .tc S256x64 32 [1] iota_S256x64_d1_w32) (k0_pay40 i) (iota .tc S256x32 32 [1] iota_S256x32_d1_w32) x1 x2 k a).2.1
      (step1 i (k0_pay38 x0) (k0_pay39 x3) (iota .tc S256x64 32 [1] iota_S256x64_d1_w32) (k0_pay40 i) (iota .tc S256x32 32 [1] iota_S256x32_d1_w32) x1 x2 k a).2.2 := by
  have hi : (i 1).val < 8 := (i 1).isLt
  have hk : k.val < 32 := by have := t1_trips i; omega
  unfold step1
  by_cases hn : need i (k0_pay39 x3) (iota .tc S256x32 32 [1] iota_S256x32_d1_w32) k = 1#1
  · rw [if_pos hn]
    have hM (r : Fin 256) (j : Fin 64) := selmask_apply i (k0_pay39 x3) ⟨k.val, hk⟩ r j
    refine h.update hk (sf := k0_pay3 (k0_pay38 x0) (View.ld x1 (rc1 i k))) (vb := k0_pay2 (View.ld x2 (rc1 i k)))
      (M := k0_pay4 (F := Ideal) (k0_pay39 x3) (iota .tc S256x64 32 [1] iota_S256x64_d1_w32) (k0_pay40 i) (iota .tc S256x32 32 [1] iota_S256x32_d1_w32) (Scf.iv 0#32 1#32 k))
      (P := k0_pay6 (k0_pay38 x0) (k0_pay39 x3) (iota .tc S256x64 32 [1] iota_S256x64_d1_w32) (k0_pay40 i) (iota .tc S256x32 32 [1] iota_S256x32_d1_w32) a.1 (Scf.iv 0#32 1#32 k) (View.ld x1 (rc1 i k)))
      ?_ ?_ ?_ ?_ rfl rfl rfl rfl
    · intro r j
      rw [scores_apply, ← hs r (place hk j)]
      exact congrArg (fun x : EReal => x * _) (Finset.sum_congr rfl fun d _ => by rw [q_apply, ld1 i k x1 j d (place hk j) rfl])
    · intro j d
      rw [vb_apply, ld1 i k x2 j d (place hk j) rfl]; rfl
    · intro r j _ hmem
      have := (mem_selSet.mp hmem).1
      change 64 * k.val + j.val < _ at this
      omega
    · intro r t
      rw [selSet_succ hk]
      simp only [iv01, hM, bs_apply]
  · rw [if_neg hn]
    have e : (fun r => selSet (i 1).val x3 r (k.val + 1)) = fun r => selSet (i 1).val x3 r k.val := by
      funext r; ext t
      rw [selSet_succ hk]
      refine or_iff_left ?_
      rintro ⟨j, ⟨-, h2⟩, -⟩
      have := need_apply i (k0_pay39 x3) k hk hn r
      rw [bs_apply] at this
      exact this h2
    rw [e]; exact h

/-- One trip of the third loop. -/
theorem step3_holds {s : Fin 256 → Fin 2048 → ℝ} (hs : Scores x0 x1 s) (k : Fin (k0_t3_loop i).trips) (a : C6 Ideal)
    (h : Holds x2 s (fun r => selSet (i 1).val x3 r (4 * ((i 1).val - 2) + k.val)) a.1 a.2.1 a.2.2.1)
    (h' : Holds x2 s (fun r => winSet (i 1).val r (4 * ((i 1).val - 2) + k.val)) a.2.2.2.1 a.2.2.2.2.1 a.2.2.2.2.2) :
    Holds x2 s (fun r => selSet (i 1).val x3 r (4 * ((i 1).val - 2) + (k.val + 1)))
      (step3 i (k0_pay38 x0) (k0_pay39 x3) (iota .tc S256x64 32 [1] iota_S256x64_d1_w32) (k0_pay40 i) (iota .tc S256x32 32 [1] iota_S256x32_d1_w32) (w52 i) x1 x2 k a).1
      (step3 i (k0_pay38 x0) (k0_pay39 x3) (iota .tc S256x64 32 [1] iota_S256x64_d1_w32) (k0_pay40 i) (iota .tc S256x32 32 [1] iota_S256x32_d1_w32) (w52 i) x1 x2 k a).2.1
      (step3 i (k0_pay38 x0) (k0_pay39 x3) (iota .tc S256x64 32 [1] iota_S256x64_d1_w32) (k0_pay40 i) (iota .tc S256x32 32 [1] iota_S256x32_d1_w32) (w52 i) x1 x2 k a).2.2.1
    ∧ Holds x2 s (fun r => winSet (i 1).val r (4 * ((i 1).val - 2) + (k.val + 1)))
      (step3 i (k0_pay38 x0) (k0_pay39 x3) (iota .tc S256x64 32 [1] iota_S256x64_d1_w32) (k0_pay40 i) (iota .tc S256x32 32 [1] iota_S256x32_d1_w32) (w52 i) x1 x2 k a).2.2.2.1
      (step3 i (k0_pay38 x0) (k0_pay39 x3) (iota .tc S256x64 32 [1] iota_S256x64_d1_w32) (k0_pay40 i) (iota .tc S256x32 32 [1] iota_S256x32_d1_w32) (w52 i) x1 x2 k a).2.2.2.2.1
      (step3 i (k0_pay38 x0) (k0_pay39 x3) (iota .tc S256x64 32 [1] iota_S256x64_d1_w32) (k0_pay40 i) (iota .tc S256x32 32 [1] iota_S256x32_d1_w32) (w52 i) x1 x2 k a).2.2.2.2.2 := by
  have hi : (i 1).val < 8 := (i 1).isLt
  have hk : 4 * ((i 1).val - 2) + k.val < 32 := by have := t3_trips i; omega
  have hsf : ∀ r j, k0_pay19 (F := Ideal) (k0_pay38 x0) (View.ld x1 (rc3 i k)) (ix2 r j) = ((s r (place hk j) : ℝ) : EReal) := by
    intro r j
    refine (scores_apply _ _ r j).trans ?_
    rw [← hs r (place hk j)]
    exact congrArg (fun x : EReal => x * _) (Finset.sum_congr rfl fun d _ => by rw [q_apply, ld3 i k x1 j d (place hk j) rfl])
  have hvb : ∀ j d, k0_pay18 (F := Ideal) (View.ld x2 (rc3 i k)) (ix2 j d) = col x2 d (place hk j) := by
    intro j d
    refine (vb_apply _ j d).trans ?_
    rw [ld3 i k x2 j d (place hk j) rfl]; rfl
  have hiv : Scf.iv (w52 i) 1#32 k.val = BitVec.ofNat 32 (4 * ((i 1).val - 2) + k.val) := by rw [t3_lb, ivl]
  unfold step3
  constructor
  · have hM (r : Fin 256) (j : Fin 64) : k0_pay22 (F := Ideal) i (k0_pay39 x3) (iota .tc S256x64 32 [1] iota_S256x64_d1_w32) (k0_pay40 i) (iota .tc S256x32 32 [1] iota_S256x32_d1_w32) (w52 i) 1#32 k (ix2 r j) = 1#1
        ↔ 64 * (4 * ((i 1).val - 2) + k.val) + j.val ≤ 256 * (i 1).val + r.val ∧ ((1 / 2 : ℝ) : EReal) < k0_pay39 (F := Ideal) x3 (ix2 r ⟨_, hk⟩) := by
      rw [← selmask_apply i (k0_pay39 x3) ⟨_, hk⟩ r j, ← hiv]
      exact Iff.rfl
    refine h.update hk (sf := k0_pay19 (k0_pay38 x0) (View.ld x1 (rc3 i k))) (vb := k0_pay18 (View.ld x2 (rc3 i k)))
      (M := k0_pay22 (F := Ideal) i (k0_pay39 x3) (iota .tc S256x64 32 [1] iota_S256x64_d1_w32) (k0_pay40 i) (iota .tc S256x32 32 [1] iota_S256x32_d1_w32) (w52 i) 1#32 k)
      (P := k0_pay24 i (k0_pay38 x0) (k0_pay39 x3) (iota .tc S256x64 32 [1] iota_S256x64_d1_w32) (k0_pay40 i) (iota .tc S256x32 32 [1] iota_S256x32_d1_w32) (w52 i) 1#32 k a.1 (View.ld x1 (rc3 i k)))
      hsf hvb ?_ ?_ rfl rfl rfl rfl
    · intro r j _ hmem
      have := (mem_selSet.mp hmem).1
      change 64 * (4 * ((i 1).val - 2) + k.val) + j.val < _ at this
      omega
    · intro r t
      rw [← add_assoc, selSet_succ hk]
      simp only [hM, bs_apply]
  · have h124 (r : Fin 256) (j : Fin 64) : k0_pay20 i (iota .tc S256x64 32 [1] iota_S256x64_d1_w32) (w52 i) 1#32 k (ix2 r j)
        = BitVec.ofNat 32 (64 * (4 * ((i 1).val - 2) + k.val) + j.val) := by
      rw [← word_t, ← hiv]
      pointwise [k0_pay20]
    have hM (r : Fin 256) (j : Fin 64) := winmask_apply i ⟨_, hk⟩ r j _ (h124 r j)
    refine h'.update hk (sf := k0_pay19 (k0_pay38 x0) (View.ld x1 (rc3 i k))) (vb := k0_pay18 (View.ld x2 (rc3 i k)))
      (M := k0_pay52 (k0_pay40 i) (k0_pay20 i (iota .tc S256x64 32 [1] iota_S256x64_d1_w32) (w52 i) 1#32 k) (cmpi .sle (k0_pay20 i (iota .tc S256x64 32 [1] iota_S256x64_d1_w32) (w52 i) 1#32 k) (k0_pay40 i)))
      (P := k0_pay54 (k0_pay40 i) a.2.2.2.1 (k0_pay19 (k0_pay38 x0) (View.ld x1 (rc3 i k))) (k0_pay20 i (iota .tc S256x64 32 [1] iota_S256x64_d1_w32) (w52 i) 1#32 k) (k0_pay21 i (iota .tc S256x64 32 [1] iota_S256x64_d1_w32) (k0_pay40 i) (w52 i) 1#32 k))
      hsf hvb ?_ ?_ rfl rfl rfl rfl
    · intro r j _ hmem
      have := (mem_winSet.mp hmem).1
      change 64 * (4 * ((i 1).val - 2) + k.val) + j.val < _ at this
      omega
    · intro r t
      rw [← add_assoc, winSet_succ hk]
      simp only [hM]

/-- Induction over the trips of a loop. -/
theorem iter_ind {β : Type} {n : ℕ} (f : Fin n → β → β) (a : β) (P : ℕ → β → Prop) (h0 : P 0 a)
    (hs : ∀ (k : Fin n) b, P k.val b → P (k.val + 1) (f k b)) : P n (iter f a n) := by
  have key : ∀ m ≤ n, P m (iter f a m) := by
    intro m
    induction m with
    | zero => exact fun _ => h0
    | succ m ih =>
      intro hm
      rw [iter_succ f a (⟨m, hm⟩ : Fin n)]
      exact hs ⟨m, hm⟩ _ (ih (Nat.le_of_succ_le hm))
  exact key n le_rfl

theorem selSet_zero (J : ℕ) (r : Fin 256) : selSet J x3 r 0 = ∅ :=
  Finset.eq_empty_of_forall_notMem fun t ht => by have := (mem_selSet.mp ht).1; omega

theorem winSet_low (J : ℕ) (r : Fin 256) : winSet J r (4 * (J - 2)) = ∅ :=
  Finset.eq_empty_of_forall_notMem fun t ht => by have := mem_winSet.mp ht; omega

/-- The state before the loops. -/
theorem Holds.start (s : Fin 256 → Fin 2048 → ℝ) {A : Fin 256 → Finset (Fin 2048)} {m l : FVec Ideal S256x1 .f32} {a : FVec Ideal S256x64 .f32}
    (hA : ∀ r, A r = ∅) (hm : ∀ r, m (ix2 r 0) = (⊥ : EReal)) (hl : ∀ r, l (ix2 r 0) = (0 : EReal)) (ha : ∀ r d, a (ix2 r d) = (0 : EReal)) :
    Holds x2 s A m l a := by
  intro r d
  rw [hA, hm, hl, ha]
  exact FlashMath.IsSt.init _ _

/-- The first loop. -/
theorem res1_holds {s : Fin 256 → Fin 2048 → ℝ} (hs : Scores x0 x1 s) :
    Holds x2 s (fun r => selSet (i 1).val x3 r (4 * ((i 1).val - 2))) (res1 i x0 x1 x2 x3).1 (res1 i x0 x1 x2 x3).2.1 (res1 i x0 x1 x2 x3).2.2 := by
  have := iter_ind (step1 i (k0_pay38 x0) (k0_pay39 x3) (iota .tc S256x64 32 [1] iota_S256x64_d1_w32) (k0_pay40 i) (iota .tc S256x32 32 [1] iota_S256x32_d1_w32) x1 x2)
    (k0_pay41, k0_pay42, k0_pay43) (fun n a => Holds x2 s (fun r => selSet (i 1).val x3 r n) a.1 a.2.1 a.2.2)
    (Holds.start s (fun r => selSet_zero _ r) (fun r => mask_eq) (fun r => Ideal.ofBits_zero_f32) (fun r d => Ideal.ofBits_zero_f32))
    (fun k a h => step1_holds i hs k a h)
  rw [← t1_trips i]
  exact this

/-- The third loop. -/
theorem res3_holds {s : Fin 256 → Fin 2048 → ℝ} (hs : Scores x0 x1 s) :
    Holds x2 s (fun r => selSet (i 1).val x3 r (4 * (i 1).val + 4)) (res3 i x0 x1 x2 x3).1 (res3 i x0 x1 x2 x3).2.1 (res3 i x0 x1 x2 x3).2.2.1
    ∧ Holds x2 s (fun r => winSet (i 1).val r (4 * (i 1).val + 4)) (res3 i x0 x1 x2 x3).2.2.2.1 (res3 i x0 x1 x2 x3).2.2.2.2.1 (res3 i x0 x1 x2 x3).2.2.2.2.2 := by
  have := iter_ind (step3 i (k0_pay38 x0) (k0_pay39 x3) (iota .tc S256x64 32 [1] iota_S256x64_d1_w32) (k0_pay40 i) (iota .tc S256x32 32 [1] iota_S256x32_d1_w32) (w52 i) x1 x2)
    ((res1 i x0 x1 x2 x3).1, (res1 i x0 x1 x2 x3).2.1, (res1 i x0 x1 x2 x3).2.2, k0_pay44, k0_pay45, k0_pay46)
    (fun n a => Holds x2 s (fun r => selSet (i 1).val x3 r (4 * ((i 1).val - 2) + n)) a.1 a.2.1 a.2.2.1
      ∧ Holds x2 s (fun r => winSet (i 1).val r (4 * ((i 1).val - 2) + n)) a.2.2.2.1 a.2.2.2.2.1 a.2.2.2.2.2)
    ⟨res1_holds i hs, Holds.start s (fun r => winSet_low _ r) (fun r => mask_eq) (fun r => Ideal.ofBits_zero_f32) (fun r d => Ideal.ofBits_zero_f32)⟩
    (fun k a h => step3_holds i hs k a h.1 h.2)
  have e : 4 * (i 1).val + 4 = 4 * ((i 1).val - 2) + (k0_t3_loop i).trips := by rw [t3_trips]; omega
  rw [e]
  exact this

end Block

end Cert.Proof.FlashIdeal

end
-- ==== Proof.FlashBlock2.lean ====
/-
  What a grid point of `FlashIdeal` writes, element by element: the three gated branches.
-/
module

public import proofs.«01_k».proof.Proof.FlashBlock

@[expose] public section

set_option maxRecDepth 16384

noncomputable section

namespace Cert.Proof.FlashIdeal

open Cert.FlashIdeal Cert.FlashIdeal.Gen
open Idealize.ShloMosaic Idealize.ShloMosaic.TcCoe

/-- A sum over the lanes that keeps lane `n` alone. -/
theorem lane_sum (n : ℕ) (hn : n < 128) (f : Fin 128 → EReal) :
    (∑ k : Fin 128, Scalar.select (IntOp.cmpi .eq (BitVec.ofNat 32 k.val) (BitVec.ofNat 32 n)) (f k) 0) = f ⟨n, hn⟩ := by
  rw [Finset.sum_eq_single (⟨n, hn⟩ : Fin 128)]
  · exact if_pos (by simp [IntOp.cmpi])
  · intro k _ hk
    refine if_neg fun h => hk (Fin.ext ?_)
    have h1 : BitVec.ofNat 32 k.val = BitVec.ofNat 32 n := by
      by_contra hne
      have e : (BitVec.ofNat 32 k.val == BitVec.ofNat 32 n) = false := beq_eq_false_iff_ne.mpr hne
      change BitVec.ofBool (BitVec.ofNat 32 k.val == BitVec.ofNat 32 n) = 1#1 at h
      rw [e] at h
      exact absurd h (by decide)
    have h2 := congrArg BitVec.toNat h1
    rw [BitVec.toNat_ofNat, BitVec.toNat_ofNat, Nat.mod_eq_of_lt (by omega), Nat.mod_eq_of_lt (by omega)] at h2
    exact h2
  · exact fun h => absurd (Finset.mem_univ _) h

/-- A gate: the logistic of a row of queries against a column of the gates' weights. -/
def gate (q w : Fin 64 → EReal) : EReal := Ideal.div 1 (1 + Ideal.exp (-∑ k, q k * w k))

theorem pay1_apply (v2 v70 v74 : FVec Ideal S256x64 .f32) (v76 : FVec Ideal S64x128 .f32) (v98 : Vec Ideal S1x256x64 .f32) (r : Fin 256) (d : Fin 64) :
    k0_pay1 v2 v70 v74 v76 v98 (ix3 0 r d)
      = gate (fun k => v2 (ix2 r k)) (fun k => v76 (ix2 k 0)) * v98 (ix3 0 r d)
        + gate (fun k => v2 (ix2 r k)) (fun k => v76 (ix2 k 1)) * v70 (ix2 r d)
        + gate (fun k => v2 (ix2 r k)) (fun k => v76 (ix2 k 2)) * v74 (ix2 r d) := by
  pointwise [k0_pay1]
  have e0 := lane_sum 0 (by omega) fun x => Ideal.logistic (∑ k, v2 (ix2 r k) * v76 (ix2 k x))
  have e1 := lane_sum 1 (by omega) fun x => Ideal.logistic (∑ k, v2 (ix2 r k) * v76 (ix2 k x))
  have e2 := lane_sum 2 (by omega) fun x => Ideal.logistic (∑ k, v2 (ix2 r k) * v76 (ix2 k x))
  rw [e0, e1, e2]
  rfl

theorem pay65_apply (l : FVec Ideal S256x1 .f32) (a : FVec Ideal S256x64 .f32) (r : Fin 256) (d : Fin 64) :
    k0_pay65 l a (ix2 r d) = Ideal.div (a (ix2 r d)) (max (l (ix2 r 0)) (Ideal.ofBits .f32 0x0DA24260#32)) := by
  pointwise [k0_pay65]

theorem pay66_apply (l : FVec Ideal S256x1 .f32) (a : FVec Ideal S256x64 .f32) (r : Fin 256) (d : Fin 64) :
    k0_pay66 l a (ix2 r d) = Ideal.div (a (ix2 r d)) (max (l (ix2 r 0)) (Ideal.ofBits .f32 0x0DA24260#32)) := by
  pointwise [k0_pay66]

/-- The divisor's floor is at most one. -/
theorem floor_le : Ideal.ofBits .f32 0x0DA24260#32 ≤ (1 : EReal) := by
  simp [Ideal.ofBits, Ideal.ieee, -EReal.coe_mul]
  rw [← EReal.coe_one, EReal.coe_le_coe_iff]
  norm_num

/-- What a grid point writes: the compressed branch, the selected branch and the window, each times its gate. -/
theorem val_apply (i : grid0.Coords) (x0 : Vec Ideal S1x256x64 .f32) (x1 x2 : Vec Ideal S1x2048x64 .f32) (x3 : Vec Ideal S1x256x32 .f32)
    (x4 : Vec Ideal S1x256x64 .f32) (x5 : Vec Ideal S64x128 .f32) {s : Fin 256 → Fin 2048 → ℝ} (hs : Scores x0 x1 s) (r : Fin 256) (d : Fin 64)
    (hA : (selSet (i 1).val x3 r (4 * (i 1).val + 4)).Nonempty) (hW : (winSet (i 1).val r (4 * (i 1).val + 4)).Nonempty) :
    val i x0 x1 x2 x3 x4 x5 (ix3 0 r d)
      = gate (fun k => x0 (ix3 0 r k)) (fun k => x5 (ix2 k 0)) * x4 (ix3 0 r d)
        + gate (fun k => x0 (ix3 0 r k)) (fun k => x5 (ix2 k 1)) * FlashMath.mean (s r) (col x2 d) (selSet (i 1).val x3 r (4 * (i 1).val + 4))
        + gate (fun k => x0 (ix3 0 r k)) (fun k => x5 (ix2 k 2)) * FlashMath.mean (s r) (col x2 d) (winSet (i 1).val r (4 * (i 1).val + 4)) := by
  have h := res3_holds i (x3 := x3) (x2 := x2) hs
  unfold val
  rw [pay1_apply, pay65_apply, pay66_apply, (h.1 r d).finish hA floor_le, (h.2 r d).finish hW floor_le]
  have e5 (k : Fin 64) (n : Fin 128) : k0_pay67 (F := Ideal) x5 (ix2 k n) = x5 (ix2 k n) := by pointwise [k0_pay67]
  simp only [q_apply, e5]

end Cert.Proof.FlashIdeal

end
-- ==== Proof.FlashRefRead.lean ====
/-
  The reference of the attention call, read at an index.
-/
module

public import proofs.«01_k».proof.Proof.Gen.FlashRefIdeal.Read
public import proofs.«01_k».proof.Proof.FlashMath
public import Idealize.ShloMosaic.Lib.Pointwise
public import Idealize.ShloMosaic.Lib.WordCmp
public import Idealize.ShloMosaic.Lib.WordArith

@[expose] public section

set_option maxRecDepth 16384

noncomputable section

namespace Cert.Proof.FlashRef

open Cert.FlashRefIdeal Cert.FlashRefIdeal.Read
open Idealize.ShloMosaic

variable (x0 : (⟨S2048x1024, .f32⟩ : BufTy).Contents (Elt Ideal)) (x1 x2 : (⟨S2048x256, .f32⟩ : BufTy).Contents (Elt Ideal))
  (x3 : (⟨S4x2048x32, .f32⟩ : BufTy).Contents (Elt Ideal)) (x4 : (⟨S4x4x2048x64, .f32⟩ : BufTy).Contents (Elt Ideal)) (x5 : (⟨S64x3, .f32⟩ : BufTy).Contents (Elt Ideal))

/-- The queries by groups and heads. -/
abbrev heads := val_main_v1 x0

/-- The keys, or the values, by groups. -/
abbrev groups := val_main_v3 x1

/-- A head of a group. -/
def head (g h : Fin 4) : Fin 16 := ⟨g.val * 4 + h.val, by omega⟩

/-- The words the reference divides places by blocks with. -/
def blockWord (x : BitVec 32) : BitVec 32 :=
  Scalar.select (IntOp.andi (IntOp.cmpi .ne (if x = 0 then (0 : BitVec 32) else if x.msb = true then -1 else 1) (if (64#32 : BitVec 32) = 0 then (0 : BitVec 32) else if (64#32 : BitVec 32).msb = true then -1 else 1))
      (IntOp.cmpi .ne (IntOp.remsi .host x 64#32) 0#32))
    (IntOp.subi (IntOp.divsi .host x 64#32) 1#32) (IntOp.divsi .host x 64#32)

theorem blockWord_eq : ∀ t : Fin 2048, blockWord (BitVec.ofNat 32 t.val) = BitVec.ofNat 32 (t.val / 64) := by decide +kernel

/-- The block of a place. -/
theorem v7_read (t : Fin 2048) : val_main_v7 (F := Ideal) (ix1 t) = BitVec.ofNat 32 (t.val / 64) := by
  rw [← blockWord_eq]
  pointwise [val_main_v7, val_main_call0_v13, val_main_call0_v12, val_main_call0_c_0, val_main_call0_v11, val_main_call0_v10, val_main_call0_v9, val_main_call0_c, val_main_call0_v8, val_main_call0_v7, val_main_call0_v6, val_main_call0_v5,
    val_main_call0_v4, val_main_call0_v3, val_main_call0_v2, val_main_call0_v1, val_main_call0_v0, val_main_c, val_main_v6, signi]
  rfl

theorem takeWord_eq : ∀ b : Fin 32, Scalar.select (IntOp.cmpi .slt (BitVec.ofNat 32 b.val) 0#32) (IntOp.addi (BitVec.ofNat 32 b.val) 32#32) (BitVec.ofNat 32 b.val) = BitVec.ofNat 32 b.val := by decide +kernel

theorem boundWord_eq : ∀ b : Fin 32, IntOp.andi (IntOp.cmpi .sge (BitVec.ofNat 32 b.val) 0#32) (IntOp.cmpi .sle (BitVec.ofNat 32 b.val) 31#32) = 1#1 := by decide +kernel

/-- The index the selection is taken at. -/
theorem c1v5_read (t : Fin 2048) (z : Fin 1) : val_main_call1_v5 (F := Ideal) (ix2 t z) = BitVec.ofNat 32 (t.val / 64) := by
  have e := takeWord_eq ⟨t.val / 64, by omega⟩
  pointwise [val_main_call1_v5, val_main_call1_v4, val_main_call1_v3, val_main_call1_v2, val_main_call1_c_0, val_main_call1_v1, val_main_call1_v0, val_main_call1_c]
  rw [v7_read]
  exact e

/-- Every index is in bounds. -/
theorem c1v12_read (t : Fin 2048) : val_main_call1_v12 (F := Ideal) (ix1 t) = 1#1 := by
  have e := boundWord_eq ⟨t.val / 64, by omega⟩
  pointwise [val_main_call1_v12, val_main_call1_v11, val_main_call1_v10, val_main_call1_v9, val_main_call1_v8, val_main_call1_v7, val_main_call1_v6, val_main_call1_c_1, val_main_call1_c_2, val_main_call1_c_3]
  rw [show (Finset.univ : Finset (Fin 1)) = {0} from rfl, Finset.fold_singleton, c1v5_read, e]
  rfl

/-- The dimension numbers of the taking. -/
abbrev D : GatherDims S4x2048x32 S2048x1 S4x2048x2048 := gather_S4x2048x32_S2048x1_S4x2048x2048_01_2_n_n_2_1_420481

/-- Taking blocks of a selection along its last axis. -/
theorem take_read (x : S4x2048x32.Idx → BitVec 1) (idx : IVec S2048x1 32) (g : Fin 4) (r t : Fin 2048) (b : Fin 32) (hb : idx (ix2 t 0) = BitVec.ofNat 32 b.val) :
    Host.gather gather_S4x2048x32_S2048x1_S4x2048x2048_01_2_n_n_2_1_420481 x idx (ix3 g r t) = x (ix3 g r b) := by
  unfold Host.gather
  refine congrArg x (funext fun a => Fin.ext ?_)
  match a with
  | ⟨0, _⟩ =>
    show D.start (ix3 g r t) idx 0 + D.batchCoord (ix3 g r t) 0 + D.offCoord (ix3 g r t) 0 = g.val
    rw [D.batchCoord_eq_zero _ _ (List.not_mem_nil)]
    unfold GatherDims.start GatherDims.offCoord
    rw [dif_neg (show (0 : Fin 3) ∉ D.startIndexMap from (by decide : (0 : Fin 3) ∉ [(2 : Fin 3)])), dif_pos ((D.mem_sKept 0).2 ⟨show (0 : Fin 3) ∉ [(2 : Fin 3)] by decide, List.not_mem_nil⟩)]
    simp only [Nat.zero_add]
    rfl
  | ⟨1, _⟩ =>
    show D.start (ix3 g r t) idx 1 + D.batchCoord (ix3 g r t) 1 + D.offCoord (ix3 g r t) 1 = r.val
    rw [D.batchCoord_eq_zero _ _ (List.not_mem_nil)]
    unfold GatherDims.start GatherDims.offCoord
    rw [dif_neg (show (1 : Fin 3) ∉ D.startIndexMap from (by decide : (1 : Fin 3) ∉ [(2 : Fin 3)])), dif_pos ((D.mem_sKept 1).2 ⟨show (1 : Fin 3) ∉ [(2 : Fin 3)] by decide, List.not_mem_nil⟩)]
    simp only [Nat.zero_add]
    rfl
  | ⟨2, _⟩ =>
    have hsi : D.siIdx (ix3 g r t) ⟨0, by decide⟩ = ix2 t 0 := by
      funext b'
      match b' with
      | ⟨0, _⟩ => rfl
      | ⟨1, _⟩ => rfl
    show D.start (ix3 g r t) idx 2 + D.batchCoord (ix3 g r t) 2 + D.offCoord (ix3 g r t) 2 = b.val
    rw [D.batchCoord_eq_zero _ _ (List.not_mem_nil), D.offCoord_eq_zero _ _ (fun h => ((D.mem_sKept 2).1 h).1 (show (2 : Fin 3) ∈ [(2 : Fin 3)] by decide))]
    unfold GatherDims.start
    rw [dif_pos (show (2 : Fin 3) ∈ D.startIndexMap from (by decide : (2 : Fin 3) ∈ [(2 : Fin 3)]))]
    show min (idx (D.siIdx (ix3 g r t) ⟨0, by decide⟩)).toInt.toNat 31 + 0 + 0 = b.val
    rw [hsi, hb, WordArith.toInt_ofNat_small _ (by omega)]
    omega

/-- A place is selected where its block is. -/
theorem v10_read (g : Fin 4) (r t : Fin 2048) : val_main_v10 x3 (ix3 g r t) = 1#1 ↔ ((1 / 2 : ℝ) : EReal) < x3 (ix3 g r ⟨t.val / 64, by omega⟩) := by
  have e := take_read (val_main_v9 x3) val_main_call1_v5 g r t ⟨t.val / 64, by omega⟩ (c1v5_read t 0)
  have e2 : val_main_v10 x3 (ix3 g r t) = val_main_v9 x3 (ix3 g r ⟨t.val / 64, by omega⟩) := by
    rw [← e]
    pointwise [val_main_v10, val_main_call1_v15, val_main_call1_c_4, val_main_call1_v14, val_main_call1_v13]
    rw [c1v12_read]
    rfl
  have eh : Ideal.ofBits .f32 0x3F000000#32 = ((1 / 2 : ℝ) : EReal) := by
    simp [Ideal.ofBits, Ideal.ieee, -EReal.coe_mul]; norm_num
  rw [e2]
  pointwise [val_main_v9, val_main_v8, val_main_cst, eh]
  simp [WordArith.ofBool_eq_one_iff]

/-- The scaled scores. -/
theorem v18_read (g h : Fin 4) (r t : Fin 2048) :
    val_main_v18 x0 x1 (ix4 g h r t) = (∑ d : Fin 64, heads x0 (ix4 g h r d) * groups x1 (ix3 g t d)) * Ideal.ofBits .f32 0x3E000000#32 := by
  pointwise [val_main_v18, val_main_v16, val_main_v17, val_main_cst_0]

/-- The causal mask. -/
theorem v15_read (r t : Fin 2048) : val_main_v15 (F := Ideal) (ix2 r t) = 1#1 ↔ t.val ≤ r.val := by
  pointwise [val_main_v15, val_main_v14, val_main_v13, val_main_v12, val_main_v11, val_main_v6]
  rw [WordCmp.cmpi_sge_ofNat_eq_one_iff (by omega) (by omega)]

/-- The window's mask. -/
theorem v43_read (r t : Fin 2048) : val_main_v43 (F := Ideal) (ix2 r t) = 1#1 ↔ t.val ≤ r.val ∧ r.val < t.val + 512 := by
  rw [← v15_read]
  pointwise [val_main_v43, val_main_v42, val_main_v41, val_main_v40, val_main_v39, val_main_v38, val_main_c_5, val_main_v37, val_main_v36, val_main_v6]
  rw [IntOp.andi_eq_one]
  refine and_congr_right fun _ => ?_
  rw [WordCmp.cmpi_sgt_eq, WordArith.ofBool_eq_one_iff, decide_eq_true_eq, WordArith.toInt_subi_of_nonneg, WordArith.toInt_ofNat_small r.val (by omega), WordArith.toInt_ofNat_small 512 (by omega)]
  · rw [WordArith.toInt_ofNat_small t.val (by omega)]
    omega
  · rw [WordArith.toInt_ofNat_small _ (by omega)]; omega
  · decide

/-- A masked row of the selected branch. -/
theorem v23_read (g h : Fin 4) (r t : Fin 2048) :
    val_main_v23 x0 x1 x3 (ix4 g h r t) = if val_main_v10 x3 (ix3 g r t) = 1#1 ∧ val_main_v15 (F := Ideal) (ix2 r t) = 1#1 then val_main_v18 x0 x1 (ix4 g h r t) else ⊥ := by
  have eb : (id (constant (F := Ideal) S_ FTy.f32 0xFF800000#32) ix0 : EReal) = ⊥ := by
    show Ideal.ofBits .f32 0xFF800000#32 = ⊥
    simp [Ideal.ofBits, Ideal.ieee]
  pointwise [val_main_v23, val_main_call2_v2, val_main_call2_v1, val_main_call2_v0, val_main_cst_1, val_main_v22, val_main_v21, val_main_v20, val_main_v19]
  rw [eb]
  exact if_congr IntOp.andi_eq_one rfl rfl

/-- A masked row of the window. -/
theorem v45_read (g h : Fin 4) (r t : Fin 2048) :
    val_main_v45 x0 x1 (ix4 g h r t) = if val_main_v43 (F := Ideal) (ix2 r t) = 1#1 then val_main_v18 x0 x1 (ix4 g h r t) else ⊥ := by
  have eb : (id (constant (F := Ideal) S_ FTy.f32 0xFF800000#32) ix0 : EReal) = ⊥ := by
    show Ideal.ofBits .f32 0xFF800000#32 = ⊥
    simp [Ideal.ofBits, Ideal.ieee]
  pointwise [val_main_v45, val_main_call3_v2, val_main_call3_v1, val_main_call3_v0, val_main_cst_6, val_main_v44]
  rw [eb]
  rfl

end Cert.Proof.FlashRef

end
-- ==== Proof.FlashRefSoft.lean ====
/-
  The reference of the attention call, read at an index: the two softmaxes, the gates and the result.
-/
module

public import proofs.«01_k».proof.Proof.FlashRefRead

@[expose] public section

set_option maxRecDepth 16384

noncomputable section

namespace Cert.Proof.FlashRef

open Cert.FlashRefIdeal Cert.FlashRefIdeal.Read
open Idealize.ShloMosaic

variable (x0 : (⟨S2048x1024, .f32⟩ : BufTy).Contents (Elt Ideal)) (x1 x2 : (⟨S2048x256, .f32⟩ : BufTy).Contents (Elt Ideal))
  (x3 : (⟨S4x2048x32, .f32⟩ : BufTy).Contents (Elt Ideal)) (x4 : (⟨S4x4x2048x64, .f32⟩ : BufTy).Contents (Elt Ideal)) (x5 : (⟨S64x3, .f32⟩ : BufTy).Contents (Elt Ideal))

theorem ninf_eq : Ideal.ofBits .f32 0xFF800000#32 = (⊥ : EReal) := by simp [Ideal.ofBits, Ideal.ieee]

/-- The row's maximum, as the softmax takes it. -/
def top (x : Fin 2048 → EReal) : EReal := max ⊥ (Finset.univ.fold max ⊥ x)

theorem v24_read (g h : Fin 4) (r : Fin 2048) :
    val_main_v24 x0 x1 x3 (ix3 g h r) = Finset.univ.fold max (Ideal.ofBits .f32 0xFF800000#32) (fun t => val_main_v23 x0 x1 x3 (ix4 g h r t)) := by
  pointwise [val_main_v24, val_main_cst_2]

theorem v25_read (g h : Fin 4) (r : Fin 2048) : val_main_v25 (F := Ideal) (ix3 g h r) = Ideal.ofBits .f32 0xFF800000#32 := by
  pointwise [val_main_v25, val_main_cst_3]

theorem v26_read (g h : Fin 4) (r : Fin 2048) : val_main_v26 x0 x1 x3 (ix3 g h r) = top fun t => val_main_v23 x0 x1 x3 (ix4 g h r t) := by
  unfold top
  rw [val_main_v26_apply, v24_read, v25_read, ninf_eq]
  rfl

theorem v46_read (g h : Fin 4) (r : Fin 2048) :
    val_main_v46 x0 x1 (ix3 g h r) = Finset.univ.fold max (Ideal.ofBits .f32 0xFF800000#32) (fun t => val_main_v45 x0 x1 (ix4 g h r t)) := by
  pointwise [val_main_v46, val_main_cst_7]

theorem v47_read (g h : Fin 4) (r : Fin 2048) : val_main_v47 (F := Ideal) (ix3 g h r) = Ideal.ofBits .f32 0xFF800000#32 := by
  pointwise [val_main_v47, val_main_cst_8]

theorem v48_read (g h : Fin 4) (r : Fin 2048) : val_main_v48 x0 x1 (ix3 g h r) = top fun t => val_main_v45 x0 x1 (ix4 g h r t) := by
  unfold top
  rw [val_main_v48_apply, v46_read, v47_read, ninf_eq]
  rfl

theorem v30_read (g h : Fin 4) (r t : Fin 2048) : val_main_v30 x0 x1 x3 (ix4 g h r t) = Ideal.exp (val_main_v23 x0 x1 x3 (ix4 g h r t) - top fun t => val_main_v23 x0 x1 x3 (ix4 g h r t)) := by
  rw [← v26_read]
  pointwise [val_main_v30, val_main_v29, val_main_v28, val_main_v27]

theorem v52_read (g h : Fin 4) (r t : Fin 2048) : val_main_v52 x0 x1 (ix4 g h r t) = Ideal.exp (val_main_v45 x0 x1 (ix4 g h r t) - top fun t => val_main_v45 x0 x1 (ix4 g h r t)) := by
  rw [← v48_read]
  pointwise [val_main_v52, val_main_v51, val_main_v50, val_main_v49]

theorem v31_read (g h : Fin 4) (r : Fin 2048) : val_main_v31 x0 x1 x3 (ix3 g h r) = 0 + ∑ t, val_main_v30 x0 x1 x3 (ix4 g h r t) := by
  rw [val_main_v31_apply]
  exact congrArg₂ (· + ·) Ideal.ofBits_zero_f32 (Finset.sum_congr rfl fun k _ => congrArg _ (funext fun a => by match a with | ⟨0, _⟩ => rfl | ⟨1, _⟩ => rfl | ⟨2, _⟩ => rfl | ⟨3, _⟩ => rfl))

theorem v53_read (g h : Fin 4) (r : Fin 2048) : val_main_v53 x0 x1 (ix3 g h r) = 0 + ∑ t, val_main_v52 x0 x1 (ix4 g h r t) := by
  rw [val_main_v53_apply]
  exact congrArg₂ (· + ·) Ideal.ofBits_zero_f32 (Finset.sum_congr rfl fun k _ => congrArg _ (funext fun a => by match a with | ⟨0, _⟩ => rfl | ⟨1, _⟩ => rfl | ⟨2, _⟩ => rfl | ⟨3, _⟩ => rfl))

theorem v34_read (g h : Fin 4) (r t : Fin 2048) : val_main_v34 x0 x1 x3 (ix4 g h r t) = Ideal.div (val_main_v30 x0 x1 x3 (ix4 g h r t)) (val_main_v31 x0 x1 x3 (ix3 g h r)) := by
  pointwise [val_main_v34, val_main_v33, val_main_v32]

theorem v56_read (g h : Fin 4) (r t : Fin 2048) : val_main_v56 x0 x1 (ix4 g h r t) = Ideal.div (val_main_v52 x0 x1 (ix4 g h r t)) (val_main_v53 x0 x1 (ix3 g h r)) := by
  pointwise [val_main_v56, val_main_v55, val_main_v54]

/-- The selected branch is the mean of the values under the selected causal keys' softmax. -/
theorem v35_read (g h : Fin 4) (r : Fin 2048) (d : Fin 64) (s : Fin 2048 → ℝ) (hs : ∀ t, val_main_v18 x0 x1 (ix4 g h r t) = ((s t : ℝ) : EReal))
    (A : Finset (Fin 2048)) (hA : A.Nonempty) (hm : ∀ t : Fin 2048, t ∈ A ↔ t.val ≤ r.val ∧ ((1 / 2 : ℝ) : EReal) < x3 (ix3 g r ⟨t.val / 64, by omega⟩)) :
    val_main_v35 x0 x1 x2 x3 (ix4 g h r d) = FlashMath.mean s (fun t => groups x2 (ix3 g t d)) A := by
  have e : val_main_v35 x0 x1 x2 x3 (ix4 g h r d) = ∑ t, val_main_v34 x0 x1 x3 (ix4 g h r t) * groups x2 (ix3 g t d) := by
    rw [val_main_v35_apply]
    exact Finset.sum_congr rfl fun k _ => congrArg₂ (· * ·) (congrArg _ (funext fun a => by match a with | ⟨0, _⟩ => rfl | ⟨1, _⟩ => rfl | ⟨2, _⟩ => rfl | ⟨3, _⟩ => rfl)) (congrArg (groups x2) (funext fun a => by match a with | ⟨0, _⟩ => rfl | ⟨1, _⟩ => rfl | ⟨2, _⟩ => rfl))
  refine e.trans (Eq.trans (Finset.sum_congr rfl fun t _ => ?_) (FlashMath.softmax_mean A hA (fun t => val_main_v23 x0 x1 x3 (ix4 g h r t)) ?_))
  · rw [v34_read, v31_read]
    simp only [v30_read, top]
  · intro t
    rw [v23_read, hs]
    refine if_congr ?_ rfl rfl
    rw [hm, and_comm, v10_read, v15_read]

/-- The window is the mean of the values under its keys' softmax. -/
theorem v57_read (g h : Fin 4) (r : Fin 2048) (d : Fin 64) (s : Fin 2048 → ℝ) (hs : ∀ t, val_main_v18 x0 x1 (ix4 g h r t) = ((s t : ℝ) : EReal))
    (A : Finset (Fin 2048)) (hA : A.Nonempty) (hm : ∀ t : Fin 2048, t ∈ A ↔ t.val ≤ r.val ∧ r.val < t.val + 512) :
    val_main_v57 x0 x1 x2 (ix4 g h r d) = FlashMath.mean s (fun t => groups x2 (ix3 g t d)) A := by
  have e : val_main_v57 x0 x1 x2 (ix4 g h r d) = ∑ t, val_main_v56 x0 x1 (ix4 g h r t) * groups x2 (ix3 g t d) := by
    rw [val_main_v57_apply]
    exact Finset.sum_congr rfl fun k _ => congrArg₂ (· * ·) (congrArg _ (funext fun a => by match a with | ⟨0, _⟩ => rfl | ⟨1, _⟩ => rfl | ⟨2, _⟩ => rfl | ⟨3, _⟩ => rfl)) (congrArg (groups x2) (funext fun a => by match a with | ⟨0, _⟩ => rfl | ⟨1, _⟩ => rfl | ⟨2, _⟩ => rfl))
  refine e.trans (Eq.trans (Finset.sum_congr rfl fun t _ => ?_) (FlashMath.softmax_mean A hA (fun t => val_main_v45 x0 x1 (ix4 g h r t)) ?_))
  · rw [v56_read, v53_read]
    simp only [v52_read, top]
  · intro t
    rw [v45_read, hs]
    exact if_congr ((v43_read r t).trans (hm t).symm) rfl rfl

/-- A gate. -/
theorem v64_read (g h : Fin 4) (r : Fin 2048) (k : Fin 3) :
    val_main_v64 x0 x5 (ix4 g h r k) = Ideal.div 1 (1 + Ideal.exp (-∑ d, heads x0 (ix4 g h r d) * x5 (ix2 d k))) := by
  pointwise [val_main_v64, val_main_v63, val_main_cst_11, val_main_v62, val_main_v61, val_main_cst_10, val_main_v60, val_main_v59, val_main_v58]

/-- The result: the three branches, each times its gate. -/
theorem v76_read (g h : Fin 4) (r : Fin 2048) (d : Fin 64) : val_main_v76 x0 x1 x2 x3 x4 x5 (ix3 (head g h) r d)
    = val_main_v64 x0 x5 (ix4 g h r 0) * x4 (ix4 g h r d) + val_main_v64 x0 x5 (ix4 g h r 1) * val_main_v35 x0 x1 x2 x3 (ix4 g h r d)
      + val_main_v64 x0 x5 (ix4 g h r 2) * val_main_v57 x0 x1 x2 (ix4 g h r d) := by
  have e : val_main_v76 x0 x1 x2 x3 x4 x5 (ix3 ⟨g.val * 4 + h.val, by omega⟩ r d) = val_main_v75 x0 x1 x2 x3 x4 x5 (ix4 g h r d) := by pointwise [val_main_v76]
  refine e.trans ?_
  pointwise [val_main_v75, val_main_v74, val_main_v73, val_main_v72, val_main_v71, val_main_v70, val_main_v69, val_main_v68, val_main_v67, val_main_v66, val_main_v65]

end Cert.Proof.FlashRef

end
-- ==== Proof.FlashEq.lean ====
/-
  The value a grid point of `FlashIdeal` writes is the reference's, element by element, when its blocks are the arrays'.
-/
module

public import proofs.«01_k».proof.Proof.FlashBlock2
public import proofs.«01_k».proof.Proof.FlashRefSoft

@[expose] public section

set_option maxRecDepth 16384

noncomputable section

namespace Cert.Proof.FlashEq

open Idealize.ShloMosaic
open Cert.Proof.FlashRef (head heads groups)

/-- The word of an eighth denotes an eighth. -/
theorem ofBits_eighth : Ideal.ofBits .f32 0x3E000000#32 = ((1 / 8 : ℝ) : EReal) := by
  simp [Ideal.ofBits, Ideal.ieee, -EReal.coe_mul]; norm_num

/-- The place of row `r` of block `J` of rows. -/
def place (J : Fin 8) (r : Fin 256) : Fin 2048 := ⟨256 * J.val + r.val, by omega⟩

/-- The scaled product of two real vectors is real. -/
theorem score_real {q k : Fin 64 → EReal} (hq : ∀ d, ∃ x : ℝ, q d = x) (hk : ∀ d, ∃ x : ℝ, k d = x) :
    ∃ s : ℝ, (∑ d, q d * k d) * Ideal.ofBits .f32 0x3E000000#32 = ((s : ℝ) : EReal) := by
  choose a ha using hq
  choose b hb using hk
  refine ⟨(∑ d, a d * b d) * (1 / 8), ?_⟩
  rw [ofBits_eighth, EReal.coe_mul]
  congr 1
  rw [Finset.sum_congr rfl fun d _ => show q d * k d = ((a d * b d : ℝ) : EReal) by rw [ha, hb, EReal.coe_mul]]
  exact (map_sum (⟨⟨Real.toEReal, rfl⟩, EReal.coe_add⟩ : ℝ →+ EReal) (fun d => a d * b d) Finset.univ).symm

section
variable (a0 : Vec Ideal ⟨2, ![2048, 1024]⟩ .f32) (a1 a2 : Vec Ideal ⟨2, ![2048, 256]⟩ .f32)
  (a3 : Vec Ideal ⟨3, ![4, 2048, 32]⟩ .f32) (a4 : Vec Ideal ⟨4, ![4, 4, 2048, 64]⟩ .f32) (a5 : Vec Ideal ⟨2, ![64, 3]⟩ .f32)

/-- What the precondition says: queries and keys are real, and each row's own block is selected. -/
structure Good : Prop where
  q : ∀ i, ∃ x : ℝ, a0 i = x
  k : ∀ i, ∃ x : ℝ, a1 i = x
  own : ∀ (g : Fin 4) (r : Fin 2048), ((1 / 2 : ℝ) : EReal) < a3 (ix3 g r ⟨r.val / 64, by omega⟩)

variable {a0 a1 a2 a3 a4 a5}

theorem Good.q_heads (H : Good a0 a1 a3) (i : Cert.FlashRefIdeal.S4x4x2048x64.Idx) : ∃ x : ℝ, heads a0 i = x := H.q _

theorem Good.k_groups (H : Good a0 a1 a3) (i : Cert.FlashRefIdeal.S4x2048x64.Idx) : ∃ x : ℝ, groups a1 i = x := H.k _

theorem point_eq (H : Good a0 a1 a3) (i : Cert.FlashIdeal.grid0.Coords) (J : Fin 8) (hJ : (i 1).val = J.val) (g h : Fin 4)
    {x0 : Vec Ideal ⟨3, ![1, 256, 64]⟩ .f32} {x1 x2 : Vec Ideal ⟨3, ![1, 2048, 64]⟩ .f32} {x3 : Vec Ideal ⟨3, ![1, 256, 32]⟩ .f32}
    {x4 : Vec Ideal ⟨3, ![1, 256, 64]⟩ .f32} {x5 : Vec Ideal ⟨2, ![64, 128]⟩ .f32}
    (h0 : ∀ r d, x0 (ix3 0 r d) = heads a0 (ix4 g h (place J r) d)) (h1 : ∀ t d, x1 (ix3 0 t d) = groups a1 (ix3 g t d))
    (h2 : ∀ t d, x2 (ix3 0 t d) = groups a2 (ix3 g t d)) (h3 : ∀ r b, x3 (ix3 0 r b) = a3 (ix3 g (place J r) b))
    (h4 : ∀ r d, x4 (ix3 0 r d) = a4 (ix4 g h (place J r) d))
    (h5 : ∀ (k : Fin 64) (j : Fin 3), x5 (ix2 k ⟨j.val, by omega⟩) = a5 (ix2 k j)) (r : Fin 256) (d : Fin 64) :
    Cert.Proof.FlashIdeal.val i x0 x1 x2 x3 x4 x5 (ix3 0 r d)
      = Cert.FlashRefIdeal.Read.val_main_v76 a0 a1 a2 a3 a4 a5 (ix3 (head g h) (place J r) d) := by
  have hs (r : Fin 256) (t : Fin 2048) : ∃ s : ℝ, (∑ d, x0 (ix3 0 r d) * x1 (ix3 0 t d)) * Ideal.ofBits .f32 0x3E000000#32 = ((s : ℝ) : EReal) :=
    score_real (fun d => by rw [h0]; exact H.q_heads _) fun d => by rw [h1]; exact H.k_groups _
  choose s hs using hs
  have hrow : (place J r).val = 256 * J.val + r.val := rfl
  have hself : ((1 / 2 : ℝ) : EReal) < x3 (ix3 0 r (Cert.Proof.FlashIdeal.blockOf (place J r))) := by rw [h3]; exact H.own g (place J r)
  have hA : (Cert.Proof.FlashIdeal.selSet (i 1).val x3 r (4 * (i 1).val + 4)).Nonempty :=
    ⟨place J r, Cert.Proof.FlashIdeal.mem_selSet.2 ⟨by omega, by omega, hself⟩⟩
  have hW : (Cert.Proof.FlashIdeal.winSet (i 1).val r (4 * (i 1).val + 4)).Nonempty :=
    ⟨place J r, Cert.Proof.FlashIdeal.mem_winSet.2 ⟨by omega, by omega, by omega⟩⟩
  have hs' (t : Fin 2048) : Cert.FlashRefIdeal.Read.val_main_v18 a0 a1 (ix4 g h (place J r) t) = ((s r t : ℝ) : EReal) := by
    rw [FlashRef.v18_read, ← hs r t]
    simp only [h0, h1]
  rw [Cert.Proof.FlashIdeal.val_apply i x0 x1 x2 x3 x4 x5 hs r d hA hW, FlashRef.v76_read, FlashRef.v64_read, FlashRef.v64_read, FlashRef.v64_read,
    FlashRef.v35_read a0 a1 a2 a3 g h (place J r) d (s r) hs' _ hA ?_, FlashRef.v57_read a0 a1 a2 g h (place J r) d (s r) hs' _ hW ?_]
  · have ec : Cert.Proof.FlashIdeal.col x2 d = fun t => groups a2 (ix3 g t d) := funext fun t => h2 t d
    have eg (n : Fin 3) (n' : Fin 128) (hn : n' = ⟨n.val, by omega⟩) : Cert.Proof.FlashIdeal.gate (fun k => x0 (ix3 0 r k)) (fun k => x5 (ix2 k n'))
        = Ideal.div 1 (1 + Ideal.exp (-∑ d, heads a0 (ix4 g h (place J r) d) * a5 (ix2 d n))) := by
      subst hn
      unfold Cert.Proof.FlashIdeal.gate
      simp only [h0, h5]
    rw [eg 0 0 rfl, eg 1 1 rfl, eg 2 2 rfl, h4, ec]
  · intro t
    rw [Cert.Proof.FlashIdeal.mem_winSet, hrow, hJ]
    exact ⟨fun ⟨_, b, c⟩ => ⟨b, c⟩, fun ⟨b, c⟩ => ⟨by omega, b, c⟩⟩
  · intro t
    rw [Cert.Proof.FlashIdeal.mem_selSet, h3, hrow, hJ]
    exact ⟨fun ⟨_, b, c⟩ => ⟨b, c⟩, fun ⟨b, c⟩ => ⟨by omega, b, c⟩⟩

end

end Cert.Proof.FlashEq
-- ==== Proof.FlashPre.lean ====
/-
  The precondition, decoded: finite queries and keys, and every row's own block selected.
-/
module

public import proofs.«01_k».proof.Proof.FlashEq
public import proofs.«01_k».proof.Proof.Gen.Pre_flash_pre
public import Idealize.ShloMosaic.Lib.ReduceAll

@[expose] public section

set_option maxRecDepth 16384

noncomputable section

namespace Cert.Proof.FlashEq

open Cert.Pre_flash_pre
open Idealize.ShloMosaic

/-- An extended real that is below infinity in absolute value is real. -/
theorem real_of_abs_lt (x : EReal) (h : max x (-x) < ⊤) : ∃ r : ℝ, x = r := by
  induction x with
  | bot => simp at h
  | top => simp at h
  | coe r => exact ⟨r, rfl⟩

instance : Subsingleton S_.Idx := ⟨fun a b => funext fun i => i.elim0⟩

theorem ofBits_inf : Ideal.ofBits .f32 0x7F800000#32 = (⊤ : EReal) := by simp [Ideal.ofBits, Ideal.ieee]

theorem ofBits_half : Ideal.ofBits .f32 0x3F000000#32 = ((1 / 2 : ℝ) : EReal) := by
  simp [Ideal.ofBits, Ideal.ieee, -EReal.coe_mul]; norm_num

variable {a0 : FVec Ideal S2048x1024 .f32} {a1 a2 : FVec Ideal S2048x256 .f32} {a3 : FVec Ideal S4x2048x32 .f32} {a4 : FVec Ideal S4x4x2048x64 .f32} {a5 : FVec Ideal S64x3 .f32}

theorem good_of_pre (h : fn (F := Ideal) a0 a1 a2 a3 a4 a5 = fun _ => 1#1) : Good a0 a1 a3 := by
  have h0 := congrFun h (fun i => i.elim0)
  dsimp only [fn, fn_part1] at h0
  obtain ⟨h1, hc⟩ := IntOp.andi_eq_one.1 h0
  obtain ⟨ha, hb⟩ := IntOp.andi_eq_one.1 h1
  refine ⟨fun i => ?_, fun i => ?_, fun g r => ?_⟩
  · have e := Host.reduce_andi_all _ _ _ _ _ ha i
    refine real_of_abs_lt _ ?_
    change BitVec.ofBool (decide (max (a0 i) (-a0 i) < Ideal.ofBits .f32 0x7F800000#32)) = 1#1 at e
    rw [WordArith.ofBool_eq_one_iff, decide_eq_true_iff, ofBits_inf] at e
    exact e
  · have e := Host.reduce_andi_all _ _ _ _ _ hb i
    refine real_of_abs_lt _ ?_
    change BitVec.ofBool (decide (max (a1 i) (-a1 i) < Ideal.ofBits .f32 0x7F800000#32)) = 1#1 at e
    rw [WordArith.ofBool_eq_one_iff, decide_eq_true_iff, ofBits_inf] at e
    exact e
  · have e := Host.reduce_andi_all _ _ _ _ _ hc (ix3 g r ⟨r.val / 64, by omega⟩)
    change IntOp.ori (BitVec.ofBool (decide (Ideal.ofBits .f32 0x3F000000#32 < a3 (ix3 g r ⟨r.val / 64, by omega⟩))))
      (~~~(IntOp.andi (IntOp.cmpi .sle (IntOp.muli (BitVec.ofNat 32 (r.val / 64)) 64#32) (BitVec.ofNat 32 r.val))
        (IntOp.cmpi .slt (BitVec.ofNat 32 r.val) (IntOp.addi (IntOp.muli (BitVec.ofNat 32 (r.val / 64)) 64#32) 64#32)))) = 1#1 at e
    have hw : ∀ r : Fin 2048, IntOp.andi (IntOp.cmpi .sle (IntOp.muli (BitVec.ofNat 32 (r.val / 64)) 64#32) (BitVec.ofNat 32 r.val))
        (IntOp.cmpi .slt (BitVec.ofNat 32 r.val) (IntOp.addi (IntOp.muli (BitVec.ofNat 32 (r.val / 64)) 64#32) 64#32)) = 1#1 := by decide +kernel
    rw [hw r, ofBits_half] at e
    by_contra hn
    rw [decide_eq_false hn] at e
    exact absurd e (by decide)

end Cert.Proof.FlashEq
-- ==== Proof.FlashIdealRun.lean ====
/-
  The launch of `FlashIdeal`'s call at any floats: the proof data of its one pipeline, the body's obligation, the run with
  every semaphore counter at zero, and the frame.
-/
module

public import proofs.«01_k».proof.Proof.FlashIdealBody
public import Idealize.ShloMosaic.Lib.Claim

@[expose] public section

set_option maxRecDepth 16384

noncomputable section

namespace Cert.Proof.FlashIdeal

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline's proof data: the inputs' buffers at their blocks after each point, the output's at `out` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out (grid0.coords t) (iblk m c 0 t) (iblk m c 1 t) (iblk m c 2 t) (iblk m c 3 t) (iblk m c 4 t) (iblk m c 5 t)
  Φ _ := Pipeline.ΦA spec0 c
  q _ := fullShare
  owed _ := 0

/-- The arrays are what the region finds. -/
theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
/-- What the body leaves in the output's buffer. -/
theorem after6 (c : Dev nD) (t : Fin cfg0.N) : (dats m 0 c).after 6 t
    = out (grid0.coords t) (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- What the body is handed at a point. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it hands back. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point. -/
theorem point (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row (t : Fin cfg0.N) : defs₀ (F := F) .tc cfg0.body (cfg0.bodyArgs t (cfg0.slots t)) = bodyAt0 t := by
  unfold defs₀; rw [Defs.onTc_tc]

/-- The pipeline's body obligation. -/
theorem obligation (c : Dev nD) : BodyObligation (dats (F := F) m 0 c) (defs₀ (F := F)) Variants.none () Set.univ := fun t => by
  rw [bigSep_W0, bigSep_W0, row]
  exact triple_restated (point m c t) rfl .rfl fun _ => .rfl

set_option backward.isDefEq.respectTransparency.types false in
set_option maxHeartbeats 800000 in
/-- The launch: every array at what the proof data computes, the rest as found, every counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiet m ρ)

/-- The frame: the arguments as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (run_quiet m ρ))

end Cert.Proof.FlashIdeal

end
-- ==== Proof.FlashFinal.lean ====
/-
  The array that `FlashIdeal` leaves is the reference's result of the arguments.
-/
module

public import proofs.«01_k».proof.Proof.FlashPre
public import proofs.«01_k».proof.Proof.FlashIdealRun
public import Idealize.ShloMosaic.Lib.Pipeline.ValueKit
public import Idealize.ShloMosaic.Lib.Routing.OpsSet
public import Idealize.ShloMosaic.Lib.Routing.OpsPair

@[expose] public section

set_option maxRecDepth 16384

noncomputable section

namespace Cert.Proof.FlashIdeal

open Cert.FlashIdeal Cert.FlashIdeal.Gen
open Idealize.ShloMosaic Idealize.ShloMosaic.TcCoe Idealize.ShloMosaic.Tactic
open Idealize.SL.Sem Idealize.ShloMosaic.Routing
open Idealize.ShloMosaic.Pipeline (Dat)

variable (m : (ℓ : Loc nD τ sig) → Buf (Elt Ideal) ℓ)

/-- Every window's block index at a grid point. -/
theorem idx : ∀ t : Fin cfg0.N, win0_0.index t = ![t.val / 8, t.val % 8, 0] ∧ win0_1.index t = ![t.val / 8 / 4, 0, 0] ∧ win0_2.index t = ![t.val / 8 / 4, 0, 0]
    ∧ win0_3.index t = ![t.val / 8 / 4, t.val % 8, 0] ∧ win0_4.index t = ![t.val / 8, t.val % 8, 0] ∧ win0_5.index t = ![0, 0] ∧ win0_6.index t = ![t.val / 8, t.val % 8, 0]
    ∧ (grid0.coords t 1).val = t.val % 8 :=
  (by decide +kernel : ∀ t : Fin grid0.N, _)

/-- The padded gate weights hold the gate weights in their first three columns. -/
theorem pad_apply (z : S64x128.Idx → EReal) (w : S64x3.Idx → EReal) (ix : IVec S1 32) (hix : ∀ i, ix i = 0#32) (k : Fin 64) (j : Fin 3) :
    Host.scatter scatter_S64x128_S1_S64x3_01_n_1_0 (fun _ b => b) z ix w (ix2 k ⟨j.val, by omega⟩) = w (ix2 k j) := by
  have hstart (u : S64x3.Idx) (a : Fin 2) : scatter_S64x128_S1_S64x3_01_n_1_0.start u ix a = 0 := by
    unfold ScatterDims.start
    split
    · rw [hix]; rfl
    · rfl
  have hw0 (u : S64x3.Idx) : scatter_S64x128_S1_S64x3_01_n_1_0.window u 0 = (u 0).val := rfl
  have hw1 (u : S64x3.Idx) : scatter_S64x128_S1_S64x3_01_n_1_0.window u 1 = (u 1).val := rfl
  refine scatter_set_hit _ _ _ _ _ _ (fun u hu => ?_) (ix2 k j) ?_
  · rw [resultIdx?_eq_some] at hu
    refine congrArg w (funext fun a => Fin.ext ?_)
    match a with
    | ⟨0, _⟩ =>
      have h := hu 0
      rw [hstart, hw0, zero_add] at h
      exact Int.ofNat.inj h
    | ⟨1, _⟩ =>
      have h := hu 1
      rw [hstart, hw1, zero_add] at h
      exact Int.ofNat.inj h
  · rw [resultIdx?_eq_some]
    intro a
    rw [hstart, zero_add]
    match a with
    | ⟨0, _⟩ => rfl
    | ⟨1, _⟩ => rfl

variable (c : Dev nD) (t : Fin cfg0.N)

theorem read0 (r : Fin 256) (d : Fin 64) (h : t.val < 128) : iblk m c 0 t (ix3 0 r d) = FlashRef.heads (m ((c : Thread nD τ).loc main_arg0))
    (ix4 ⟨t.val / 8 / 4, by omega⟩ ⟨t.val / 8 % 4, by omega⟩ ⟨256 * (t.val % 8) + r.val, by omega⟩ d) := by
  refine Eq.trans (b := V m c main_v1 (ix3 (⟨t.val / 8, by omega⟩ : Fin 16) (⟨256 * (t.val % 8) + r.val, by omega⟩ : Fin 2048) d)) ?_ ?_
  · blk_ext [iblk, idx t]
  · entry_read
    pointwise [Cert.FlashRefIdeal.Read.val_main_v1, Cert.FlashRefIdeal.Read.val_main_v0]
    refine congrArg (m ((c : Thread nD τ).loc main_arg0)) (congrArg (ix2 _) (Fin.ext ?_))
    show t.val / 8 * 64 + d.val = t.val / 8 / 4 * 256 + t.val / 8 % 4 * 64 + d.val
    omega

theorem read1 (u : Fin 2048) (d : Fin 64) (h : t.val < 128) : iblk m c 1 t (ix3 0 u d) = FlashRef.groups (m ((c : Thread nD τ).loc main_arg1))
    (ix3 ⟨t.val / 8 / 4, by omega⟩ u d) := by
  refine Eq.trans (b := V m c main_v3 (ix3 (⟨t.val / 8 / 4, by omega⟩ : Fin 4) u d)) ?_ ?_
  · blk_ext [iblk, idx t]
  · entry_read
    pointwise [Cert.FlashRefIdeal.Read.val_main_v3, Cert.FlashRefIdeal.Read.val_main_v2]

theorem read2 (u : Fin 2048) (d : Fin 64) (h : t.val < 128) : iblk m c 2 t (ix3 0 u d) = FlashRef.groups (m ((c : Thread nD τ).loc main_arg2))
    (ix3 ⟨t.val / 8 / 4, by omega⟩ u d) := by
  refine Eq.trans (b := V m c main_v5 (ix3 (⟨t.val / 8 / 4, by omega⟩ : Fin 4) u d)) ?_ ?_
  · blk_ext [iblk, idx t]
  · entry_read
    pointwise [Cert.FlashRefIdeal.Read.val_main_v3, Cert.FlashRefIdeal.Read.val_main_v2]

theorem read3 (r : Fin 256) (b : Fin 32) (h : t.val < 128) : iblk m c 3 t (ix3 0 r b) = m ((c : Thread nD τ).loc main_arg3)
    (ix3 ⟨t.val / 8 / 4, by omega⟩ ⟨256 * (t.val % 8) + r.val, by omega⟩ b) := by
  blk_ext! [iblk, V, idx t]

theorem read4 (r : Fin 256) (d : Fin 64) (h : t.val < 128) : iblk m c 4 t (ix3 0 r d) = m ((c : Thread nD τ).loc main_arg4)
    (ix4 ⟨t.val / 8 / 4, by omega⟩ ⟨t.val / 8 % 4, by omega⟩ ⟨256 * (t.val % 8) + r.val, by omega⟩ d) := by
  refine Eq.trans (b := V m c main_v6 (ix3 (⟨t.val / 8, by omega⟩ : Fin 16) (⟨256 * (t.val % 8) + r.val, by omega⟩ : Fin 2048) d)) ?_ ?_
  · blk_ext [iblk, idx t]
  · entry_read
    pointwise []

theorem read5 (k : Fin 64) (j : Fin 3) : iblk m c 5 t (ix2 k ⟨j.val, by omega⟩) = m ((c : Thread nD τ).loc main_arg5) (ix2 k j) := by
  have e : iblk m c 5 t (ix2 k ⟨j.val, by omega⟩) = V m c main_v9 (ix2 k ⟨j.val, by omega⟩) := by
    blk_ext [iblk, idx t]
  rw [e]
  entry_read
  exact pad_apply _ _ _ (fun i => rfl) k j

theorem zero3 : (![0, 0, 0] : Fin 3 → ℕ) = fun _ => 0 := by funext a; match a with | ⟨0, _⟩ => rfl | ⟨1, _⟩ => rfl | ⟨2, _⟩ => rfl
theorem zero2 : (![0, 0] : Fin 2 → ℕ) = fun _ => 0 := by funext a; match a with | ⟨0, _⟩ => rfl | ⟨1, _⟩ => rfl

theorem final (H : FlashEq.Good (m ((c : Thread nD τ).loc main_arg0)) (m ((c : Thread nD τ).loc main_arg1)) (m ((c : Thread nD τ).loc main_arg3))) :
    (dats m 0 c).arrAt 6 cfg0.N = Cert.FlashRefIdeal.Read.val_main_v76 (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after6]
  unfold out
  rw [View.canon_unit_zero zero3, View.ld_unit_zero zero3, View.ld_unit_zero zero3, View.ld_unit_zero zero3, View.ld_unit_zero zero2]
  have ht : t.val < 128 := t.isLt
  let r : Fin 256 := y 1
  let d : Fin 64 := y 2
  have ey : y = ix3 (0 : Fin 1) r d := funext fun a => Fin.ext (by
    match a with
    | ⟨0, _⟩ => exact Nat.lt_one_iff.mp (y 0).isLt
    | ⟨1, _⟩ => rfl
    | ⟨2, _⟩ => rfl)
  let g : Fin 4 := ⟨t.val / 8 / 4, by omega⟩
  let h : Fin 4 := ⟨t.val / 8 % 4, by omega⟩
  let J : Fin 8 := ⟨t.val % 8, by omega⟩
  have eh : FlashRef.head g h = ⟨t.val / 8, by omega⟩ := Fin.ext (by show t.val / 8 / 4 * 4 + t.val / 8 % 4 = t.val / 8; omega)
  have ee : (win0_6.blk t).view.emb y = ix3 (FlashRef.head g h) (FlashEq.place J r) d := by
    rw [ey, eh]
    blk_ext [idx t]
    show t.val % 8 * 256 + r.val = 256 * (t.val % 8) + r.val
    omega
  rw [ee, ey]
  exact FlashEq.point_eq H (grid0.coords t) J (idx t).2.2.2.2.2.2.2 g h (fun r d => read0 m c t r d ht) (fun u d => read1 m c t u d ht)
    (fun u d => read2 m c t u d ht) (fun r b => read3 m c t r b ht) (fun r d => read4 m c t r d ht) (fun k j => read5 m c t k j) r d

end Cert.Proof.FlashIdeal
-- ==== Proof.OprojFinal.lean ====
/-
  The array that `OprojIdeal` leaves is the reference's result of the arguments.
-/
module

public import proofs.«01_k».proof.Proof.Gen.OprojIdeal.Value
public import proofs.«01_k».proof.Proof.Gen.OprojRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.Proof.OprojIdeal

open Cert.OprojIdeal Cert.OprojIdeal.Gen
open Idealize.ShloMosaic Idealize.ShloMosaic.TcCoe Idealize.ShloMosaic.Tactic
open Idealize.ShloMosaic.Pipeline (Dat)

variable (m : (ℓ : Loc nD τ sig) → Buf (Elt Ideal) ℓ)

/-- Every window's block index at a grid point. -/
theorem idx : ∀ t : Fin cfg0.N, win0_0.index t = ![t.val, 0] ∧ win0_1.index t = ![0, 0] ∧ win0_2.index t = ![t.val, 0] :=
  (by decide +kernel : ∀ t : Fin grid0.N, _)

/-- The kernel's product at a row and a column. -/
theorem pay_apply (o : Vec Ideal S256x1024 .f32) (w : Vec Ideal S1024x1024 .f32) (r : Fin 256) (n : Fin 1024) :
    k0_pay1 o w (ix2 r n) = ∑ k : Fin 1024, o (ix2 r k) * w (ix2 n k) := by
  pointwise [k0_pay1]

/-- The reference at a row and a column. -/
theorem ref_apply (a0 : (⟨S16x2048x64, .f32⟩ : BufTy).Contents (Elt Ideal)) (a1 : (⟨S1024x1024, .f32⟩ : BufTy).Contents (Elt Ideal)) (r : Fin 2048) (n : Fin 1024) :
    Cert.OprojRefIdeal.Read.val_main_v3 a0 a1 (ix2 r n) = ∑ k : Fin 1024, a0 (ix3 ⟨k.val / 64, by omega⟩ r ⟨k.val % 64, by omega⟩) * a1 (ix2 n k) := by
  pointwise [Cert.OprojRefIdeal.Read.val_main_v3, Cert.OprojRefIdeal.Read.val_main_v2, Cert.OprojRefIdeal.Read.val_main_v1, Cert.OprojRefIdeal.Read.val_main_v0]

variable (c : Dev nD) (t : Fin cfg0.N)

theorem read0 (r : Fin 256) (k : Fin 1024) (h : t.val < 8) : iblk m c 0 t (ix2 r k) = m ((c : Thread nD τ).loc main_arg0)
    (ix3 ⟨k.val / 64, by omega⟩ ⟨256 * t.val + r.val, by omega⟩ ⟨k.val % 64, by omega⟩) := by
  blk_ext! [iblk, V, idx t]

theorem read1 (n k : Fin 1024) : iblk m c 1 t (ix2 n k) = m ((c : Thread nD τ).loc main_arg1) (ix2 n k) := by
  blk_ext! [iblk, V, idx t]

/-- What a grid point computes is its rows of the reference. -/
theorem point (r : Fin 256) (n : Fin 1024) (h : t.val < 8) : k0_pay1 (iblk m c 0 t) (iblk m c 1 t) (ix2 r n)
    = Cert.OprojRefIdeal.Read.val_main_v3 (m ((c : Thread nD τ).loc main_arg0)) (m ((c : Thread nD τ).loc main_arg1)) (ix2 ⟨256 * t.val + r.val, by omega⟩ n) := by
  refine (pay_apply _ _ r n).trans (Eq.trans (Finset.sum_congr rfl fun k _ => ?_) (ref_apply _ _ _ n).symm)
  rw [read0 m c t r k h, read1]

/-- The array after the run. -/
theorem final : (dats m 0 c).arrAt 2 cfg0.N
    = Cert.OprojRefIdeal.Read.val_main_v3 (m ((c : Thread nD τ).loc main_arg0)) (m ((c : Thread nD τ).loc main_arg1)) := by
  refine (dats m 0 c).arrAt_eq_of_covers 2 _ (by decide +kernel) fun t hf y => ?_
  blk_simp
  rw [after0_2]
  frame_out
  have ht : t.val < 8 := t.isLt
  obtain ⟨r, n, ey⟩ : ∃ (r : Fin 256) (n : Fin 1024), y = ix2 r n := ⟨y 0, y 1, funext fun a => by
    match a with
    | ⟨0, _⟩ => rfl
    | ⟨1, _⟩ => rfl⟩
  have ee : (win0_2.blk t).view.emb y = ix2 (⟨256 * t.val + r.val, by omega⟩ : Fin 2048) n := by
    rw [ey]
    blk_ext [idx t]
  rw [ee, ey]
  exact point m c t r n ht

end Cert.Proof.OprojIdeal
-- ==== Proof.ProjFinal.lean ====
/-
  The arrays that `ProjIdeal` leaves are the reference's results of the arguments: the rotated queries and keys, and the
  values.
-/
module

public import proofs.«01_k».proof.Proof.Gen.ProjIdeal.Value
public import proofs.«01_k».proof.Proof.Gen.ProjRefIdeal.Read
public import Idealize.ShloMosaic.Lib.Pipeline.ValueKit
public import Idealize.ShloMosaic.Lib.Pointwise
public import Idealize.ShloMosaic.Lib.Claim
public import Idealize.ShloMosaic.Lib.Routing.OpsSet
public import Idealize.ShloMosaic.Lib.Routing.OpsPair

@[expose] public section

set_option maxRecDepth 16384

noncomputable section

namespace Cert.Proof.ProjIdeal

open Cert.ProjIdeal Cert.ProjIdeal.Gen
open Idealize.ShloMosaic Idealize.ShloMosaic.TcCoe Idealize.ShloMosaic.Tactic Idealize.ShloMosaic.Routing
open Idealize.ShloMosaic.Pipeline (Dat)

variable (m : (ℓ : Loc nD τ sig) → Buf (Elt Ideal) ℓ)

/-- Every window's block index at a grid point. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] ∧ win0_7.index t = ![t.val, 0] :=
  (by decide +kernel : ∀ t : Fin grid0.N, _)

/-! ## The exchange matrix -/

/-- The table of places that the exchange matrix is set at: a row word and a column word each. -/
def tab (l l' : Fin 32 → BitVec 32) : IVec S32x2 32 :=
  concatenate S32x2 1 [⟨S32x1, broadcastInDim S32x1 ![0] bcast_S32_S32x1_0 (select (constantI S32 1 0#1)
      (addi (fun i => l (S32.rowMajor i)) (broadcastInDim S32 ![] bcast_S_S32 (constantI S_ 32 64#32))) fun i => l (S32.rowMajor i))⟩,
    ⟨S32x1, broadcastInDim S32x1 ![0] bcast_S32_S32x1_0 (select (constantI S32 1 0#1)
      (addi (fun i => l' (S32.rowMajor i)) (broadcastInDim S32 ![] bcast_S_S32 (constantI S_ 32 64#32))) fun i => l' (S32.rowMajor i))⟩]
    concatenates_S32x1_S32x1_S32x2_d1

/-- The first table's places: an odd row and the even column before it. -/
theorem lands1 : ∀ u : Fin 32, scatter_S64x64_S32x2_S32_n_01_01_1.start (ix1 u) (tab lit0 lit1) 0 + (scatter_S64x64_S32x2_S32_n_01_01_1.window (ix1 u) 0 : Int) = 2 * u.val + 1
    ∧ scatter_S64x64_S32x2_S32_n_01_01_1.start (ix1 u) (tab lit0 lit1) 1 + (scatter_S64x64_S32x2_S32_n_01_01_1.window (ix1 u) 1 : Int) = 2 * u.val := by
  decide +kernel

/-- The second table's places: an even row and the odd column after it. -/
theorem lands2 : ∀ u : Fin 32, scatter_S64x64_S32x2_S32_n_01_01_1.start (ix1 u) (tab lit1 lit2) 0 + (scatter_S64x64_S32x2_S32_n_01_01_1.window (ix1 u) 0 : Int) = 2 * u.val
    ∧ scatter_S64x64_S32x2_S32_n_01_01_1.start (ix1 u) (tab lit1 lit2) 1 + (scatter_S64x64_S32x2_S32_n_01_01_1.window (ix1 u) 1 : Int) = 2 * u.val + 1 := by
  decide +kernel

/-- Where an update of a table lands, if its words are known. -/
theorem lands_iff (T : IVec S32x2 32) (a b : ℕ) (u : Fin 32) (i j : Fin 64)
    (h : ∀ u : Fin 32, scatter_S64x64_S32x2_S32_n_01_01_1.start (ix1 u) T 0 + (scatter_S64x64_S32x2_S32_n_01_01_1.window (ix1 u) 0 : Int) = 2 * u.val + a
      ∧ scatter_S64x64_S32x2_S32_n_01_01_1.start (ix1 u) T 1 + (scatter_S64x64_S32x2_S32_n_01_01_1.window (ix1 u) 1 : Int) = 2 * u.val + b) :
    scatter_S64x64_S32x2_S32_n_01_01_1.resultIdx? (ix1 u) T = some (ix2 i j) ↔ 2 * u.val + a = i.val ∧ 2 * u.val + b = j.val := by
  rw [resultIdx?_eq_some]
  constructor
  · intro q
    have q0 := (h u).1.symm.trans (q 0)
    have q1 := (h u).2.symm.trans (q 1)
    exact ⟨by exact_mod_cast q0, by exact_mod_cast q1⟩
  · rintro ⟨q0, q1⟩ x
    match x with
    | ⟨0, _⟩ => exact (h u).1.trans (by exact_mod_cast q0)
    | ⟨1, _⟩ => exact (h u).2.trans (by exact_mod_cast q1)

/-- A scatter of a table, entry by entry. -/
theorem set_apply (T : IVec S32x2 32) (a b : ℕ) (z : S64x64.Idx → EReal) (w : S32.Idx → EReal) (v : EReal) (hw : ∀ u, w u = v) (i j : Fin 64)
    (h : ∀ u : Fin 32, scatter_S64x64_S32x2_S32_n_01_01_1.start (ix1 u) T 0 + (scatter_S64x64_S32x2_S32_n_01_01_1.window (ix1 u) 0 : Int) = 2 * u.val + a
      ∧ scatter_S64x64_S32x2_S32_n_01_01_1.start (ix1 u) T 1 + (scatter_S64x64_S32x2_S32_n_01_01_1.window (ix1 u) 1 : Int) = 2 * u.val + b) :
    Host.scatter scatter_S64x64_S32x2_S32_n_01_01_1 (fun _ b => b) z T w (ix2 i j)
      = if ∃ u : Fin 32, 2 * u.val + a = i.val ∧ 2 * u.val + b = j.val then v else z (ix2 i j) := by
  split
  · next q =>
    obtain ⟨u, hu⟩ := q
    exact scatter_set_hit _ _ _ _ _ _ (fun k _ => hw k) (ix1 u) ((lands_iff T a b u i j h).mpr hu)
  · next q =>
    refine scatter_set_miss _ _ _ _ _ fun k hk => ?_
    obtain ⟨u, rfl⟩ : ∃ u : Fin 32, k = ix1 u := ⟨k 0, funext fun x => by match x with | ⟨0, _⟩ => rfl⟩
    exact q ⟨u, (lands_iff T a b u i j h).mp hk⟩

/-- The other place of a pair. -/
def mate (j : Fin 64) : Fin 64 := ⟨if j.val % 2 = 0 then j.val + 1 else j.val - 1, by split <;> omega⟩

/-- The two scatters, over a matrix of zeros: one where the row is the column's mate, else zero. -/
theorem pairs_apply (T T' : IVec S32x2 32) (z : S64x64.Idx → EReal) (w w' : S32.Idx → EReal) (hz : ∀ i j, z (ix2 i j) = 0) (hw : ∀ u, w u = 1) (hw' : ∀ u, w' u = 1) (i j : Fin 64)
    (h : ∀ u : Fin 32, scatter_S64x64_S32x2_S32_n_01_01_1.start (ix1 u) T 0 + (scatter_S64x64_S32x2_S32_n_01_01_1.window (ix1 u) 0 : Int) = 2 * u.val + 1
      ∧ scatter_S64x64_S32x2_S32_n_01_01_1.start (ix1 u) T 1 + (scatter_S64x64_S32x2_S32_n_01_01_1.window (ix1 u) 1 : Int) = 2 * u.val)
    (h' : ∀ u : Fin 32, scatter_S64x64_S32x2_S32_n_01_01_1.start (ix1 u) T' 0 + (scatter_S64x64_S32x2_S32_n_01_01_1.window (ix1 u) 0 : Int) = 2 * u.val
      ∧ scatter_S64x64_S32x2_S32_n_01_01_1.start (ix1 u) T' 1 + (scatter_S64x64_S32x2_S32_n_01_01_1.window (ix1 u) 1 : Int) = 2 * u.val + 1) :
    Host.scatter scatter_S64x64_S32x2_S32_n_01_01_1 (fun _ b => b) (Host.scatter scatter_S64x64_S32x2_S32_n_01_01_1 (fun _ b => b) z T w) T' w' (ix2 i j)
      = if i = mate j then (1 : EReal) else 0 := by
  rw [set_apply T' 0 1 _ _ 1 hw' i j h', set_apply T 1 0 _ _ 1 hw i j h, hz]
  have hi := i.isLt
  have hj := j.isLt
  by_cases e : i = mate j
  · rw [if_pos e]
    have ev : i.val = if j.val % 2 = 0 then j.val + 1 else j.val - 1 := congrArg Fin.val e
    split
    · rfl
    · next q =>
      rw [if_pos]
      split at ev
      · exact ⟨⟨j.val / 2, by omega⟩, by show 2 * (j.val / 2) + 1 = _; omega, by show 2 * (j.val / 2) + 0 = _; omega⟩
      · exact (q ⟨⟨j.val / 2, by omega⟩, by show 2 * (j.val / 2) + 0 = _; omega, by show 2 * (j.val / 2) + 1 = _; omega⟩).elim
  · rw [if_neg e]
    rw [if_neg, if_neg]
    · rintro ⟨u, q0, q1⟩
      exact e (Fin.ext (by show i.val = if j.val % 2 = 0 then j.val + 1 else j.val - 1; split <;> omega))
    · rintro ⟨u, q0, q1⟩
      exact e (Fin.ext (by show i.val = if j.val % 2 = 0 then j.val + 1 else j.val - 1; split <;> omega))

/-- The exchange matrix: one where the row is the column's mate, else zero. -/
theorem exchange (c : Dev nD) (i j : Fin 64) : V m c main_v35 (ix2 i j) = if i = mate j then (1 : EReal) else 0 := by
  have hz (i j : Fin 64) : (broadcastInDim S64x64 ![] bcast_S_S64x64 (constant (F := Ideal) S_ .f32 0x00000000#32) : S64x64.Idx → EReal) (ix2 i j) = 0 := by
    pointwise []
  have hw (u : S32.Idx) : (broadcastInDim S32 ![] bcast_S_S32 (constant (F := Ideal) S_ .f32 0x3F800000#32) : S32.Idx → EReal) u = 1 := by
    pointwise []
  entry_read
  exact pairs_apply (tab lit0 lit1) (tab lit1 lit2) _ _ _ hz hw hw i j lands1 lands2

/-! ## What the body reads -/

variable (c : Dev nD) (t : Fin cfg0.N)

/-- A grid point's block of the input is its 256 rows. -/
theorem read0 (r : Fin 256) (k : Fin 1024) (h : t.val < 8) : iblk m c 0 t (ix2 r k) = m ((c : Thread nD τ).loc main_arg0)
    (ix3 0 ⟨256 * t.val + r.val, by omega⟩ k) := by
  blk_ext! [iblk, V, idx t]

/-- The stacked weights. -/
theorem read1 (n : Fin 1536) (k : Fin 1024) : iblk m c 1 t (ix2 n k) =
    if h : n.val < 1024 then m ((c : Thread nD τ).loc main_arg2) (ix2 ⟨n.val, h⟩ k)
    else if h' : n.val - 1024 < 256 then m ((c : Thread nD τ).loc main_arg3) (ix2 ⟨n.val - 1024, h'⟩ k)
    else m ((c : Thread nD τ).loc main_arg4) (ix2 ⟨n.val - 1024 - 256, by omega⟩ k) := by
  refine Eq.trans (b := V m c main_v1 (ix2 n k)) ?_ ?_
  · blk_ext [iblk, idx t]
  entry_read
  pointwise []

/-- The cosines, each twice. -/
theorem read2 (r : Fin 256) (j : Fin 64) (h : t.val < 8) : iblk m c 2 t (ix2 r j) =
    m ((c : Thread nD τ).loc main_arg1) (ix3 ⟨256 * t.val + r.val, by omega⟩ ⟨j.val / 2, by omega⟩ 0) := by
  refine Eq.trans (b := V m c main_v7 (ix2 (⟨256 * t.val + r.val, by omega⟩ : Fin 2048) j)) ?_ ?_
  · blk_ext [iblk, idx t]
  entry_read
  pointwise []

/-- The sines, each first with its sign changed. -/
theorem read3 (r : Fin 256) (j : Fin 64) (h : t.val < 8) : iblk m c 3 t (ix2 r j) =
    (fun s : EReal => if j.val % 2 < 1 then - s else s) (m ((c : Thread nD τ).loc main_arg1) (ix3 ⟨256 * t.val + r.val, by omega⟩ ⟨j.val / 2, by omega⟩ 1)) := by
  refine Eq.trans (b := V m c main_v12 (ix2 (⟨256 * t.val + r.val, by omega⟩ : Fin 2048) j)) ?_ ?_
  · blk_ext [iblk, idx t]
  entry_read
  pointwise []
  rfl

/-- A grid point reads the whole exchange matrix. -/
theorem read4 (i j : Fin 64) : iblk m c 4 t (ix2 i j) = if i = mate j then (1 : EReal) else 0 := by
  have h : ∀ A : S64x64.Idx → EReal, (((cfg0.win 4).blk t).view.read (Elt Ideal) A) (ix2 i j) = A (ix2 i j) := fun A => by
    blk_ext [idx t]
  exact (h _).trans (exchange m c i j)

/-! ## The rotation of a head -/

/-- A row times the exchange matrix is the row with each pair exchanged. -/
theorem exchanged (X : Fin 64 → EReal) (j : Fin 64) : ∑ k : Fin 64, X k * (if k = mate j then (1 : EReal) else 0) = X (mate j) := by
  simp [mul_ite]

/-- The reference's rotation of a row by an angle with cosine `C` and sine `s`, at a column. -/
def rot (j : Fin 64) (X : Fin 64 → EReal) (C s : EReal) : EReal :=
  if j.val % 2 < 1 then X ⟨j.val / 2 * 2, by omega⟩ * C - X ⟨j.val / 2 * 2 + 1, by omega⟩ * s
  else X ⟨j.val / 2 * 2, by omega⟩ * s + X ⟨j.val / 2 * 2 + 1, by omega⟩ * C

/-- The kernel's rotation of a pair is the reference's. -/
theorem rotate (X : Fin 64 → EReal) (C s : EReal) (j : Fin 64) :
    X j * C + X (mate j) * (if j.val % 2 < 1 then - s else s) = rot j X C s := by
  unfold rot
  by_cases h : j.val % 2 < 1
  · rw [if_pos h, if_pos h]
    have e0 : (⟨j.val / 2 * 2, by omega⟩ : Fin 64) = j := Fin.ext (by show j.val / 2 * 2 = j.val; omega)
    have e1 : (⟨j.val / 2 * 2 + 1, by omega⟩ : Fin 64) = mate j := Fin.ext (by
      show j.val / 2 * 2 + 1 = if j.val % 2 = 0 then j.val + 1 else j.val - 1
      rw [if_pos (by omega)]; omega)
    rw [e0, e1, mul_neg, sub_eq_add_neg]
  · rw [if_neg h, if_neg h]
    have e0 : (⟨j.val / 2 * 2, by omega⟩ : Fin 64) = mate j := Fin.ext (by
      show j.val / 2 * 2 = if j.val % 2 = 0 then j.val + 1 else j.val - 1
      rw [if_neg (by omega)]; omega)
    have e1 : (⟨j.val / 2 * 2 + 1, by omega⟩ : Fin 64) = j := Fin.ext (by show j.val / 2 * 2 + 1 = j.val; omega)
    rw [e0, e1, add_comm]

/-- What the body stores for the head whose columns begin at `o`. -/
def head (o : ℕ) (hs : S256x1536.Slices ![0, o] S256x64) (x : FVec Ideal S256x1536 .f32) (a b : FVec Ideal S256x64 .f32) (p : FVec Ideal S64x64 .f32) : FVec Ideal S256x64 .f32 :=
  addf (mulf (extractStridedSlice S256x64 ![0, o] x hs) a)
    (mulf (matmul dot_S256x64_S64x64_S256x64_1_0_0_1_n_n none (extractStridedSlice S256x64 ![0, o] x hs) p (constant S256x64 .f32 0x00000000#32)) b)

/-- A head's columns of the projections. -/
theorem slice_apply (o : ℕ) (ho : o + 64 ≤ 1536) (hs : S256x1536.Slices ![0, o] S256x64) (x : FVec Ideal S256x1536 .f32) (r : Fin 256) (j : Fin 64) :
    extractStridedSlice S256x64 ![0, o] x hs (ix2 r j) = x (ix2 r ⟨o + j.val, by omega⟩) :=
  extractStridedSlice_apply ![0, o] x hs (ix2 r j) (ix2 r ⟨o + j.val, by omega⟩) fun (a : Fin 2) => by
    match a with
    | ⟨0, _⟩ => exact (Nat.zero_add _).symm
    | ⟨1, _⟩ => rfl

/-- What the body stores for a head, at a row and a column. -/
theorem head_apply (o : ℕ) (ho : o + 64 ≤ 1536) (hs : S256x1536.Slices ![0, o] S256x64) (x : FVec Ideal S256x1536 .f32) (a b : FVec Ideal S256x64 .f32) (p : FVec Ideal S64x64 .f32)
    (r : Fin 256) (j : Fin 64) :
    head o hs x a b p (ix2 r j) = x (ix2 r ⟨o + j.val, by omega⟩) * a (ix2 r j) + (∑ k : Fin 64, x (ix2 r ⟨o + k.val, by omega⟩) * p (ix2 k j)) * b (ix2 r j) := by
  have e (u : FVec Ideal S256x64 .f32) : addf (mulf u a) (mulf (matmul dot_S256x64_S64x64_S256x64_1_0_0_1_n_n none u p (constant S256x64 .f32 0x00000000#32)) b) (ix2 r j)
      = u (ix2 r j) * a (ix2 r j) + (∑ k : Fin 64, u (ix2 r k) * p (ix2 k j)) * b (ix2 r j) := by
    pointwise []
  refine (e _).trans ?_
  simp only [slice_apply o ho hs x]

/-- The projections at a row and a column. -/
theorem pay6_apply (x : Vec Ideal S256x1024 .f32) (w : Vec Ideal S1536x1024 .f32) (r : Fin 256) (n : Fin 1536) :
    k0_pay6 x w (ix2 r n) = ∑ k : Fin 1024, x (ix2 r k) * w (ix2 n k) := by
  pointwise [k0_pay6]

/-- The values' columns of the projections. -/
theorem pay5_apply (x : FVec Ideal S256x1536 .f32) (r n : Fin 256) : k0_pay5 x (ix2 r n) = x (ix2 r ⟨1280 + n.val, by omega⟩) :=
  extractStridedSlice_apply ![0, 1280] x slices_S256x1536_o0_1280_S256x256 (ix2 r n) (ix2 r ⟨1280 + n.val, by omega⟩) fun (a : Fin 2) => by
    match a with
    | ⟨0, _⟩ => exact (Nat.zero_add _).symm
    | ⟨1, _⟩ => rfl

/-- The cosines go to the body unchanged. -/
theorem pay7_eq (x : Vec Ideal S256x64 .f32) (r : Fin 256) (j : Fin 64) : k0_pay7 x (ix2 r j) = x (ix2 r j) := by
  pointwise [k0_pay7]

/-- The sines go to the body unchanged. -/
theorem pay8_eq (x : Vec Ideal S256x64 .f32) (r : Fin 256) (j : Fin 64) : k0_pay8 x (ix2 r j) = x (ix2 r j) := by
  pointwise [k0_pay8]

/-- The exchange matrix goes to the body unchanged. -/
theorem pay9_eq (x : Vec Ideal S64x64 .f32) (i j : Fin 64) : k0_pay9 x (ix2 i j) = x (ix2 i j) := by
  pointwise [k0_pay9]

/-- What a grid point stores for a head is the rotation of the projections of that head. -/
theorem head_point (o : ℕ) (ho : o + 64 ≤ 1536) (hs : S256x1536.Slices ![0, o] S256x64) (r : Fin 256) (j : Fin 64) (h : t.val < 8) :
    head o hs (k0_pay6 (iblk m c 0 t) (iblk m c 1 t)) (k0_pay7 (iblk m c 2 t)) (k0_pay8 (iblk m c 3 t)) (k0_pay9 (iblk m c 4 t)) (ix2 r j)
      = rot j (fun j => k0_pay6 (F := Ideal) (iblk m c 0 t) (iblk m c 1 t) (ix2 r ⟨o + j.val, by omega⟩))
        (m ((c : Thread nD τ).loc main_arg1) (ix3 ⟨256 * t.val + r.val, by omega⟩ ⟨j.val / 2, by omega⟩ 0))
        (m ((c : Thread nD τ).loc main_arg1) (ix3 ⟨256 * t.val + r.val, by omega⟩ ⟨j.val / 2, by omega⟩ 1)) := by
  rw [head_apply o ho, pay7_eq, pay8_eq, read2 m c t r j h, read3 m c t r j h]
  simp only [pay9_eq, read4]
  rw [exchanged (fun k => k0_pay6 (F := Ideal) (iblk m c 0 t) (iblk m c 1 t) (ix2 r ⟨o + k.val, by omega⟩)) j]
  exact rotate (fun k => k0_pay6 (F := Ideal) (iblk m c 0 t) (iblk m c 1 t) (ix2 r ⟨o + k.val, by omega⟩)) _ _ j

/-! ## The projections are the reference's -/

/-- The queries before the rotation. -/
theorem proj_q (r : Fin 256) (g : Fin 16) (j : Fin 64) (h : t.val < 8) :
    k0_pay6 (F := Ideal) (iblk m c 0 t) (iblk m c 1 t) (ix2 r ⟨64 * g.val + j.val, by omega⟩)
      = Cert.ProjRefIdeal.Read.val_main_v2 (F := Ideal) (m ((c : Thread nD τ).loc main_arg0)) (m ((c : Thread nD τ).loc main_arg2)) (ix4 0 ⟨256 * t.val + r.val, by omega⟩ g j) := by
  have e (a0 : (⟨S1x2048x1024, .f32⟩ : BufTy).Contents (Elt Ideal)) (a2 : (⟨S1024x1024, .f32⟩ : BufTy).Contents (Elt Ideal)) (R : Fin 2048) :
      Cert.ProjRefIdeal.Read.val_main_v2 a0 a2 (ix4 0 R g j) = ∑ k : Fin 1024, a0 (ix3 0 R k) * a2 (ix2 ⟨g.val * 64 + j.val, by omega⟩ k) := by
    pointwise [Cert.ProjRefIdeal.Read.val_main_v2, Cert.ProjRefIdeal.Read.val_main_v1, Cert.ProjRefIdeal.Read.val_main_v0]
  rw [pay6_apply, e]
  refine Finset.sum_congr rfl fun k _ => ?_
  rw [read0 m c t r k h, read1, dif_pos (by show 64 * g.val + j.val < 1024; omega)]
  simp only [mul_comm 64 g.val]

/-- The keys before the rotation. -/
theorem proj_k (r : Fin 256) (g : Fin 4) (j : Fin 64) (h : t.val < 8) :
    k0_pay6 (F := Ideal) (iblk m c 0 t) (iblk m c 1 t) (ix2 r ⟨1024 + 64 * g.val + j.val, by omega⟩)
      = Cert.ProjRefIdeal.Read.val_main_v5 (F := Ideal) (m ((c : Thread nD τ).loc main_arg0)) (m ((c : Thread nD τ).loc main_arg3)) (ix4 0 ⟨256 * t.val + r.val, by omega⟩ g j) := by
  have e (a0 : (⟨S1x2048x1024, .f32⟩ : BufTy).Contents (Elt Ideal)) (a3 : (⟨S256x1024, .f32⟩ : BufTy).Contents (Elt Ideal)) (R : Fin 2048) :
      Cert.ProjRefIdeal.Read.val_main_v5 a0 a3 (ix4 0 R g j) = ∑ k : Fin 1024, a0 (ix3 0 R k) * a3 (ix2 ⟨g.val * 64 + j.val, by omega⟩ k) := by
    pointwise [Cert.ProjRefIdeal.Read.val_main_v5, Cert.ProjRefIdeal.Read.val_main_v4, Cert.ProjRefIdeal.Read.val_main_v3]
  rw [pay6_apply, e]
  refine Finset.sum_congr rfl fun k _ => ?_
  rw [read0 m c t r k h, read1, dif_neg (by show ¬ 1024 + 64 * g.val + j.val < 1024; omega), dif_pos (by show 1024 + 64 * g.val + j.val - 1024 < 256; omega)]
  have en : 1024 + 64 * g.val + j.val - 1024 = g.val * 64 + j.val := by omega
  simp only [en]

/-- The values. -/
theorem proj_v (r : Fin 256) (n : Fin 256) (h : t.val < 8) :
    k0_pay6 (F := Ideal) (iblk m c 0 t) (iblk m c 1 t) (ix2 r ⟨1280 + n.val, by omega⟩)
      = Cert.ProjRefIdeal.Read.val_main_v69 (F := Ideal) (m ((c : Thread nD τ).loc main_arg0)) (m ((c : Thread nD τ).loc main_arg4)) (ix2 ⟨256 * t.val + r.val, by omega⟩ n) := by
  have e (a0 : (⟨S1x2048x1024, .f32⟩ : BufTy).Contents (Elt Ideal)) (a4 : (⟨S256x1024, .f32⟩ : BufTy).Contents (Elt Ideal)) (R : Fin 2048) :
      Cert.ProjRefIdeal.Read.val_main_v69 a0 a4 (ix2 R n) = ∑ k : Fin 1024, a0 (ix3 0 R k) * a4 (ix2 n k) := by
    pointwise [Cert.ProjRefIdeal.Read.val_main_v69, Cert.ProjRefIdeal.Read.val_main_v8, Cert.ProjRefIdeal.Read.val_main_v7, Cert.ProjRefIdeal.Read.val_main_v6]
  rw [pay6_apply, e]
  refine Finset.sum_congr rfl fun k _ => ?_
  rw [read0 m c t r k h, read1, dif_neg (by show ¬ 1280 + n.val < 1024; omega), dif_neg (by show ¬ 1280 + n.val - 1024 < 256; omega)]
  have en : 1280 + n.val - 1024 - 256 = n.val := by omega
  simp only [en]

/-! ## The arrays after the run -/

section Final

variable (a0 : (⟨S1x2048x1024, .f32⟩ : BufTy).Contents (Elt Ideal)) (a1 : (⟨S2048x32x2, .f32⟩ : BufTy).Contents (Elt Ideal))

/-- The reference's rotated queries at a row, a head and a column. -/
theorem ref_q (a2 : (⟨S1024x1024, .f32⟩ : BufTy).Contents (Elt Ideal)) (R : Fin 2048) (g : Fin 16) (j : Fin 64) :
    Cert.ProjRefIdeal.Read.val_main_v37 a0 a1 a2 (ix4 0 R g j)
      = rot j (fun j => Cert.ProjRefIdeal.Read.val_main_v2 a0 a2 (ix4 0 R g j)) (a1 (ix3 R ⟨j.val / 2, by omega⟩ 0)) (a1 (ix3 R ⟨j.val / 2, by omega⟩ 1)) := by
  open Cert.ProjRefIdeal.Read in
  unfold val_main_v37 val_main_v36 val_main_v35 val_main_v34 val_main_v33 val_main_v24 val_main_v32 val_main_v28 val_main_v23 val_main_v19 val_main_v30
    val_main_v26 val_main_v21 val_main_v17 val_main_v29 val_main_v25 val_main_v20 val_main_v16 val_main_v9
  generalize Cert.ProjRefIdeal.Read.val_main_v2 a0 a2 = X
  open Cert.ProjRefIdeal.Read in
  pointwise [val_main_v31, val_main_v27, val_main_v22, val_main_v18, val_main_v10, val_main_v11, val_main_v12, val_main_v13, val_main_v14, val_main_v15]
  rfl

/-- The reference's rotated keys at a row, a head and a column. -/
theorem ref_k (a3 : (⟨S256x1024, .f32⟩ : BufTy).Contents (Elt Ideal)) (R : Fin 2048) (g : Fin 4) (j : Fin 64) :
    Cert.ProjRefIdeal.Read.val_main_v66 a0 a1 a3 (ix4 0 R g j)
      = rot j (fun j => Cert.ProjRefIdeal.Read.val_main_v5 a0 a3 (ix4 0 R g j)) (a1 (ix3 R ⟨j.val / 2, by omega⟩ 0)) (a1 (ix3 R ⟨j.val / 2, by omega⟩ 1)) := by
  open Cert.ProjRefIdeal.Read in
  unfold val_main_v66 val_main_v65 val_main_v64 val_main_v63 val_main_v62 val_main_v53 val_main_v61 val_main_v57 val_main_v52 val_main_v48 val_main_v59
    val_main_v55 val_main_v50 val_main_v46 val_main_v58 val_main_v54 val_main_v49 val_main_v45 val_main_v38
  generalize Cert.ProjRefIdeal.Read.val_main_v5 a0 a3 = X
  open Cert.ProjRefIdeal.Read in
  pointwise [val_main_v60, val_main_v56, val_main_v51, val_main_v47, val_main_v39, val_main_v40, val_main_v41, val_main_v42, val_main_v43, val_main_v44]
  rfl

/-- The queries' heads laid side by side. -/
theorem ref_q_flat (a2 : (⟨S1024x1024, .f32⟩ : BufTy).Contents (Elt Ideal)) (R : Fin 2048) (g : Fin 16) (j : Fin 64) :
    Cert.ProjRefIdeal.Read.val_main_v67 a0 a1 a2 (ix2 R ⟨64 * g.val + j.val, by omega⟩) = Cert.ProjRefIdeal.Read.val_main_v37 a0 a1 a2 (ix4 0 R g j) := by
  unfold Cert.ProjRefIdeal.Read.val_main_v67
  generalize Cert.ProjRefIdeal.Read.val_main_v37 a0 a1 a2 = X
  pointwise []

/-- The keys' heads laid side by side. -/
theorem ref_k_flat (a3 : (⟨S256x1024, .f32⟩ : BufTy).Contents (Elt Ideal)) (R : Fin 2048) (g : Fin 4) (j : Fin 64) :
    Cert.ProjRefIdeal.Read.val_main_v68 a0 a1 a3 (ix2 R ⟨64 * g.val + j.val, by omega⟩) = Cert.ProjRefIdeal.Read.val_main_v66 a0 a1 a3 (ix4 0 R g j) := by
  unfold Cert.ProjRefIdeal.Read.val_main_v68
  generalize Cert.ProjRefIdeal.Read.val_main_v66 a0 a1 a3 = X
  pointwise []

end Final

/-- What a grid point stores for a head of the queries is the reference's. -/
theorem point_q (g : Fin 16) (hs : S256x1536.Slices ![0, 64 * g.val] S256x64) (r : Fin 256) (j : Fin 64) (h : t.val < 8) :
    head (64 * g.val) hs (k0_pay6 (iblk m c 0 t) (iblk m c 1 t)) (k0_pay7 (iblk m c 2 t)) (k0_pay8 (iblk m c 3 t)) (k0_pay9 (iblk m c 4 t)) (ix2 r j)
      = Cert.ProjRefIdeal.Read.val_main_v67 (m ((c : Thread nD τ).loc main_arg0)) (m ((c : Thread nD τ).loc main_arg1)) (m ((c : Thread nD τ).loc main_arg2))
          (ix2 ⟨256 * t.val + r.val, by omega⟩ ⟨64 * g.val + j.val, by omega⟩) := by
  rw [ref_q_flat, ref_q, head_point m c t _ (by omega) hs r j h]
  exact congrArg (fun X => rot j X _ _) (funext fun k => proj_q m c t r g k h)

/-- What a grid point stores for a head of the keys is the reference's. -/
theorem point_k (g : Fin 4) (hs : S256x1536.Slices ![0, 1024 + 64 * g.val] S256x64) (r : Fin 256) (j : Fin 64) (h : t.val < 8) :
    head (1024 + 64 * g.val) hs (k0_pay6 (iblk m c 0 t) (iblk m c 1 t)) (k0_pay7 (iblk m c 2 t)) (k0_pay8 (iblk m c 3 t)) (k0_pay9 (iblk m c 4 t)) (ix2 r j)
      = Cert.ProjRefIdeal.Read.val_main_v68 (m ((c : Thread nD τ).loc main_arg0)) (m ((c : Thread nD τ).loc main_arg1)) (m ((c : Thread nD τ).loc main_arg3))
          (ix2 ⟨256 * t.val + r.val, by omega⟩ ⟨64 * g.val + j.val, by omega⟩) := by
  rw [ref_k_flat, ref_k, head_point m c t _ (by omega) hs r j h]
  exact congrArg (fun X => rot j X _ _) (funext fun k => proj_k m c t r g k h)

/-- The queries a grid point is to leave in its block: its rows of the reference. -/
def want_q (h : t.val < 8) (y : S256x1024.Idx) : EReal :=
  Cert.ProjRefIdeal.Read.val_main_v67 (F := Ideal) (m ((c : Thread nD τ).loc main_arg0)) (m ((c : Thread nD τ).loc main_arg1)) (m ((c : Thread nD τ).loc main_arg2))
    (ix2 ⟨256 * t.val + (y 0).val, by have e : (y 0).val < 256 := (y 0).isLt; omega⟩ ⟨(y 1).val, (y 1).isLt⟩)

/-- What is stored for a head of the queries, at the block's index. -/
theorem stored_q (h : t.val < 8) (g : Fin 16) (hs : S256x1536.Slices ![0, 64 * g.val] S256x64) (x : S256x64.Idx) (y : S256x1024.Idx) (h0 : (y 0).val = 0 + 1 * (x 0).val)
    (h1 : (y 1).val = 64 * g.val + 1 * (x 1).val) :
    head (64 * g.val) hs (k0_pay6 (iblk m c 0 t) (iblk m c 1 t)) (k0_pay7 (iblk m c 2 t)) (k0_pay8 (iblk m c 3 t)) (k0_pay9 (iblk m c 4 t)) x = want_q m c t h y := by
  obtain ⟨r, j, rfl⟩ : ∃ (r : Fin 256) (j : Fin 64), x = ix2 r j := ⟨x 0, x 1, funext fun a => by
    match a with
    | ⟨0, _⟩ => rfl
    | ⟨1, _⟩ => rfl⟩
  have k0 : (y 0).val = r.val := h0.trans (by show 0 + 1 * r.val = r.val; omega)
  have k1 : (y 1).val = 64 * g.val + j.val := h1.trans (by show 64 * g.val + 1 * j.val = _; omega)
  refine (point_q m c t g hs r j h).trans ?_
  unfold want_q
  simp only [k0, k1]

/-- The keys a grid point is to leave in its block: its rows of the reference. -/
def want_k (h : t.val < 8) (y : S256x256.Idx) : EReal :=
  Cert.ProjRefIdeal.Read.val_main_v68 (F := Ideal) (m ((c : Thread nD τ).loc main_arg0)) (m ((c : Thread nD τ).loc main_arg1)) (m ((c : Thread nD τ).loc main_arg3))
    (ix2 ⟨256 * t.val + (y 0).val, by have e : (y 0).val < 256 := (y 0).isLt; omega⟩ ⟨(y 1).val, (y 1).isLt⟩)

/-- What is stored for a head of the keys, at the block's index. -/
theorem stored_k (h : t.val < 8) (g : Fin 4) (hs : S256x1536.Slices ![0, 1024 + 64 * g.val] S256x64) (x : S256x64.Idx) (y : S256x256.Idx) (h0 : (y 0).val = 0 + 1 * (x 0).val)
    (h1 : (y 1).val = 64 * g.val + 1 * (x 1).val) :
    head (1024 + 64 * g.val) hs (k0_pay6 (iblk m c 0 t) (iblk m c 1 t)) (k0_pay7 (iblk m c 2 t)) (k0_pay8 (iblk m c 3 t)) (k0_pay9 (iblk m c 4 t)) x = want_k m c t h y := by
  obtain ⟨r, j, rfl⟩ : ∃ (r : Fin 256) (j : Fin 64), x = ix2 r j := ⟨x 0, x 1, funext fun a => by
    match a with
    | ⟨0, _⟩ => rfl
    | ⟨1, _⟩ => rfl⟩
  have k0 : (y 0).val = r.val := h0.trans (by show 0 + 1 * r.val = r.val; omega)
  have k1 : (y 1).val = 64 * g.val + j.val := h1.trans (by show 64 * g.val + 1 * j.val = _; omega)
  refine (point_k m c t g hs r j h).trans ?_
  unfold want_k
  simp only [k0, k1]

/-- The queries' array after the run. -/
theorem final5 : (dats m 0 c).arrAt 5 cfg0.N
    = Cert.ProjRefIdeal.Read.val_main_v67 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  have ht : t.val < 8 := t.isLt
  obtain ⟨r, n, ey⟩ : ∃ (r : Fin 256) (n : Fin 1024), y = ix2 r n := ⟨y 0, y 1, funext fun a => by
    match a with
    | ⟨0, _⟩ => rfl
    | ⟨1, _⟩ => rfl⟩
  have ee : (win0_5.blk t).view.emb y = ix2 (⟨256 * t.val + r.val, by omega⟩ : Fin 2048) n := by
    rw [ey]
    blk_ext [idx t]
  rw [ee, ey]
  unfold out0_5 k0_pay26 k0_pay27 k0_pay28 k0_pay29
  frame_out
  refine (View.canon_apply_of_pieces (want_q m c t ht) _ ?_ (ix2 r n) (cover0_5 _ _ _ _ _ _ _ _ _ _ _ _ _ _ _ _ (ix2 r n))).trans rfl
  intro pc hpc
  rcases List.mem_cons.mp hpc with rfl | hpc
  · exact fun x => stored_q m c t ht 15 slices_S256x1536_o0_960_S256x64 x _ rfl rfl
  rcases List.mem_cons.mp hpc with rfl | hpc
  · exact fun x => stored_q m c t ht 14 slices_S256x1536_o0_896_S256x64 x _ rfl rfl
  rcases List.mem_cons.mp hpc with rfl | hpc
  · exact fun x => stored_q m c t ht 13 slices_S256x1536_o0_832_S256x64 x _ rfl rfl
  rcases List.mem_cons.mp hpc with rfl | hpc
  · exact fun x => stored_q m c t ht 12 slices_S256x1536_o0_768_S256x64 x _ rfl rfl
  rcases List.mem_cons.mp hpc with rfl | hpc
  · exact fun x => stored_q m c t ht 11 slices_S256x1536_o0_704_S256x64 x _ rfl rfl
  rcases List.mem_cons.mp hpc with rfl | hpc
  · exact fun x => stored_q m c t ht 10 slices_S256x1536_o0_640_S256x64 x _ rfl rfl
  rcases List.mem_cons.mp hpc with rfl | hpc
  · exact fun x => stored_q m c t ht 9 slices_S256x1536_o0_576_S256x64 x _ rfl rfl
  rcases List.mem_cons.mp hpc with rfl | hpc
  · exact fun x => stored_q m c t ht 8 slices_S256x1536_o0_512_S256x64 x _ rfl rfl
  rcases List.mem_cons.mp hpc with rfl | hpc
  · exact fun x => stored_q m c t ht 7 slices_S256x1536_o0_448_S256x64 x _ rfl rfl
  rcases List.mem_cons.mp hpc with rfl | hpc
  · exact fun x => stored_q m c t ht 6 slices_S256x1536_o0_384_S256x64 x _ rfl rfl
  rcases List.mem_cons.mp hpc with rfl | hpc
  · exact fun x => stored_q m c t ht 5 slices_S256x1536_o0_320_S256x64 x _ rfl rfl
  rcases List.mem_cons.mp hpc with rfl | hpc
  · exact fun x => stored_q m c t ht 4 slices_S256x1536_o0_256_S256x64 x _ rfl rfl
  rcases List.mem_cons.mp hpc with rfl | hpc
  · exact fun x => stored_q m c t ht 3 slices_S256x1536_o0_192_S256x64 x _ rfl rfl
  rcases List.mem_cons.mp hpc with rfl | hpc
  · exact fun x => stored_q m c t ht 2 slices_S256x1536_o0_128_S256x64 x _ rfl rfl
  rcases List.mem_cons.mp hpc with rfl | hpc
  · exact fun x => stored_q m c t ht 1 slices_S256x1536_o0_64_S256x64 x _ rfl rfl
  rcases List.mem_cons.mp hpc with rfl | hpc
  · exact fun x => stored_q m c t ht 0 slices_S256x1536_o0_0_S256x64 x _ rfl rfl
  nomatch hpc

/-- The keys' array after the run. -/
theorem final6 : (dats m 0 c).arrAt 6 cfg0.N
    = Cert.ProjRefIdeal.Read.val_main_v68 (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  rw [after0_6]
  have ht : t.val < 8 := t.isLt
  obtain ⟨r, n, ey⟩ : ∃ (r : Fin 256) (n : Fin 256), y = ix2 r n := ⟨y 0, y 1, funext fun a => by
    match a with
    | ⟨0, _⟩ => rfl
    | ⟨1, _⟩ => rfl⟩
  have ee : (win0_6.blk t).view.emb y = ix2 (⟨256 * t.val + r.val, by omega⟩ : Fin 2048) n := by
    rw [ey]
    blk_ext [idx t]
  rw [ee, ey]
  unfold out0_6 k0_pay26 k0_pay27 k0_pay28 k0_pay29
  frame_out
  refine (View.canon_apply_of_pieces (want_k m c t ht) _ ?_ (ix2 r n) (cover0_6 _ _ _ _ (ix2 r n))).trans rfl
  intro pc hpc
  rcases List.mem_cons.mp hpc with rfl | hpc
  · exact fun x => stored_k m c t ht 3 slices_S256x1536_o0_1216_S256x64 x _ rfl rfl
  rcases List.mem_cons.mp hpc with rfl | hpc
  · exact fun x => stored_k m c t ht 2 slices_S256x1536_o0_1152_S256x64 x _ rfl rfl
  rcases List.mem_cons.mp hpc with rfl | hpc
  · exact fun x => stored_k m c t ht 1 slices_S256x1536_o0_1088_S256x64 x _ rfl rfl
  rcases List.mem_cons.mp hpc with rfl | hpc
  · exact fun x => stored_k m c t ht 0 slices_S256x1536_o0_1024_S256x64 x _ rfl rfl
  nomatch hpc

/-- The values' array after the run. -/
theorem final7 : (dats m 0 c).arrAt 7 cfg0.N
    = Cert.ProjRefIdeal.Read.val_main_v69 (m ((c : Thread nD τ).loc main_arg0)) (m ((c : Thread nD τ).loc main_arg4)) := by
  refine (dats m 0 c).arrAt_eq_of_covers 7 _ (by decide +kernel) fun t hf y => ?_
  blk_simp
  rw [after0_7]
  have ht : t.val < 8 := t.isLt
  obtain ⟨r, n, ey⟩ : ∃ (r : Fin 256) (n : Fin 256), y = ix2 r n := ⟨y 0, y 1, funext fun a => by
    match a with
    | ⟨0, _⟩ => rfl
    | ⟨1, _⟩ => rfl⟩
  have ee : (win0_7.blk t).view.emb y = ix2 (⟨256 * t.val + r.val, by omega⟩ : Fin 2048) n := by
    rw [ey]
    blk_ext [idx t]
  rw [ee, ey]
  unfold out0_7 k0_pay26
  frame_out
  exact (pay5_apply _ r n).trans (proj_v m c t r n ht)

end Cert.Proof.ProjIdeal
-- ==== Proof.CmpMath.lean ====
/-
  The mathematics of the compressed branch on extended reals: a masked softmax over windows with a floor under the
  division, and the selection of the greatest entries of a row one at a time. Nothing here mentions a program.
-/
module

public import proofs.«01_k».proof.Proof.FlashMath
public import Idealize.ShloMosaic.Lib.SortPrefix
public import Idealize.ShloMosaic.Lib.WordCmp
public import Idealize.ShloMosaic.Lib.WordArith

@[expose] public section

noncomputable section

namespace Cert.Proof.CmpMath

open Idealize.ShloMosaic

/-! ## The masked softmax -/

variable {n : ℕ}

/-- The scores of the visible windows, minus infinity elsewhere. -/
def masked (s : Fin n → ℝ) (p : Fin n → Prop) [DecidablePred p] (c : Fin n) : EReal := if p c then (s c : EReal) else ⊥

/-- The maximum of the visible scores. -/
def top (s : Fin n → ℝ) (p : Fin n → Prop) [DecidablePred p] : EReal := Finset.univ.fold max ⊥ (masked s p)

/-- The exponentials of the masked scores. -/
def ex (s : Fin n → ℝ) (p : Fin n → Prop) [DecidablePred p] (c : Fin n) : EReal := Ideal.exp (masked s p c - top s p)

/-- The weights: the softmax of the visible scores, zero where nothing is visible. -/
def wt (s : Fin n → ℝ) (p : Fin n → Prop) [DecidablePred p] (c : Fin n) : EReal :=
  if ∃ c, p c then Ideal.div (ex s p c) (∑ c, ex s p c) else 0

variable (s : Fin n → ℝ) (p : Fin n → Prop) [DecidablePred p]

theorem top_real (h : ∃ c, p c) : ∃ c, p c ∧ top s p = (s c : EReal) := by
  rcases FlashMath.fold_eq (masked s p) with h0 | ⟨c, hc⟩
  · obtain ⟨c, hc⟩ := h
    have := FlashMath.le_fold (masked s p) c
    rw [h0, masked, if_pos hc] at this
    exact absurd (le_bot_iff.mp this) (EReal.coe_ne_bot _)
  · by_cases hp : p c
    · exact ⟨c, hp, by rw [top, hc, masked, if_pos hp]⟩
    · obtain ⟨c', hc'⟩ := h
      have := FlashMath.le_fold (masked s p) c'
      rw [hc, masked, masked, if_pos hc', if_neg hp] at this
      exact absurd (le_bot_iff.mp this) (EReal.coe_ne_bot _)

theorem ex_eq (c : Fin n) : ex s p c = if p c then Ideal.exp ((s c : EReal) - top s p) else 0 := by
  unfold ex masked
  by_cases h : p c
  · rw [if_pos h, if_pos h]
  · rw [if_neg h, if_neg h, EReal.bot_sub, Ideal.exp_bot]

theorem ex_nonneg (h : ∃ c, p c) : ∃ e : Fin n → ℝ, (∀ c, 0 ≤ e c) ∧ (∀ c, ex s p c = (e c : EReal)) ∧ 1 ≤ ∑ c, e c := by
  obtain ⟨c0, hp, ht⟩ := top_real s p h
  refine ⟨fun c => if p c then Real.exp (s c - s c0) else 0, fun c => ?_, fun c => ?_, ?_⟩
  · show 0 ≤ if p c then Real.exp (s c - s c0) else 0
    split
    · exact (Real.exp_pos _).le
    · exact le_rfl
  · rw [ex_eq, ht, FlashMath.exp_sub]
    by_cases h : p c <;> simp [h]
  · have hle : ∀ c ∈ Finset.univ, (0 : ℝ) ≤ if p c then Real.exp (s c - s c0) else 0 := fun c _ => by
      split
      · exact (Real.exp_pos _).le
      · exact le_rfl
    refine le_trans ?_ (Finset.single_le_sum hle (Finset.mem_univ c0))
    rw [if_pos hp, sub_self, Real.exp_zero]

theorem wt_nonneg (c : Fin n) : 0 ≤ wt s p c := by
  unfold wt
  split
  · rename_i h
    obtain ⟨e, he, hx, hs⟩ := ex_nonneg s p h
    have e1 : ∑ c, ex s p c = ((∑ c, e c : ℝ) : EReal) := by rw [FlashMath.coe_sum]; exact Finset.sum_congr rfl fun c _ => hx c
    rw [e1, hx, Ideal.div_coe (by linarith), ← EReal.coe_mul]
    have := he c
    exact_mod_cast mul_nonneg this (by positivity)
  · exact le_rfl

/-- The kernel's weights: a factor takes the masked exponentials to zero, and the sum is kept above a floor of at most
    one. -/
theorem wt_floor {ε : EReal} (h0 : 0 < ε) (h1 : ε ≤ 1) (c : Fin n) :
    Ideal.div (ex s p c * (if p c then 1 else 0)) (max (∑ c, ex s p c * (if p c then 1 else 0)) ε) = wt s p c := by
  have hm : ∀ c, ex s p c * (if p c then 1 else 0) = ex s p c := fun c => by
    rw [ex_eq]; by_cases h : p c <;> simp [h]
  simp only [hm]
  unfold wt
  split
  · rename_i h
    obtain ⟨e, he, hx, hs⟩ := ex_nonneg s p h
    have e1 : ∑ c, ex s p c = ((∑ c, e c : ℝ) : EReal) := by rw [FlashMath.coe_sum]; exact Finset.sum_congr rfl fun c _ => hx c
    rw [max_eq_left]
    rw [e1]
    exact le_trans h1 (by exact_mod_cast hs)
  · rename_i h
    have hz : ∀ c, ex s p c = 0 := fun c => by rw [ex_eq, if_neg fun hc => h ⟨c, hc⟩]
    simp only [hz, Finset.sum_const_zero]
    rw [Ideal.div, if_neg (ne_of_gt (lt_of_lt_of_le h0 (le_max_right _ _))), zero_mul]

/-- A last column that is never visible has no weight, and takes none. -/
theorem wt_last (s : Fin (n + 1) → ℝ) (p : Fin (n + 1) → Prop) [DecidablePred p] (hl : ¬ p (Fin.last n)) :
    wt s p (Fin.last n) = 0 ∧ ∀ c : Fin n, wt s p c.castSucc = wt (fun c : Fin n => s c.castSucc) (fun c : Fin n => p c.castSucc) c := by
  have hex : (∃ c, p c) ↔ ∃ c : Fin n, p c.castSucc := by
    constructor
    · rintro ⟨c, hc⟩
      rcases Fin.eq_castSucc_or_eq_last c with ⟨c', rfl⟩ | rfl
      · exact ⟨c', hc⟩
      · exact absurd hc hl
    · rintro ⟨c, hc⟩; exact ⟨_, hc⟩
  have htop : top s p = top (fun c : Fin n => s c.castSucc) (fun c : Fin n => p c.castSucc) := by
    refine le_antisymm ?_ ?_
    · rcases FlashMath.fold_eq (masked s p) with h0 | ⟨c, hc⟩
      · unfold top; rw [h0]; exact bot_le
      · rcases Fin.eq_castSucc_or_eq_last c with ⟨c', rfl⟩ | rfl
        · unfold top; rw [hc]; exact FlashMath.le_fold (masked (fun c : Fin n => s c.castSucc) (fun c : Fin n => p c.castSucc)) c'
        · unfold top; rw [hc, masked, if_neg hl]; exact bot_le
    · rcases FlashMath.fold_eq (masked (fun c : Fin n => s c.castSucc) (fun c : Fin n => p c.castSucc)) with h0 | ⟨c, hc⟩
      · unfold top; rw [h0]; exact bot_le
      · unfold top; rw [hc]; exact FlashMath.le_fold (masked s p) c.castSucc
  have he : ∀ c : Fin n, ex s p c.castSucc = ex (fun c : Fin n => s c.castSucc) (fun c : Fin n => p c.castSucc) c := fun c => by
    unfold ex; rw [htop]; rfl
  have hel : ex s p (Fin.last n) = 0 := by rw [ex_eq, if_neg hl]
  have hsum : ∑ c, ex s p c = ∑ c, ex (fun c : Fin n => s c.castSucc) (fun c : Fin n => p c.castSucc) c := by
    rw [Fin.sum_univ_castSucc, hel, add_zero]
    exact Finset.sum_congr rfl fun c _ => he c
  constructor
  · unfold wt
    split
    · rename_i h
      obtain ⟨e, -, hx, hs⟩ := ex_nonneg s p h
      have e1 : ∑ c, ex s p c = ((∑ c, e c : ℝ) : EReal) := by rw [FlashMath.coe_sum]; exact Finset.sum_congr rfl fun c _ => hx c
      rw [hel, e1, Ideal.div_coe (by linarith), zero_mul]
    · rfl
  · intro c
    unfold wt
    rw [hsum, he]
    exact if_congr hex rfl rfl

/-! ## The selection -/

/-- One entry of a row is ahead of another: it is greater, or equal and at a lower index. -/
def ahead (f : Fin 32 → EReal) (i j : Fin 32) : Prop := f j < f i ∨ f j = f i ∧ i < j

/-- The word by which a round picks an entry: the least index of the maximum. -/
def pickWord (f : Fin 32 → EReal) : BitVec 32 :=
  Finset.univ.fold IntOp.minsi 2147483647#32 fun k : Fin 32 => if f k = Finset.univ.fold max ⊥ f then BitVec.ofNat 32 k.val else 33#32

theorem toInt_minsi (a b : BitVec 32) : (IntOp.minsi a b).toInt = min a.toInt b.toInt := by
  unfold IntOp.minsi
  rw [BitVec.slt_eq_decide]
  by_cases h : a.toInt < b.toInt
  · simp [h, le_of_lt h]
  · simp [h, le_of_not_gt h]

/-- A round picks the entry that is ahead of all others. -/
theorem pickWord_eq (f : Fin 32 → EReal) (b : Fin 32) (hb : ∀ i, i ≠ b → ahead f b i) : pickWord f = BitVec.ofNat 32 b.val := by
  have hmax : Finset.univ.fold max ⊥ f = f b := by
    refine le_antisymm ?_ (FlashMath.le_fold f b)
    rcases FlashMath.fold_eq f with h0 | ⟨i, hi⟩
    · rw [h0]; exact bot_le
    · rw [hi]
      by_cases h : i = b
      · rw [h]
      · rcases hb i h with h | ⟨h, -⟩
        · exact h.le
        · exact h.le
  have hw : ∀ k : Fin 32, b.val ≤ (if f k = f b then BitVec.ofNat 32 k.val else 33#32).toInt := fun k => by
    split
    · rename_i h
      rw [WordArith.toInt_ofNat_small _ (by omega)]
      by_cases hk : k = b
      · rw [hk]
      · rcases hb k hk with h' | ⟨-, h'⟩
        · rw [h] at h'; exact absurd h' (lt_irrefl _)
        · exact_mod_cast h'.le
    · have : (33#32 : BitVec 32).toInt = 33 := by decide
      omega
  refine BitVec.eq_of_toInt_eq ?_
  unfold pickWord
  rw [hmax, WordArith.toInt_ofNat_small _ (by omega)]
  have hf := Finset.fold_hom (s := (Finset.univ : Finset (Fin 32))) (op := IntOp.minsi) (op' := min) (b := 2147483647#32)
    (f := fun k : Fin 32 => if f k = f b then BitVec.ofNat 32 k.val else 33#32) (m := BitVec.toInt) toInt_minsi
  rw [← hf]
  refine le_antisymm ?_ ?_
  · rw [Finset.fold_min_le]
    refine Or.inr ⟨b, Finset.mem_univ b, ?_⟩
    rw [if_pos rfl, WordArith.toInt_ofNat_small _ (by omega)]
  · rw [Finset.le_fold_min]
    refine ⟨?_, fun k _ => hw k⟩
    have : (2147483647#32 : BitVec 32).toInt = 2147483647 := by decide
    omega

/-- The row after some rounds: the entries picked are set to minus one. -/
def after (f : Fin 32 → EReal) (σ : Fin 32 → Fin 32) (m : ℕ) (j : Fin 32) : EReal := if ∃ k : Fin 32, k.val < m ∧ σ k = j then -1 else f j

theorem neg_one_lt : (-1 : EReal) < 0 := by
  rw [show (-1 : EReal) = ((-1 : ℝ) : EReal) by simp]
  exact_mod_cast (by norm_num : (-1 : ℝ) < 0)

/-- A round picks the next entry in order. -/
theorem pick_after (f : Fin 32 → EReal) (hf : ∀ j, 0 ≤ f j) (σ : Fin 32 → Fin 32) (hσ : Function.Bijective σ)
    (ho : ∀ a b, a < b → ahead f (σ a) (σ b)) (m : Fin 32) : pickWord (after f σ m.val) = BitVec.ofNat 32 (σ m).val := by
  have hm : after f σ m.val (σ m) = f (σ m) := by
    unfold after
    rw [if_neg]
    rintro ⟨k, hk, e⟩
    rw [hσ.1 e] at hk
    exact lt_irrefl _ hk
  refine pickWord_eq _ _ fun i hi => ?_
  obtain ⟨a, rfl⟩ := hσ.2 i
  rcases lt_trichotomy a m with h | h | h
  · left
    rw [hm]
    unfold after
    rw [if_pos ⟨a, h, rfl⟩]
    exact lt_of_lt_of_le neg_one_lt (hf _)
  · exact absurd (by rw [h]) hi
  · have e : after f σ m.val (σ a) = f (σ a) := by
      unfold after
      rw [if_neg]
      rintro ⟨k, hk, e⟩
      rw [hσ.1 e] at hk
      exact absurd (show a < m from hk) (not_lt_of_gt h)
    unfold ahead
    rw [e, hm]
    exact ho m a h

theorem exists_lt_succ (σ : Fin 32 → Fin 32) (m : Fin 32) (j : Fin 32) :
    (∃ k : Fin 32, k.val < m.val + 1 ∧ σ k = j) ↔ j = σ m ∨ ∃ k : Fin 32, k.val < m.val ∧ σ k = j := by
  constructor
  · rintro ⟨k, hk, e⟩
    by_cases h : k = m
    · exact .inl (by rw [← e, h])
    · exact .inr ⟨k, by omega, e⟩
  · rintro (rfl | ⟨k, hk, e⟩)
    · exact ⟨m, by omega, rfl⟩
    · exact ⟨k, by omega, e⟩

/-- On an ascending list a stable sort is the sort by the order refined by position. -/
theorem stableSort_refine (B R : Fin 32 → Fin 32 → Bool) (hR : ∀ i j, j < i → R i j = B i j) (l : List (Fin 32)) (hl : l.Pairwise (· < ·)) :
    stableSort B l = stableSort R l := by
  induction l with
  | nil => rfl
  | cons a l ih =>
    rw [List.pairwise_cons] at hl
    unfold stableSort
    rw [ih hl.2]
    exact insertBefore_congr _ _ _ _ fun b hb => (hR b a (hl.1 b ((perm_stableSort _ _).mem_iff.mp hb))).symm

/-- The stable sort by greater entries puts a row in order. -/
theorem sorted (f : Fin 32 → EReal) (B : Fin 32 → Fin 32 → Bool) (hB : ∀ i j, B i j = true ↔ f j < f i) :
    Function.Bijective (sortedFrom B) ∧ ∀ a b, a < b → ahead f (sortedFrom B a) (sortedFrom B b) := by
  refine ⟨⟨sortedFrom_injective B, sortedFrom_surjective B⟩, fun a b hab => ?_⟩
  have hT : StrictTotalBefore fun i j : Fin 32 => decide (f j < f i) || (decide (f i = f j) && decide (i < j)) :=
    StrictTotalBefore.of_key_then_position (fun x y : EReal => decide (y < x)) f (fun a => by simp)
      (fun a b c h1 h2 => by simp only [decide_eq_true_eq] at *; exact h2.trans h1)
      (fun a b => by simp only [decide_eq_true_eq]; rcases lt_trichotomy a b with h | h | h <;> simp [h])
  have hBe : B = fun i j => decide (f j < f i) := by
    funext i j
    rw [Bool.eq_iff_iff, hB, decide_eq_true_eq]
  have e : sortedFrom B = sortedFrom fun i j : Fin 32 => decide (f j < f i) || (decide (f i = f j) && decide (i < j)) := by
    have e0 : sortPositions 32 B = sortPositions 32 fun i j : Fin 32 => decide (f j < f i) || (decide (f i = f j) && decide (i < j)) :=
      stableSort_refine _ _ (fun i j hij => by rw [hBe]; simp [not_lt_of_gt hij]) _ (List.pairwise_lt_finRange 32)
    funext k
    unfold sortedFrom
    simp only [List.get_eq_getElem, Fin.val_cast, e0]
  have hn := sortedFrom_noInversion _ _ hT.asymm (fun _ _ h => h) hT.negTrans a b hab
  rw [← e] at hn
  have hne : sortedFrom B a ≠ sortedFrom B b := fun h => (ne_of_lt hab) (sortedFrom_injective B h)
  rcases hT.total _ _ hne with h | h
  · simp only [Bool.or_eq_true, Bool.and_eq_true, decide_eq_true_eq] at h
    rcases h with h | ⟨h, h'⟩
    · exact .inl h
    · exact .inr ⟨h.symm, h'⟩
  · rw [hn] at h; exact absurd h (by decide)

end Cert.Proof.CmpMath

end
-- ==== Proof.CmpForm.lean ====
/-
  The compressed branch of attention in plain mathematics, as both programs are read: the means of windows, which windows
  a place sees, which windows overlap a block, the importance of a block.
-/
module

public import proofs.«01_k».proof.Proof.CmpMath

@[expose] public section

noncomputable section

namespace Cert.Proof.CmpMath

open Idealize.ShloMosaic

/-- The mean of a window of 32 places, each window 16 places after the one before. -/
def winMean (x : Fin 2048 → EReal) (c : Fin 127) : EReal := (∑ j : Fin 32, x ⟨16 * c.val + j.val, by omega⟩) * ((1 / 32 : ℝ) : EReal)

/-- A place sees the windows that end no later than it. -/
def Vis (t : Fin 2048) {n : ℕ} (c : Fin n) : Prop := 16 * c.val + 31 ≤ t.val

instance (t : Fin 2048) {n : ℕ} : DecidablePred (Vis t (n := n)) := fun _ => Nat.decLe _ _

/-- A window meets a block of 64 places. -/
def Over {n : ℕ} (c : Fin n) (j : Fin 32) : Prop := 16 * c.val ≤ 64 * j.val + 63 ∧ 64 * j.val ≤ 16 * c.val + 31

instance {n : ℕ} (c : Fin n) (j : Fin 32) : Decidable (Over c j) := instDecidableAnd

/-- What a place's own block and the first block have added to their importance. -/
def bonus : EReal := Ideal.ofBits .f32 0x4E6E6B28#32

theorem bonus_nonneg : 0 ≤ bonus := by
  have e : bonus = ((1000000000 : ℝ) : EReal) := by
    simp [bonus, Ideal.ofBits, Ideal.ieee, -EReal.coe_mul]; norm_num
  rw [e]
  exact_mod_cast (by norm_num : (0 : ℝ) ≤ 1000000000)

/-- The importance of a block to a place. -/
def imp (w : Fin 4 → Fin 127 → EReal) (t : Fin 2048) (j : Fin 32) : EReal :=
  (∑ h, ∑ c, w h c * (if Over c j then 1 else 0)) + bonus * (if t.val / 64 = j.val then 1 else 0) + bonus * (if j.val = 0 then 1 else 0)

theorem imp_nonneg {w : Fin 4 → Fin 127 → EReal} (hw : ∀ h c, 0 ≤ w h c) (t : Fin 2048) (j : Fin 32) : 0 ≤ imp w t j := by
  have h01 (p : Prop) [Decidable p] : (0 : EReal) ≤ if p then 1 else 0 := by split <;> simp
  unfold imp
  exact add_nonneg (add_nonneg (Finset.sum_nonneg fun h _ => Finset.sum_nonneg fun c _ => mul_nonneg (hw h c) (h01 _)) (mul_nonneg bonus_nonneg (h01 _)))
    (mul_nonneg bonus_nonneg (h01 _))

/-- The importance with the heads' weights added up before the windows'. -/
theorem sum_heads (w : Fin 4 → Fin 127 → EReal) (j : Fin 32) :
    ∑ c, (∑ h, w h c) * (if Over c j then 1 else 0) = ∑ h, ∑ c, w h c * (if Over c j then (1 : EReal) else 0) := by
  rw [Finset.sum_comm]
  refine Finset.sum_congr rfl fun c _ => ?_
  by_cases h : Over c j <;> simp [h]

/-- A window's mean as a product with its row of the averaging table. -/
theorem table_mean (w x : Fin 2048 → EReal) (c : Fin 127)
    (hw : ∀ t : Fin 2048, w t = if 16 * c.val ≤ t.val ∧ t.val < 16 * c.val + 32 then ((1 / 32 : ℝ) : EReal) else 0) : ∑ t, w t * x t = winMean x c := by
  have e : (Finset.univ.filter fun t : Fin 2048 => 16 * c.val ≤ t.val ∧ t.val < 16 * c.val + 32)
      = Finset.univ.image fun j : Fin 32 => (⟨16 * c.val + j.val, by omega⟩ : Fin 2048) := by
    ext t
    simp only [Finset.mem_filter, Finset.mem_univ, true_and, Finset.mem_image]
    constructor
    · rintro ⟨h1, h2⟩
      exact ⟨⟨t.val - 16 * c.val, by omega⟩, Fin.ext (by show 16 * c.val + (t.val - 16 * c.val) = t.val; omega)⟩
    · rintro ⟨j, rfl⟩
      exact ⟨Nat.le_add_right _ _, by show 16 * c.val + j.val < _; omega⟩
  simp only [hw, ite_mul, zero_mul]
  rw [← Finset.sum_filter, e, Finset.sum_image (fun a _ b _ h => Fin.ext (Nat.add_left_cancel (Fin.mk.inj h)))]
  exact (FlashMath.mul_sum _ (by norm_num) _).symm.trans (mul_comm _ _)

/-- A sum over 128 windows the last of which weighs nothing. -/
theorem drop_last {w : Fin 128 → EReal} {w' : Fin 127 → EReal} {y : Fin 128 → EReal} {y' : Fin 127 → EReal}
    (h0 : w (Fin.last 127) = 0) (hw : ∀ c : Fin 127, w c.castSucc = w' c) (hy : ∀ c : Fin 127, y c.castSucc = y' c) : ∑ c, w c * y c = ∑ c, w' c * y' c := by
  rw [Fin.sum_univ_castSucc, h0, zero_mul, add_zero]
  exact Finset.sum_congr rfl fun c _ => by rw [hw, hy]

/-- A word of a place divided by a block's length. -/
theorem block_eq : ∀ (t : Fin 2048) (j : Fin 32), (BitVec.ofNat 32 (t.val / 64) = BitVec.ofNat 32 j.val) ↔ t.val / 64 = j.val := fun t j => by
  constructor
  · intro h
    have := congrArg BitVec.toNat h
    simpa [Nat.mod_eq_of_lt (show t.val / 64 < 4294967296 by omega), Nat.mod_eq_of_lt (show j.val < 4294967296 by omega)] using this
  · intro h; rw [h]

end Cert.Proof.CmpMath

end
-- ==== Proof.CmpRead.lean ====
/-
  The payloads of `CmpIdeal`'s body read at a row and a column, on extended reals: the means of windows, the weights, the
  importance of blocks, the rounds of the selection.
-/
module

public import proofs.«01_k».proof.Proof.Gen.CmpIdeal.Frame
public import proofs.«01_k».proof.Proof.CmpForm
public import Idealize.ShloMosaic.Lib.Pointwise
public import Idealize.ShloMosaic.PureOps.IdealRules
public import Idealize.ShloMosaic.Lib.WordCmp
public import Idealize.ShloMosaic.Lib.WordArith

@[expose] public section

set_option maxRecDepth 16384

noncomputable section

namespace Cert.Proof.CmpIdeal

open Cert.CmpIdeal Cert.CmpIdeal.Gen
open Idealize.ShloMosaic Idealize.ShloMosaic.TcCoe
open Cert.Proof.CmpMath

/-- The named mask is minus infinity. -/
theorem mask_eq : (Named.named (F := Ideal) κ "mask" 0xF149F2CA#32 : Ideal .f32) = (⊥ : EReal) :=
  IdealRules.named_const.ideal_named_scalar _ _ _ _ rfl

theorem ninf_eq : Ideal.ofBits .f32 0xFF800000#32 = (⊥ : EReal) := by simp [Ideal.ofBits, Ideal.ieee]

theorem one_eq : Ideal.ofBits .f32 0x3F800000#32 = (1 : EReal) := by
  simp [Ideal.ofBits, Ideal.ieee, -EReal.coe_mul]; norm_num

theorem neg_one_eq : Ideal.ofBits .f32 0xBF800000#32 = (-1 : EReal) := by
  simp [Ideal.ofBits, Ideal.ieee, -EReal.coe_mul]; norm_num

/-- The floor under the sums of exponentials. -/
def floor : EReal := Ideal.ofBits .f32 0x0DA24260#32

theorem floor_pos : 0 < floor ∧ floor ≤ 1 := by
  have e : floor = ((10633824 * 2 ^ (-123 : ℤ) : ℝ) : EReal) := by
    simp [floor, Ideal.ofBits, Ideal.ieee, -EReal.coe_mul]
  rw [e]
  constructor
  · exact_mod_cast (by positivity : (0 : ℝ) < 10633824 * 2 ^ (-123 : ℤ))
  · exact_mod_cast (by norm_num : (10633824 * 2 ^ (-123 : ℤ) : ℝ) ≤ 1)

/-! ## The means of windows -/

theorem kc_read (w : Vec Ideal S128x2048 .f32) (k : Vec Ideal S1x2048x64 .f32) (c : Fin 128) (d : Fin 64) :
    k0_pay2 (F := Ideal) w k (ix2 c d) = ∑ t : Fin 2048, w (ix2 c t) * k (ix3 0 t d) := by
  pointwise [k0_pay2]

theorem vc_read (w : Vec Ideal S128x2048 .f32) (v : Vec Ideal S1x2048x64 .f32) (c : Fin 128) (d : Fin 64) :
    k0_pay3 (F := Ideal) w v (ix2 c d) = ∑ t : Fin 2048, w (ix2 c t) * v (ix3 0 t d) := by
  pointwise [k0_pay3]

theorem endWord_eq : ∀ c : Fin 128, IntOp.subi (IntOp.addi (IntOp.muli 16#32 (BitVec.ofNat 32 c.val)) 32#32) 1#32 = BitVec.ofNat 32 (16 * c.val + 31) := by decide +kernel

theorem mask_read (t : Fin 2048) (c : Fin 128) : k0_pay4 (ix2 t c) = 1#1 ↔ Vis t c := by
  have e : k0_pay4 (ix2 t c) = IntOp.cmpi .sle (IntOp.subi (IntOp.addi (IntOp.muli 16#32 (BitVec.ofNat 32 c.val)) 32#32) 1#32) (BitVec.ofNat 32 t.val) := by
    pointwise [k0_pay4]
  rw [e, endWord_eq, WordCmp.cmpi_sle_ofNat_eq_one_iff (by omega) (by omega)]
  rfl

/-! ## The weights -/

/-- The scores off the mask at minus infinity. -/
def cut (M : IVec S2048x128 1) (sc : FVec Ideal S2048x128 .f32) : FVec Ideal S2048x128 .f32 :=
  select M sc (broadcast S2048x128 (Named.named (F := Ideal) κ "mask" 0xF149F2CA#32 : Ideal .f32))

/-- Their exponentials, zero off the mask. -/
def expo (M : IVec S2048x128 1) (sc : FVec Ideal S2048x128 .f32) : FVec Ideal S2048x128 .f32 :=
  mulf (exp (subf (cut M sc) (broadcastTo S2048x128 (shapeCast S2048x1 (multiReduction .maximumf [1] S2048 (cut M sc) 0xFF800000#32 reduces_S2048x128_S2048 (.inl rfl) rfl)
    shapeCasts_S2048_S2048x1) broadcasts_S2048x1_S2048x128))) (sitofp (F := Ideal) .f32 (extui 32 M natLt_1_32))

/-- The exponentials over their sum. -/
def soft (P : FVec Ideal S2048x128 .f32) : FVec Ideal S2048x128 .f32 :=
  divf P (broadcastTo S2048x128 (maximumf (shapeCast S2048x1 (multiReduction .add [1] S2048 P 0x00000000#32 reduces_S2048x128_S2048 (.inl rfl) rfl) shapeCasts_S2048_S2048x1)
    (broadcast S2048x1 (Scalar.ofBits .f32 0x0DA24260#32))) broadcasts_S2048x1_S2048x128)

/-- The scaled scores. -/
def scores (kc : FVec Ideal S128x64 .f32) (q : Vec Ideal S1x1x2048x64 .f32) : FVec Ideal S2048x128 .f32 :=
  mulf (matmul (φ₁ := .f32) (φ₂ := .f32) dot_S2048x64_S128x64_S2048x128_1_1_0_0_n_n none (shapeCast S2048x64 (q : FVec Ideal S1x1x2048x64 .f32) shapeCasts_S1x1x2048x64_S2048x64) kc (constant S2048x128 .f32 0x00000000#32))
    (broadcast S2048x128 (Scalar.ofBits .f32 0x3E000000#32))

/-- A head's weights. -/
abbrev weights (kc : FVec Ideal S128x64 .f32) (q : Vec Ideal S1x1x2048x64 .f32) : FVec Ideal S2048x128 .f32 := soft (expo k0_pay4 (scores kc q))

theorem pay7_eq (w : Vec Ideal S128x2048 .f32) (k : Vec Ideal S1x2048x64 .f32) (q : Vec Ideal S1x1x2048x64 .f32) :
    k0_pay7 (k0_pay6 w k q) = weights (k0_pay2 w k) q := rfl

theorem pay10_eq (kc : FVec Ideal S128x64 .f32) (q : Vec Ideal S1x1x2048x64 .f32) : k0_pay10 kc k0_pay4 q = weights kc q := rfl
theorem pay14_eq (kc : FVec Ideal S128x64 .f32) (q : Vec Ideal S1x1x2048x64 .f32) : k0_pay14 kc k0_pay4 q = weights kc q := rfl
theorem pay17_eq (kc : FVec Ideal S128x64 .f32) (q : Vec Ideal S1x1x2048x64 .f32) : k0_pay17 kc k0_pay4 q = weights kc q := rfl

theorem scores_read (kc : FVec Ideal S128x64 .f32) (q : Vec Ideal S1x1x2048x64 .f32) (t : Fin 2048) (c : Fin 128) :
    scores kc q (ix2 t c) = (∑ d : Fin 64, q (ix4 0 0 t d) * kc (ix2 c d)) * Ideal.ofBits .f32 0x3E000000#32 := by
  pointwise [scores]

theorem expo_apply (M : IVec S2048x128 1) (sc : FVec Ideal S2048x128 .f32) (t : Fin 2048) (c : Fin 128) :
    expo M sc (ix2 t c) = Ideal.exp (cut M sc (ix2 t c) - Finset.univ.fold max ⊥ fun j : Fin 128 => cut M sc (ix2 t j)) * (if M (ix2 t c) = 1#1 then 1 else 0) := by
  unfold expo
  generalize cut M sc = A
  pointwise [ninf_eq]
  rcases BitVec.eq_zero_or_eq_one (M (ix2 t c)) with h | h <;> rw [h] <;> congr 1 <;> simp [FloatOps.sitofp]

theorem soft_apply (P : FVec Ideal S2048x128 .f32) (t : Fin 2048) (c : Fin 128) :
    soft P (ix2 t c) = Ideal.div (P (ix2 t c)) (max (∑ j : Fin 128, P (ix2 t j)) floor) := by
  pointwise [soft, floor]

variable {kc : FVec Ideal S128x64 .f32} {q : Vec Ideal S1x1x2048x64 .f32} {t : Fin 2048} {s : Fin 127 → ℝ}

/-- A head's weights at a place whose scores are real. -/
theorem weights_read (hs : ∀ c : Fin 127, (∑ d : Fin 64, q (ix4 0 0 t d) * kc (ix2 c.castSucc d)) * Ideal.ofBits .f32 0x3E000000#32 = ((s c : ℝ) : EReal)) :
    weights kc q (ix2 t (Fin.last 127)) = 0 ∧ ∀ c : Fin 127, weights kc q (ix2 t c.castSucc) = wt s (Vis t) c := by
  have hl : ¬ Vis t (Fin.last 127) := by
    show ¬ 16 * 127 + 31 ≤ t.val
    omega
  have hcut : ∀ c : Fin 128, cut k0_pay4 (scores kc q) (ix2 t c) = masked (fun c : Fin 128 => if h : c.val < 127 then s ⟨c.val, h⟩ else 0) (Vis t) c := fun c => by
    have e : cut k0_pay4 (scores kc q) (ix2 t c) = if k0_pay4 (ix2 t c) = 1#1 then scores kc q (ix2 t c) else ⊥ := by
      rw [← mask_eq]; rfl
    rw [e, masked]
    by_cases h : Vis t c
    · have hc : c.val < 127 := by
        have : 16 * c.val + 31 ≤ t.val := h
        omega
      rw [if_pos ((mask_read t c).mpr h), if_pos h, dif_pos hc, scores_read, ← hs ⟨c.val, hc⟩]
      rfl
    · rw [if_neg (fun h' => h ((mask_read t c).mp h')), if_neg h]
  have hexp : ∀ c : Fin 128, expo k0_pay4 (scores kc q) (ix2 t c)
      = ex (fun c : Fin 128 => if h : c.val < 127 then s ⟨c.val, h⟩ else 0) (Vis t) c * (if Vis t c then 1 else 0) := fun c => by
    rw [expo_apply, ex, top, hcut, funext hcut]
    exact congrArg _ (if_congr (mask_read t c) rfl rfl)
  have hw : ∀ c : Fin 128, weights kc q (ix2 t c) = wt (fun c : Fin 128 => if h : c.val < 127 then s ⟨c.val, h⟩ else 0) (Vis t) c := fun c => by
    rw [weights, soft_apply, hexp, Finset.sum_congr rfl fun j _ => hexp j]
    exact wt_floor _ _ floor_pos.1 floor_pos.2 c
  obtain ⟨h0, h1⟩ := wt_last (fun c : Fin 128 => if h : c.val < 127 then s ⟨c.val, h⟩ else 0) (Vis t) hl
  refine ⟨(hw _).trans h0, fun c => (hw _).trans ((h1 c).trans ?_)⟩
  have es : (fun c : Fin 127 => (fun c : Fin 128 => if h : c.val < 127 then s ⟨c.val, h⟩ else 0) c.castSucc) = s := by
    funext c
    exact dif_pos c.isLt
  rw [es]
  rfl

theorem pv_read (W : FVec Ideal S2048x128 .f32) (vc : FVec Ideal S128x64 .f32) (t : Fin 2048) (d : Fin 64) :
    matmul dot_S2048x128_S128x64_S2048x64_1_0_0_1_n_n none W vc (constant S2048x64 .f32 0x00000000#32) (ix2 t d) = ∑ c : Fin 128, W (ix2 t c) * vc (ix2 c d) := by
  pointwise []

/-- A head's weights' products with the overlap table. -/
abbrev spread (W : FVec Ideal S2048x128 .f32) (ov : Vec Ideal S128x32 .f32) : FVec Ideal S2048x32 .f32 :=
  matmul (φ₁ := .f32) (φ₂ := .f32) dot_S2048x128_S128x32_S2048x32_1_0_0_1_n_n none W (shapeCast S128x32 (ov : FVec Ideal S128x32 .f32) shapeCasts_S128x32_S128x32) (constant S2048x32 .f32 0x00000000#32)

theorem spread_read (W : FVec Ideal S2048x128 .f32) (ov : Vec Ideal S128x32 .f32) (t : Fin 2048) (j : Fin 32) :
    spread W ov (ix2 t j) = ∑ c : Fin 128, W (ix2 t c) * ov (ix2 c j) := by
  pointwise [spread]

/-! ## The selection -/

/-- The columns' words. -/
abbrev cols : IVec S2048x32 32 := iota .tc S2048x32 32 [1] iota_S2048x32_d1_w32

/-- Every row's maximum, at each of its entries. -/
def most (x : FVec Ideal S2048x32 .f32) : FVec Ideal S2048x32 .f32 :=
  broadcastTo S2048x32 (shapeCast S2048x1 (multiReduction .maximumf [1] S2048 x 0xFF800000#32 reduces_S2048x32_S2048 (.inl rfl) rfl) shapeCasts_S2048_S2048x1) broadcasts_S2048x1_S2048x32

/-- Where a row has its maximum. -/
def isMax (x : FVec Ideal S2048x32 .f32) : IVec S2048x32 1 := cmpf .oeq x (most x)

/-- The least column of the maximum, a word for each row. -/
def least (x : FVec Ideal S2048x32 .f32) : IVec S2048 32 :=
  multiReductionI .minsi [1] S2048 (select (isMax x) cols (broadcast S2048x32 33#32)) 2147483647#32 reduces_S2048x32_S2048 rfl

/-- The entry of each row that a round picks. -/
def hit (x : FVec Ideal S2048x32 .f32) : IVec S2048x32 1 :=
  cmpi .eq cols (broadcastTo S2048x32 (shapeCast S2048x1 (least x) shapeCasts_S2048_S2048x1) broadcasts_S2048x1_S2048x32)

/-- The rows after a round. -/
def next (x : FVec Ideal S2048x32 .f32) : FVec Ideal S2048x32 .f32 := select (hit x) (broadcast S2048x32 (Scalar.ofBits .f32 0xBF800000#32)) x

/-- The selection after a round. -/
def mark (x y : FVec Ideal S2048x32 .f32) : FVec Ideal S2048x32 .f32 := select (hit x) (broadcast S2048x32 (Scalar.ofBits .f32 0x3F800000#32)) y

/-- The rows after some rounds. -/
def rows (x : FVec Ideal S2048x32 .f32) : ℕ → FVec Ideal S2048x32 .f32
  | 0 => x
  | m + 1 => next (rows x m)

/-- The selection after some rounds. -/
def chosen (x : FVec Ideal S2048x32 .f32) : ℕ → FVec Ideal S2048x32 .f32
  | 0 => broadcast S2048x32 (Scalar.ofBits .f32 0x00000000#32)
  | m + 1 => mark (rows x m) (chosen x m)

section Rounds

variable (x y : FVec Ideal S2048x32 .f32)

theorem pay27_eq : k0_pay27 cols x = hit x := rfl
theorem pay28_eq : k0_pay28 (F := Ideal) cols x = next x := rfl
theorem pay29_eq : k0_pay29 (F := Ideal) cols x = hit (next x) := by unfold k0_pay29; rw [pay28_eq]; rfl
theorem pay30_eq : k0_pay30 (F := Ideal) cols x = next (next x) := by unfold k0_pay30; rw [pay29_eq, pay28_eq]; rfl
theorem pay31_eq : k0_pay31 (F := Ideal) cols x = hit (next (next x)) := by unfold k0_pay31; rw [pay30_eq]; rfl
theorem pay32_eq : k0_pay32 (F := Ideal) cols y x = mark (next (next x)) (mark (next x) (mark x y)) := by
  unfold k0_pay32; rw [pay31_eq, pay29_eq, pay27_eq]; rfl
theorem pay33_eq : k0_pay33 (F := Ideal) cols x = next (next (next x)) := by unfold k0_pay33; rw [pay31_eq, pay30_eq]; rfl
theorem pay34_eq : k0_pay34 (F := Ideal) cols x = most (next (next (next x))) := by unfold k0_pay34; rw [pay33_eq]; rfl
theorem pay35_eq : k0_pay35 cols x (most x) = hit x := rfl
theorem pay36_eq : k0_pay36 (F := Ideal) cols x (most x) = next x := rfl
theorem pay37_eq : k0_pay37 (F := Ideal) cols x (most x) = hit (next x) := by unfold k0_pay37; rw [pay36_eq]; rfl
theorem pay38_eq : k0_pay38 (F := Ideal) cols x (most x) = next (next x) := by unfold k0_pay38; rw [pay37_eq, pay36_eq]; rfl
theorem pay39_eq : k0_pay39 (F := Ideal) cols x (most x) = hit (next (next x)) := by unfold k0_pay39; rw [pay38_eq]; rfl
theorem pay40_eq : k0_pay40 (F := Ideal) cols y x (most x) = mark (next (next x)) (mark (next x) (mark x y)) := by
  unfold k0_pay40; rw [pay39_eq, pay37_eq, pay35_eq]; rfl
theorem pay41_eq : k0_pay41 (F := Ideal) cols x (most x) = isMax (next (next (next x))) := by unfold k0_pay41; rw [pay39_eq, pay38_eq]; rfl
theorem pay1_eq : k0_pay1 (F := Ideal) cols y (isMax x) k0_pay42 = shapeCast S1x2048x32 (mark x y) shapeCasts_S2048x32_S1x2048x32 := rfl

end Rounds

/-- The words of the importance's rows. -/
abbrev places : IVec S2048x32 32 := iota .tc S2048x32 32 [0] iota_S2048x32_d0_w32

/-- The importance as the body adds it up. -/
abbrev total (x : FVec Ideal S2048x32 .f32) : FVec Ideal S2048x32 .f32 := k0_pay23 x places cols 64#32 k0_pay20 k0_pay21 k0_pay22

theorem pay24_eq (x : FVec Ideal S2048x32 .f32) : k0_pay24 x places cols 64#32 k0_pay20 k0_pay21 k0_pay22 = hit (total x) := rfl
theorem pay25_eq (x : FVec Ideal S2048x32 .f32) : k0_pay25 x places cols 64#32 k0_pay20 k0_pay21 k0_pay22 = mark (total x) (chosen (total x) 0) := by
  unfold k0_pay25; rw [pay24_eq]; rfl
theorem pay26_eq (x : FVec Ideal S2048x32 .f32) : k0_pay26 x places cols 64#32 k0_pay20 k0_pay21 k0_pay22 = next (total x) := by
  unfold k0_pay26; rw [pay24_eq]; rfl

theorem least_read (x : FVec Ideal S2048x32 .f32) (t : Fin 2048) : least x (ix1 t) = pickWord fun j => x (ix2 t j) := by
  have e : ∀ j : Fin 32, isMax x (ix2 t j) = Ideal.cmp .oeq (x (ix2 t j)) (Finset.univ.fold max ⊥ fun j : Fin 32 => x (ix2 t j)) := fun j => by
    pointwise [isMax, most, ninf_eq]
  have e1 : least x (ix1 t) = Finset.univ.fold IntOp.minsi 2147483647#32 fun j : Fin 32 => Scalar.select (isMax x (ix2 t j)) (BitVec.ofNat 32 j.val) 33#32 := by
    pointwise [least]
  rw [e1, pickWord]
  refine congrArg (Finset.univ.fold IntOp.minsi 2147483647#32) (funext fun j => ?_)
  rw [e]
  unfold Scalar.select Ideal.cmp
  exact if_congr (Iff.trans (WordArith.ofBool_eq_one_iff _) decide_eq_true_iff) rfl rfl

theorem eqWord (a b : BitVec 32) : IntOp.cmpi .eq a b = 1#1 ↔ a = b := by
  unfold IntOp.cmpi
  rw [WordArith.ofBool_eq_one_iff]
  simp

theorem hit_read (x : FVec Ideal S2048x32 .f32) (t : Fin 2048) (j : Fin 32) : hit x (ix2 t j) = 1#1 ↔ BitVec.ofNat 32 j.val = pickWord fun j => x (ix2 t j) := by
  have e : hit x (ix2 t j) = IntOp.cmpi .eq (BitVec.ofNat 32 j.val) (least x (ix1 t)) := by
    unfold hit
    generalize least x = l
    pointwise []
  rw [e, eqWord, least_read]

/-- The rounds pick a row's entries in order. -/
theorem rounds (x : FVec Ideal S2048x32 .f32) (t : Fin 2048) (f : Fin 32 → EReal) (hx : ∀ j, x (ix2 t j) = f j) (hf : ∀ j, 0 ≤ f j) (σ : Fin 32 → Fin 32)
    (hσ : Function.Bijective σ) (ho : ∀ a b, a < b → ahead f (σ a) (σ b)) (m : ℕ) (hm : m ≤ 32) :
    (∀ j, rows x m (ix2 t j) = after f σ m j) ∧ ∀ j, chosen x m (ix2 t j) = if ∃ k : Fin 32, k.val < m ∧ σ k = j then 1 else 0 := by
  induction m with
  | zero =>
    refine ⟨fun j => ?_, fun j => ?_⟩
    · rw [after, if_neg (by rintro ⟨k, h, -⟩; exact absurd h (Nat.not_lt_zero _))]
      exact hx j
    · rw [if_neg (by rintro ⟨k, h, -⟩; exact absurd h (Nat.not_lt_zero _))]
      exact Ideal.ofBits_zero_f32
  | succ m ih =>
    obtain ⟨h1, h2⟩ := ih (by omega)
    have hh : ∀ j, hit (rows x m) (ix2 t j) = 1#1 ↔ j = σ ⟨m, by omega⟩ := fun j => by
      rw [hit_read, funext h1, pick_after f hf σ hσ ho ⟨m, by omega⟩]
      constructor
      · intro h
        have := congrArg BitVec.toNat h
        refine Fin.ext ?_
        simpa [Nat.mod_eq_of_lt (show j.val < 4294967296 by omega), Nat.mod_eq_of_lt (show (σ ⟨m, by omega⟩).val < 4294967296 by omega)] using this
      · intro h; rw [h]
    refine ⟨fun j => ?_, fun j => ?_⟩
    · have e : rows x (m + 1) (ix2 t j) = if hit (rows x m) (ix2 t j) = 1#1 then -1 else rows x m (ix2 t j) := by
        rw [← neg_one_eq]; rfl
      rw [e, h1, after, after]
      by_cases h : j = σ ⟨m, by omega⟩
      · rw [if_pos ((hh j).mpr h), if_pos ((exists_lt_succ σ ⟨m, by omega⟩ j).mpr (.inl h))]
      · rw [if_neg (fun h' => h ((hh j).mp h'))]
        by_cases h' : ∃ k : Fin 32, k.val < m ∧ σ k = j
        · rw [if_pos h', if_pos ((exists_lt_succ σ ⟨m, by omega⟩ j).mpr (.inr h'))]
        · rw [if_neg h', if_neg (fun h'' => ((exists_lt_succ σ ⟨m, by omega⟩ j).mp h'').elim h h')]
    · have e : chosen x (m + 1) (ix2 t j) = if hit (rows x m) (ix2 t j) = 1#1 then 1 else chosen x m (ix2 t j) := by
        rw [← one_eq]; rfl
      rw [e, h2]
      by_cases h : j = σ ⟨m, by omega⟩
      · rw [if_pos ((hh j).mpr h), if_pos ((exists_lt_succ σ ⟨m, by omega⟩ j).mpr (.inl h))]
      · rw [if_neg (fun h' => h ((hh j).mp h'))]
        by_cases h' : ∃ k : Fin 32, k.val < m ∧ σ k = j
        · rw [if_pos h', if_pos ((exists_lt_succ σ ⟨m, by omega⟩ j).mpr (.inr h'))]
        · rw [if_neg h', if_neg (fun h'' => ((exists_lt_succ σ ⟨m, by omega⟩ j).mp h'').elim h h')]

/-- The word of a place's block, by a division that rounds down. -/
def blockWord (x : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt 64#32 0#32)) (Scalar.extui (Scalar.cmpi .slt 64#32 0#32)))) (IntOp.cmpi .ne (IntOp.remsi .vector x 64#32) 0#32))
    (IntOp.subi (IntOp.divsi .vector x 64#32) 1#32) (IntOp.divsi .vector x 64#32)

theorem blockWord_eq : ∀ t : Fin 2048, blockWord (BitVec.ofNat 32 t.val) = BitVec.ofNat 32 (t.val / 64) := by decide +kernel

/-- A bit as a number. -/
theorem bit_eq (b : BitVec 1) : FloatOps.sitofp (F := Ideal) .f32 (BitVec.setWidth 32 b) = if b = 1#1 then (1 : EReal) else 0 := by
  rcases BitVec.eq_zero_or_eq_one b with h | h <;> rw [h] <;> simp [FloatOps.sitofp]

theorem firstWord : ∀ j : Fin 32, (BitVec.ofNat 32 j.val = 0#32) ↔ j.val = 0 := by decide

theorem total_read (x : FVec Ideal S2048x32 .f32) (t : Fin 2048) (j : Fin 32) :
    total x (ix2 t j) = x (ix2 t j) + bonus * (if t.val / 64 = j.val then 1 else 0) + bonus * (if j.val = 0 then 1 else 0) := by
  have e : total x (ix2 t j) = x (ix2 t j) + bonus * FloatOps.sitofp (F := Ideal) .f32 (BitVec.setWidth 32 (IntOp.cmpi .eq (BitVec.ofNat 32 j.val) (blockWord (BitVec.ofNat 32 t.val))))
      + bonus * FloatOps.sitofp (F := Ideal) .f32 (BitVec.setWidth 32 (IntOp.cmpi .eq (BitVec.ofNat 32 j.val) 0#32)) := by
    pointwise [k0_pay23, k0_pay22, k0_pay21, k0_pay20, blockWord, bonus]
  rw [e, bit_eq, bit_eq, blockWord_eq]
  exact congrArg₂ (· + ·) (congrArg₂ (· + ·) rfl (congrArg _ (if_congr ((eqWord _ _).trans (eq_comm.trans (block_eq t j))) rfl rfl)))
    (congrArg _ (if_congr ((eqWord _ _).trans (firstWord j)) rfl rfl))

end Cert.Proof.CmpIdeal

end
-- ==== Proof.CmpRefRead.lean ====
/-
  The reference of the compressed branch, read at an index: the windows' means, the scores, the weights, the result, the
  importance of blocks.
-/
module

public import proofs.«01_k».proof.Proof.Gen.CmpRefIdeal.Read
public import proofs.«01_k».proof.Proof.CmpForm
public import Idealize.ShloMosaic.Lib.Pointwise
public import Idealize.ShloMosaic.Lib.WordCmp
public import Idealize.ShloMosaic.Lib.WordArith

@[expose] public section

set_option maxRecDepth 16384

noncomputable section

namespace Cert.Proof.CmpRef

open Cert.CmpRefIdeal Cert.CmpRefIdeal.Read
open Idealize.ShloMosaic
open Cert.Proof.CmpMath

variable (x0 : (⟨S2048x1024, .f32⟩ : BufTy).Contents (Elt Ideal)) (x1 x2 : (⟨S2048x256, .f32⟩ : BufTy).Contents (Elt Ideal))

/-- The queries, a group's heads side by side. -/
abbrev heads : S4x4x2048x64.Idx → EReal := val_main_v1 (F := Ideal) x0

/-- The keys or the values, group by group. -/
abbrev groups : S4x2048x64.Idx → EReal := val_main_v3 (F := Ideal) x1

theorem winWord_eq : ∀ (c : Fin 127) (j : Fin 32), (fun w : BitVec 32 => Scalar.select (IntOp.cmpi .slt w 0#32) (IntOp.addi w 2048#32) w)
    (IntOp.addi (IntOp.addi 0#32 (IntOp.muli 16#32 (BitVec.ofNat 32 c.val))) (BitVec.ofNat 32 j.val)) = BitVec.ofNat 32 (16 * c.val + j.val) := by decide +kernel

/-- The places of a window, for the keys. -/
theorem v27_read (c : Fin 127) (j : Fin 32) (z : Fin 1) : val_main_v27 (F := Ideal) (ix3 c j z) = BitVec.ofNat 32 (16 * c.val + j.val) := by
  rw [← winWord_eq]
  pointwise [val_main_v27, val_main_v26, val_main_v25, val_main_v24, val_main_c_4, val_main_v23, val_main_v22, val_main_c_3, val_main_v21, val_main_v20, val_main_v19, val_main_v18,
    val_main_v17, val_main_v16, val_main_v11, val_main_v10, val_main_c_0, val_main_v9, val_main_v8, val_main_c, val_main_v7]

/-- The places of a window, for the values. -/
theorem v37_read (c : Fin 127) (j : Fin 32) (z : Fin 1) : val_main_v37 (F := Ideal) (ix3 c j z) = BitVec.ofNat 32 (16 * c.val + j.val) := by
  rw [← v27_read c j z]
  rfl

/-- The dimension numbers of the taking of windows. -/
abbrev D : GatherDims S4x2048x64 S127x32x1 S4x127x32x64 := gather_S4x2048x64_S127x32x1_S4x127x32x64_03_1_n_n_1_2_4164

/-- Taking rows of an array along its middle axis. -/
theorem take_read (x : S4x2048x64.Idx → EReal) (idx : IVec S127x32x1 32) (g : Fin 4) (c : Fin 127) (j : Fin 32) (d : Fin 64) (t : Fin 2048)
    (ht : idx (ix3 c j 0) = BitVec.ofNat 32 t.val) :
    Host.gather gather_S4x2048x64_S127x32x1_S4x127x32x64_03_1_n_n_1_2_4164 x idx (ix4 g c j d) = x (ix3 g t d) := by
  unfold Host.gather
  refine congrArg x (funext fun a => Fin.ext ?_)
  match a with
  | ⟨0, _⟩ =>
    show D.start (ix4 g c j d) idx 0 + D.batchCoord (ix4 g c j d) 0 + D.offCoord (ix4 g c j d) 0 = g.val
    rw [D.batchCoord_eq_zero _ _ (List.not_mem_nil)]
    unfold GatherDims.start GatherDims.offCoord
    rw [dif_neg (show (0 : Fin 3) ∉ D.startIndexMap from (by decide : (0 : Fin 3) ∉ [(1 : Fin 3)])), dif_pos ((D.mem_sKept 0).2 ⟨show (0 : Fin 3) ∉ [(1 : Fin 3)] by decide, List.not_mem_nil⟩)]
    simp only [Nat.zero_add]
    rfl
  | ⟨1, _⟩ =>
    have hsi : D.siIdx (ix4 g c j d) ⟨0, by decide⟩ = ix3 c j 0 := by
      funext b'
      match b' with
      | ⟨0, _⟩ => rfl
      | ⟨1, _⟩ => rfl
      | ⟨2, _⟩ => rfl
    show D.start (ix4 g c j d) idx 1 + D.batchCoord (ix4 g c j d) 1 + D.offCoord (ix4 g c j d) 1 = t.val
    rw [D.batchCoord_eq_zero _ _ (List.not_mem_nil), D.offCoord_eq_zero _ _ (fun h => ((D.mem_sKept 1).1 h).1 (show (1 : Fin 3) ∈ [(1 : Fin 3)] by decide))]
    unfold GatherDims.start
    rw [dif_pos (show (1 : Fin 3) ∈ D.startIndexMap from (by decide : (1 : Fin 3) ∈ [(1 : Fin 3)]))]
    show min (idx (D.siIdx (ix4 g c j d) ⟨0, by decide⟩)).toInt.toNat 2047 + 0 + 0 = t.val
    rw [hsi, ht, WordArith.toInt_ofNat_small _ (by omega)]
    omega
  | ⟨2, _⟩ =>
    show D.start (ix4 g c j d) idx 2 + D.batchCoord (ix4 g c j d) 2 + D.offCoord (ix4 g c j d) 2 = d.val
    rw [D.batchCoord_eq_zero _ _ (List.not_mem_nil)]
    unfold GatherDims.start GatherDims.offCoord
    rw [dif_neg (show (2 : Fin 3) ∉ D.startIndexMap from (by decide : (2 : Fin 3) ∉ [(1 : Fin 3)])), dif_pos ((D.mem_sKept 2).2 ⟨show (2 : Fin 3) ∉ [(1 : Fin 3)] by decide, List.not_mem_nil⟩)]
    simp only [Nat.zero_add]
    rfl

/-- The mean over a window. -/
theorem v31_read (g : Fin 4) (c : Fin 127) (d : Fin 64) : val_main_v31 x1 (ix3 g c d) = winMean (fun t => groups x1 (ix3 g t d)) c := by
  have e32 : Ideal.ofBits .f32 0x42000000#32 = ((32 : ℝ) : EReal) := by
    simp [Ideal.ofBits, Ideal.ieee, -EReal.coe_mul]; norm_num
  have e : val_main_v29 x1 (ix3 g c d) = 0 + ∑ j : Fin 32, groups x1 (ix3 g ⟨16 * c.val + j.val, by omega⟩ d) := by
    rw [val_main_v29_apply]
    refine congrArg₂ (· + ·) Ideal.ofBits_zero_f32 (Finset.sum_congr rfl fun j _ => ?_)
    refine Eq.trans (congrArg _ (funext fun a => by match a with | ⟨0, _⟩ => rfl | ⟨1, _⟩ => rfl | ⟨2, _⟩ => rfl | ⟨3, _⟩ => rfl)) (take_read (groups x1) (val_main_v27 (F := Ideal)) g c j d ⟨16 * c.val + j.val, by omega⟩ (v27_read c j 0))
  have e2 : val_main_v31 x1 (ix3 g c d) = Ideal.div (val_main_v29 x1 (ix3 g c d)) (Ideal.ofBits .f32 0x42000000#32) := by
    pointwise [val_main_v31, val_main_v30, val_main_cst_5]
  rw [e2, e, e32, zero_add, Ideal.div_coe (by norm_num)]
  rfl

theorem v41_read (g : Fin 4) (c : Fin 127) (d : Fin 64) : val_main_v41 x2 (ix3 g c d) = winMean (fun t => groups x2 (ix3 g t d)) c :=
  v31_read x2 g c d

/-- The scaled scores. -/
theorem v44_read (g h : Fin 4) (t : Fin 2048) (c : Fin 127) :
    val_main_v44 x0 x1 (ix4 g h t c) = (∑ d : Fin 64, heads x0 (ix4 g h t d) * winMean (fun u => groups x1 (ix3 g u d)) c) * Ideal.ofBits .f32 0x3E000000#32 := by
  simp only [← v31_read]
  pointwise [val_main_v44, val_main_v43, val_main_cst_10, val_main_v42]

theorem endWord_eq : ∀ c : Fin 127, IntOp.subi (IntOp.addi (IntOp.addi 0#32 (IntOp.muli 16#32 (BitVec.ofNat 32 c.val))) 32#32) 1#32 = BitVec.ofNat 32 (16 * c.val + 31) := by decide +kernel

/-- The last place of a window. -/
theorem v15_read (c : Fin 127) : val_main_v15 (F := Ideal) (ix1 c) = BitVec.ofNat 32 (16 * c.val + 31) := by
  rw [← endWord_eq]
  pointwise [val_main_v15, val_main_v14, val_main_c_2, val_main_v13, val_main_v12, val_main_c_1, val_main_v11, val_main_v10, val_main_c_0, val_main_v9, val_main_v8, val_main_c, val_main_v7]

/-- Which windows a place sees. -/
theorem v49_read (t : Fin 2048) (c : Fin 127) : val_main_v49 (F := Ideal) (ix2 t c) = 1#1 ↔ Vis t c := by
  have e : val_main_v49 (F := Ideal) (ix2 t c) = IntOp.cmpi .sle (val_main_v15 (F := Ideal) (ix1 c)) (BitVec.ofNat 32 t.val) := by
    pointwise [val_main_v49, val_main_v48, val_main_v47, val_main_v46, val_main_v45, val_main_v6]
  rw [e, v15_read, WordCmp.cmpi_sle_ofNat_eq_one_iff (by omega) (by omega)]
  rfl

theorem ninf_eq : Ideal.ofBits .f32 0xFF800000#32 = (⊥ : EReal) := by simp [Ideal.ofBits, Ideal.ieee]

variable {g h : Fin 4} {t : Fin 2048} {s : Fin 127 → ℝ} (hs : ∀ c, val_main_v44 x0 x1 (ix4 g h t c) = ((s c : ℝ) : EReal))

include hs

/-- The masked scores. -/
theorem v51_read (c : Fin 127) : val_main_v51 x0 x1 (ix4 g h t c) = masked s (Vis t) c := by
  have e : val_main_v51 x0 x1 (ix4 g h t c) = if val_main_v49 (F := Ideal) (ix2 t c) = 1#1 then val_main_v44 x0 x1 (ix4 g h t c) else Ideal.ofBits .f32 0xFF800000#32 := by
    pointwise [val_main_v51, val_main_call0_v2, val_main_call0_v1, val_main_call0_v0, val_main_cst_11, val_main_v50]
    exact if_congr Iff.rfl rfl rfl
  rw [e, hs, ninf_eq]
  exact if_congr (v49_read t c) rfl rfl

omit hs in
theorem v52_read : val_main_v52 x0 x1 (ix3 g h t) = Finset.univ.fold max (Ideal.ofBits .f32 0xFF800000#32) fun c => val_main_v51 x0 x1 (ix4 g h t c) := by
  pointwise [val_main_v52, val_main_cst_12]

omit hs in
theorem v53_read : val_main_v53 (F := Ideal) (ix3 g h t) = Ideal.ofBits .f32 0xFF800000#32 := by
  pointwise [val_main_v53, val_main_cst_13]

theorem v54_read : val_main_v54 x0 x1 (ix3 g h t) = top s (Vis t) := by
  rw [val_main_v54_apply, v52_read, v53_read, ninf_eq, funext (v51_read x0 x1 hs)]
  exact max_eq_right bot_le

theorem v58_read (c : Fin 127) : val_main_v58 x0 x1 (ix4 g h t c) = ex s (Vis t) c := by
  unfold ex
  rw [← v54_read x0 x1 hs, ← v51_read x0 x1 hs]
  pointwise [val_main_v58, val_main_v57, val_main_v56, val_main_v55]

theorem v59_read : val_main_v59 x0 x1 (ix3 g h t) = ∑ c, ex s (Vis t) c := by
  rw [val_main_v59_apply]
  refine (congrArg₂ (· + ·) Ideal.ofBits_zero_f32 (Finset.sum_congr rfl fun k _ => ?_)).trans (zero_add _)
  rw [← v58_read x0 x1 hs]
  exact congrArg _ (funext fun a => by match a with | ⟨0, _⟩ => rfl | ⟨1, _⟩ => rfl | ⟨2, _⟩ => rfl | ⟨3, _⟩ => rfl)

omit hs in
theorem v63_read : val_main_v63 (F := Ideal) (ix1 t) = 1#1 ↔ ∃ c : Fin 127, Vis t c := by
  have e : val_main_v63 (F := Ideal) (ix1 t) = Finset.univ.fold IntOp.ori 0#1 fun c : Fin 127 => val_main_v49 (F := Ideal) (ix2 t c) := by
    pointwise [val_main_v63, val_main_c_15]
  have hf (A : Finset (Fin 127)) (f : Fin 127 → BitVec 1) : A.fold IntOp.ori 0#1 f = 1#1 ↔ ∃ c ∈ A, f c = 1#1 := by
    have ho (a b : BitVec 1) : IntOp.ori a b = 1#1 ↔ a = 1#1 ∨ b = 1#1 := by revert a b; decide
    induction A using Finset.induction_on with
    | empty => simp
    | insert a A ha ih => rw [Finset.fold_insert ha, ho]; exact (or_congr Iff.rfl ih).trans (by simp)
  rw [e, hf]
  exact exists_congr fun c => by rw [v49_read]; simp

/-- The weights. -/
theorem v65_read (c : Fin 127) : val_main_v65 x0 x1 (ix4 g h t c) = wt s (Vis t) c := by
  have e : val_main_v65 x0 x1 (ix4 g h t c)
      = if val_main_v63 (F := Ideal) (ix1 t) = 1#1 then Ideal.div (val_main_v58 x0 x1 (ix4 g h t c)) (val_main_v59 x0 x1 (ix3 g h t)) else 0 := by
    pointwise [val_main_v65, val_main_call1_v2, val_main_call1_v1, val_main_call1_v0, val_main_cst_16, val_main_v64, val_main_v62, val_main_v61, val_main_v60]
    exact if_congr Iff.rfl rfl Ideal.ofBits_zero_f32
  rw [e, v58_read x0 x1 hs, v59_read x0 x1 hs]
  by_cases h : ∃ c : Fin 127, Vis t c
  · rw [if_pos (v63_read.mpr h), wt, if_pos h]
  · rw [if_neg (fun h' => h (v63_read.mp h')), wt, if_neg h]

/-- The result: the weighted means of the values. -/
theorem v66_read (d : Fin 64) : val_main_v66 x0 x1 x2 (ix4 g h t d) = ∑ c, wt s (Vis t) c * winMean (fun u => groups x2 (ix3 g u d)) c := by
  rw [val_main_v66_apply]
  refine Finset.sum_congr rfl fun k _ => ?_
  rw [← v65_read x0 x1 hs, ← v41_read]
  exact congrArg₂ (· * ·) (congrArg _ (funext fun a => by match a with | ⟨0, _⟩ => rfl | ⟨1, _⟩ => rfl | ⟨2, _⟩ => rfl | ⟨3, _⟩ => rfl))
    (congrArg _ (funext fun a => by match a with | ⟨0, _⟩ => rfl | ⟨1, _⟩ => rfl | ⟨2, _⟩ => rfl))

end Cert.Proof.CmpRef

end
-- ==== Proof.CmpRefSel.lean ====
/-
  The reference of the compressed branch, read at an index: the importance of blocks and the eight blocks selected by it.
-/
module

public import proofs.«01_k».proof.Proof.CmpRefRead

@[expose] public section

set_option maxRecDepth 16384

noncomputable section

namespace Cert.Proof.CmpRef

open Cert.CmpRefIdeal Cert.CmpRefIdeal.Gen Cert.CmpRefIdeal.Read
open Idealize.ShloMosaic
open Cert.Proof.CmpMath

/-- A bit as a number. -/
theorem ubit_eq (b : BitVec 1) : FloatOps.uitofp (F := Ideal) .f32 b = if b = 1#1 then (1 : EReal) else 0 := by
  rcases BitVec.eq_zero_or_eq_one b with h | h <;> rw [h] <;> simp [FloatOps.uitofp]

theorem startWord_eq : ∀ c : Fin 127, IntOp.addi 0#32 (IntOp.muli 16#32 (BitVec.ofNat 32 c.val)) = BitVec.ofNat 32 (16 * c.val) := by decide +kernel

theorem blockStart_eq : ∀ j : Fin 32, IntOp.muli (BitVec.ofNat 32 j.val) 64#32 = BitVec.ofNat 32 (64 * j.val) := by decide +kernel

theorem blockEnd_eq : ∀ j : Fin 32, IntOp.subi (IntOp.addi (IntOp.muli (BitVec.ofNat 32 j.val) 64#32) 64#32) 1#32 = BitVec.ofNat 32 (64 * j.val + 63) := by decide +kernel

theorem andi_one (a b : BitVec 1) : IntOp.andi a b = 1#1 ↔ a = 1#1 ∧ b = 1#1 := by revert a b; decide

/-- Which windows meet which blocks. -/
theorem v85_read (c : Fin 127) (j : Fin 32) : val_main_v85 (F := Ideal) (ix2 c j) = if Over c j then 1 else 0 := by
  have e : val_main_v85 (F := Ideal) (ix2 c j)
      = FloatOps.uitofp (F := Ideal) .f32 (IntOp.andi (IntOp.cmpi .sle (IntOp.addi 0#32 (IntOp.muli 16#32 (BitVec.ofNat 32 c.val))) (IntOp.subi (IntOp.addi (IntOp.muli (BitVec.ofNat 32 j.val) 64#32) 64#32) 1#32))
        (IntOp.cmpi .sge (val_main_v15 (F := Ideal) (ix1 c)) (IntOp.muli (BitVec.ofNat 32 j.val) 64#32))) := by
    pointwise [val_main_v85, val_main_v84, val_main_v83, val_main_v82, val_main_v81, val_main_v80, val_main_v79, val_main_v78, val_main_v77, val_main_v76, val_main_v75, val_main_v74,
      val_main_v73, val_main_v72, val_main_c_19, val_main_v71, val_main_v70, val_main_c_18, val_main_v69, val_main_v68, val_main_c_17, val_main_v67,
      val_main_v11, val_main_v10, val_main_c_0, val_main_v9, val_main_v8, val_main_c, val_main_v7]
  rw [e, v15_read, startWord_eq, blockEnd_eq, blockStart_eq, ubit_eq]
  refine if_congr ((andi_one _ _).trans (and_congr ?_ ?_)) rfl rfl
  · exact WordCmp.cmpi_sle_ofNat_eq_one_iff (by omega) (by omega)
  · exact WordCmp.cmpi_sge_ofNat_eq_one_iff (by omega) (by omega)

/-- The words the reference divides places by blocks with. -/
def blockWord (x : BitVec 32) : BitVec 32 :=
  Scalar.select (IntOp.andi (IntOp.cmpi .ne (if x = 0 then (0 : BitVec 32) else if x.msb = true then -1 else 1) (if (64#32 : BitVec 32) = 0 then (0 : BitVec 32) else if (64#32 : BitVec 32).msb = true then -1 else 1))
      (IntOp.cmpi .ne (IntOp.remsi .host x 64#32) 0#32))
    (IntOp.subi (IntOp.divsi .host x 64#32) 1#32) (IntOp.divsi .host x 64#32)

theorem blockWord_eq : ∀ t : Fin 2048, blockWord (BitVec.ofNat 32 t.val) = BitVec.ofNat 32 (t.val / 64) := by decide +kernel

/-- The block of a place. -/
theorem v88_read (t : Fin 2048) : val_main_v88 (F := Ideal) (ix1 t) = BitVec.ofNat 32 (t.val / 64) := by
  rw [← blockWord_eq]
  pointwise [val_main_v88, val_main_call2_v13, val_main_call2_v12, val_main_call2_c_0, val_main_call2_v11, val_main_call2_v10, val_main_call2_v9, val_main_call2_c, val_main_call2_v8, val_main_call2_v7, val_main_call2_v6, val_main_call2_v5,
    val_main_call2_v4, val_main_call2_v3, val_main_call2_v2, val_main_call2_v1, val_main_call2_v0, val_main_c_21, val_main_v6, signi]
  rfl

theorem eqWord (a b : BitVec 32) : IntOp.cmpi .eq a b = 1#1 ↔ a = b := by
  unfold IntOp.cmpi
  exact Iff.trans (WordArith.ofBool_eq_one_iff _) beq_iff_eq

theorem firstWord : ∀ j : Fin 32, (BitVec.ofNat 32 j.val = 0#32) ↔ j.val = 0 := by decide

variable (x0 : (⟨S2048x1024, .f32⟩ : BufTy).Contents (Elt Ideal)) (x1 : (⟨S2048x256, .f32⟩ : BufTy).Contents (Elt Ideal))

/-- The importance of a block. -/
theorem v103_read {g : Fin 4} {t : Fin 2048} {s : Fin 4 → Fin 127 → ℝ} (hs : ∀ h c, val_main_v44 x0 x1 (ix4 g h t c) = ((s h c : ℝ) : EReal)) (j : Fin 32) :
    val_main_v103 x0 x1 (ix3 g t j) = imp (fun h c => wt (s h) (Vis t) c) t j := by
  have e : val_main_v103 x0 x1 (ix3 g t j) = val_main_v87 x0 x1 (ix3 g t j)
      + bonus * FloatOps.uitofp (F := Ideal) .f32 (IntOp.cmpi .eq (val_main_v88 (F := Ideal) (ix1 t)) (BitVec.ofNat 32 j.val))
      + bonus * FloatOps.uitofp (F := Ideal) .f32 (IntOp.cmpi .eq (BitVec.ofNat 32 j.val) 0#32) := by
    pointwise [val_main_v103, val_main_v102, val_main_v101, val_main_v100, val_main_cst_24, val_main_v99, val_main_v98, val_main_v97, val_main_v96, val_main_v95, val_main_cst_23, val_main_v94,
      val_main_v93, val_main_v92, val_main_v91, val_main_c_22, val_main_v90, val_main_v89, val_main_call3_v4, val_main_call3_v3, val_main_call3_v2, val_main_call3_v1, val_main_call3_v0, bonus]
  have e80 (c : Fin 127) : val_main_v86 x0 x1 (ix3 g t c) = ∑ h, wt (s h) (Vis t) c := by
    rw [val_main_v86_apply]
    refine (congrArg₂ (· + ·) Ideal.ofBits_zero_f32 (Finset.sum_congr rfl fun h _ => ?_)).trans (zero_add _)
    rw [← v65_read x0 x1 (hs h)]
    exact congrArg _ (funext fun a => by match a with | ⟨0, _⟩ => rfl | ⟨1, _⟩ => rfl | ⟨2, _⟩ => rfl | ⟨3, _⟩ => rfl)
  have e81 : val_main_v87 x0 x1 (ix3 g t j) = ∑ h, ∑ c, wt (s h) (Vis t) c * (if Over c j then (1 : EReal) else 0) := by
    rw [val_main_v87_apply, ← sum_heads]
    refine Finset.sum_congr rfl fun c _ => ?_
    rw [← e80, ← v85_read]
    exact congrArg₂ (· * ·) (congrArg _ (funext fun a => by match a with | ⟨0, _⟩ => rfl | ⟨1, _⟩ => rfl | ⟨2, _⟩ => rfl))
      (congrArg _ (funext fun a => by match a with | ⟨0, _⟩ => rfl | ⟨1, _⟩ => rfl))
  rw [e, e81, v88_read, ubit_eq, ubit_eq]
  exact congrArg₂ (· + ·) (congrArg₂ (· + ·) rfl (congrArg _ (if_congr ((eqWord _ _).trans (block_eq t j)) rfl rfl)))
    (congrArg _ (if_congr ((eqWord _ _).trans (firstWord j)) rfl rfl))

/-- The order of a row's entries, the greatest first. -/
def order (f : Fin 32 → EReal) : Fin 32 → Fin 32 := sortedFrom fun i j : Fin 32 => FloatOps.cmpfTotal (F := Ideal) (φ := .f32) .gt (f i) (f j) == 1#1

theorem order_spec (f : Fin 32 → EReal) : Function.Bijective (order f) ∧ ∀ a b, a < b → ahead f (order f a) (order f b) :=
  sorted f _ fun i j => by
    rw [beq_iff_eq]
    show BitVec.ofBool (decide (f j < f i)) = 1#1 ↔ _
    exact Iff.trans (WordArith.ofBool_eq_one_iff _) decide_eq_true_iff

/-- The second array of a sort of two, at an index. -/
theorem sort2_snd (s : Shape) (d : Nat) (hd : d < s.rank) {α β : Type} (cmp : α × β → α × β → BitVec 1) (x : s.Idx → α) (y : s.Idx → β) (j : s.Idx) :
    (Host.sort2 s d cmp x y).2 j
      = y (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The places of the greatest entries are the first of the sorted places. -/
theorem topK_snd {s : Shape} (t : Shape) (d : Nat) (hd : d < s.rank) {α : Type} (gt : α → α → BitVec 1) (x : s.Idx → α) (h : s.Slices (fun _ => 0) t) (j : t.Idx) (i : s.Idx)
    (hi : ∀ a, (i a).val = (j (a.cast h.1.symm)).val) :
    (Host.topK t d gt x h).2 j = BitVec.ofNat 32 (sortedFrom (fun k k' => gt (x (i.along ⟨d, hd⟩ k)) (x (i.along ⟨d, hd⟩ k')) == 1#1) (i ⟨d, hd⟩)).val := by
  unfold Host.topK extractStridedSlice
  have e : (fun a => ⟨0 + (j (a.cast h.1.symm)).val, Nat.lt_of_lt_of_le (Nat.add_lt_add_left (j _).isLt _) (h.2 a)⟩ : s.Idx) = i :=
    funext fun a => Fin.ext ((Nat.zero_add _).trans (hi a).symm)
  simp only [e]
  rw [sort2_snd s d hd]
  simp only [hd, dif_pos]
  unfold iotaInDim Shape.Idx.along
  rw [Function.update_self]

/-- The places of the greatest entries along the last axis. -/
theorem topK_read (x : S4x2048x32.Idx → EReal) (g : Fin 4) (t : Fin 2048) (k : Fin 8) :
    (Host.topK S4x2048x8 2 (FloatOps.cmpfTotal (F := Ideal) (φ := .f32) .gt) x sliceFits_S4x2048x32_S4x2048x8).2 (ix3 g t k)
      = BitVec.ofNat 32 (order (fun j => x (ix3 g t j)) ⟨k.val, by omega⟩).val := by
  have hal (l : Fin 32) : Shape.Idx.along (s := S4x2048x32) (ix3 g t ⟨k.val, by omega⟩) (2 : Fin 3) l = ix3 g t l := by
    unfold Shape.Idx.along
    funext a
    match a with
    | ⟨0, _⟩ => rfl
    | ⟨1, _⟩ => rfl
    | ⟨2, _⟩ => rfl
  refine (topK_snd S4x2048x8 2 (by decide) _ x _ (ix3 g t k) (ix3 g t ⟨k.val, by omega⟩) fun a => by match a with | ⟨0, _⟩ => rfl | ⟨1, _⟩ => rfl | ⟨2, _⟩ => rfl).trans ?_
  have e : (fun i j : Fin 32 => FloatOps.cmpfTotal (F := Ideal) (φ := .f32) .gt (x (ix3 g t i)) (x (ix3 g t j)) == 1#1)
      = fun i j : Fin 32 => FloatOps.cmpfTotal (F := Ideal) (φ := .f32) .gt (x (Shape.Idx.along (s := S4x2048x32) (ix3 g t ⟨k.val, by omega⟩) (2 : Fin 3) i))
        (x (Shape.Idx.along (s := S4x2048x32) (ix3 g t ⟨k.val, by omega⟩) (2 : Fin 3) j)) == 1#1 := by
    funext i j
    rw [hal, hal]
  unfold order
  rw [e]
  rfl

theorem ofNat_inj32 (a b : Fin 32) : BitVec.ofNat 32 a.val = BitVec.ofNat 32 b.val ↔ a = b := by
  revert a b; decide

/-- A count is positive where something is counted. -/
theorem count_pos (p : Fin 8 → Prop) [DecidablePred p] : (0 : EReal) < ∑ k, (if p k then 1 else 0) ↔ ∃ k, p k := by
  constructor
  · intro h
    by_contra hn
    exact ne_of_gt h (Finset.sum_eq_zero fun k _ => if_neg fun hk => hn ⟨k, hk⟩)
  · rintro ⟨k, hk⟩
    have h1 : (1 : EReal) ≤ ∑ k, if p k then 1 else 0 := by
      refine le_trans (le_of_eq (if_pos hk).symm) (Finset.single_le_sum (f := fun k => if p k then (1 : EReal) else 0) (fun k _ => ?_) (Finset.mem_univ k))
      show (0 : EReal) ≤ if p k then 1 else 0
      split <;> simp
    exact lt_of_lt_of_le zero_lt_one h1

/-- The selection: the eight blocks first in order. -/
theorem v108_read (g : Fin 4) (t : Fin 2048) (j : Fin 32) :
    val_main_v108 x0 x1 (ix3 g t j) = if ∃ k : Fin 32, k.val < 8 ∧ order (fun j => val_main_v103 x0 x1 (ix3 g t j)) k = j then 1 else 0 := by
  have e : val_main_v108 x0 x1 (ix3 g t j) = FloatOps.uitofp (F := Ideal) .f32 (FloatOps.cmpf (F := Ideal) (φ := .f32) .ogt (val_main_v105 x0 x1 (ix3 g t j)) (Ideal.ofBits .f32 0#32)) := by
    pointwise [val_main_v108, val_main_v107, val_main_v106, val_main_cst_26]
  have e98 (k : Fin 8) : val_main_v104 x0 x1 (ix4 g t k j) = if order (fun j => val_main_v103 x0 x1 (ix3 g t j)) ⟨k.val, by omega⟩ = j then 1 else 0 := by
    have e : val_main_v104 x0 x1 (ix4 g t k j) = FloatOps.uitofp (F := Ideal) .f32 (IntOp.cmpi .eq (val_main_indices x0 x1 (ix3 g t k)) (BitVec.ofNat 32 j.val)) := by
      pointwise [val_main_v104, val_main_call4_v4, val_main_call4_v3, val_main_call4_v2, val_main_call4_v1, val_main_call4_v0]
    rw [e, ubit_eq]
    unfold val_main_indices
    rw [topK_read]
    exact if_congr ((eqWord _ _).trans (ofNat_inj32 _ _)) rfl rfl
  have e99 : val_main_v105 x0 x1 (ix3 g t j) = ∑ k : Fin 8, if order (fun j => val_main_v103 x0 x1 (ix3 g t j)) ⟨k.val, by omega⟩ = j then (1 : EReal) else 0 := by
    rw [val_main_v105_apply]
    refine (congrArg₂ (· + ·) Ideal.ofBits_zero_f32 (Finset.sum_congr rfl fun k _ => ?_)).trans (zero_add _)
    rw [← e98]
    exact congrArg _ (funext fun a => by match a with | ⟨0, _⟩ => rfl | ⟨1, _⟩ => rfl | ⟨2, _⟩ => rfl | ⟨3, _⟩ => rfl)
  have hgt (y : EReal) : FloatOps.cmpf (F := Ideal) (φ := .f32) .ogt y 0 = 1#1 ↔ 0 < y := by
    show BitVec.ofBool (decide (0 < y)) = 1#1 ↔ _
    exact Iff.trans (WordArith.ofBool_eq_one_iff _) decide_eq_true_iff
  rw [e, Ideal.ofBits_zero_f32, ubit_eq, e99]
  refine if_congr ((hgt _).trans ?_) rfl rfl
  rw [count_pos]
  exact ⟨fun ⟨k, hk⟩ => ⟨⟨k.val, by omega⟩, k.isLt, hk⟩, fun ⟨k, hk, hj⟩ => ⟨⟨k.val, hk⟩, hj⟩⟩

end Cert.Proof.CmpRef

end
-- ==== Proof.CmpPoint.lean ====
/-
  One grid point of `CmpIdeal` against the reference: a group's four heads' results and its selection of blocks.
-/
module

public import proofs.«01_k».proof.Proof.CmpRead
public import proofs.«01_k».proof.Proof.CmpRefSel
public import Idealize.ShloMosaic.Lib.Pipeline.ValueKit

@[expose] public section

set_option maxRecDepth 16384

noncomputable section

namespace Cert.Proof.CmpIdeal

open Cert.CmpIdeal Cert.CmpIdeal.Gen
open Idealize.ShloMosaic Idealize.ShloMosaic.TcCoe Idealize.ShloMosaic.Tactic
open Cert.Proof.CmpMath

/-! ## The scores are real -/

theorem real_sum {ι : Type} [Fintype ι] [DecidableEq ι] (A : Finset ι) (f : ι → EReal) (h : ∀ i, ∃ r : ℝ, f i = r) : ∃ r : ℝ, ∑ i ∈ A, f i = r := by
  choose r hr using h
  exact ⟨∑ i ∈ A, r i, by rw [FlashMath.coe_sum]; exact Finset.sum_congr rfl fun i _ => hr i⟩

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem ofBits_eighth : Ideal.ofBits .f32 0x3E000000#32 = ((1 / 8 : ℝ) : EReal) := by
  simp [Ideal.ofBits, Ideal.ieee, -EReal.coe_mul]; norm_num

/-- Finite queries and keys, the averaging table's rows and the overlap table's rows. -/
structure Good (a0 : S4x4x2048x64.Idx → EReal) (a1 : S4x2048x64.Idx → EReal) (w : S128x2048.Idx → EReal) (ov : S128x32.Idx → EReal) : Prop where
  q : ∀ i, ∃ r : ℝ, a0 i = r
  k : ∀ i, ∃ r : ℝ, a1 i = r
  table : ∀ (c : Fin 127) (t : Fin 2048), w (ix2 c.castSucc t) = if 16 * c.val ≤ t.val ∧ t.val < 16 * c.val + 32 then ((1 / 32 : ℝ) : EReal) else 0
  over : ∀ (c : Fin 127) (j : Fin 32), ov (ix2 c.castSucc j) = if Over c j then 1 else 0

variable {y0 : S2048x1024.Idx → EReal} {y1 y2 : S2048x256.Idx → EReal} {w : S128x2048.Idx → EReal} {ov : S128x32.Idx → EReal}

theorem score_real (H : Good (CmpRef.heads y0) (CmpRef.groups y1) w ov) (g : Fin 4) (t : Fin 2048) :
    ∃ s : Fin 4 → Fin 127 → ℝ, ∀ h c, Cert.CmpRefIdeal.Read.val_main_v44 (F := Ideal) y0 y1 (ix4 g h t c) = ((s h c : ℝ) : EReal) := by
  have e (h : Fin 4) (c : Fin 127) : ∃ r : ℝ, Cert.CmpRefIdeal.Read.val_main_v44 (F := Ideal) y0 y1 (ix4 g h t c) = r := by
    rw [CmpRef.v44_read]
    exact real_mul (real_sum _ _ fun d => real_mul (H.q _) (real_mul (real_sum _ _ fun j => H.k _) ⟨_, rfl⟩)) ⟨_, ofBits_eighth⟩
  choose s hs using e
  exact ⟨s, hs⟩

/-! ## A head -/

/-- What a group's blocks hold of the arguments. -/
structure Reads (a0 : S4x4x2048x64.Idx → EReal) (a1 a2 : S4x2048x64.Idx → EReal) (w : S128x2048.Idx → EReal) (ov : S128x32.Idx → EReal) (g : Fin 4)
    (x0 : Vec Ideal S1x4x2048x64 .f32) (x1 x2 : Vec Ideal S1x2048x64 .f32) (x3 : Vec Ideal S128x2048 .f32) (x4 : Vec Ideal S128x32 .f32) : Prop where
  r0 : ∀ h t d, x0 (ix4 0 h t d) = a0 (ix4 g h t d)
  r1 : ∀ t d, x1 (ix3 0 t d) = a1 (ix3 g t d)
  r2 : ∀ t d, x2 (ix3 0 t d) = a2 (ix3 g t d)
  r3 : ∀ c t, x3 (ix2 c t) = w (ix2 c t)
  r4 : ∀ c j, x4 (ix2 c j) = ov (ix2 c j)

variable {g : Fin 4} {x0 : Vec Ideal S1x4x2048x64 .f32} {x1 x2 : Vec Ideal S1x2048x64 .f32} {x3 : Vec Ideal S128x2048 .f32} {x4 : Vec Ideal S128x32 .f32}

/-- A head of the queries' block. -/
abbrev query (x0 : Vec Ideal S1x4x2048x64 .f32) (h : Fin 4) (inb : ∀ a, (![0, h.val, 0, 0] : Fin 4 → ℕ) a + S1x1x2048x64.size a ≤ S1x4x2048x64.size a) : Vec Ideal S1x1x2048x64 .f32 :=
  View.ld x0 (Rect.unit (s := S1x4x2048x64) ![0, h.val, 0, 0] S1x1x2048x64.size inb)

theorem query_read (x0 : Vec Ideal S1x4x2048x64 .f32) (h : Fin 4) (inb : ∀ a, (![0, h.val, 0, 0] : Fin 4 → ℕ) a + S1x1x2048x64.size a ≤ S1x4x2048x64.size a)
    (t : Fin 2048) (d : Fin 64) : query x0 h inb (ix4 0 0 t d) = x0 (ix4 0 h t d) := by
  refine congrArg x0 (funext fun a => Fin.ext ?_)
  match a with
  | ⟨0, _⟩ => rfl
  | ⟨1, _⟩ => rfl
  | ⟨2, _⟩ => show 0 + 1 * t.val = t.val; omega
  | ⟨3, _⟩ => show 0 + 1 * d.val = d.val; omega

/-- A head's result. -/
abbrev value (kc vc : FVec Ideal S128x64 .f32) (q : Vec Ideal S1x1x2048x64 .f32) : FVec Ideal S1x1x2048x64 .f32 :=
  shapeCast S1x1x2048x64 (matmul dot_S2048x128_S128x64_S2048x64_1_0_0_1_n_n none (weights kc q) vc (constant S2048x64 .f32 0x00000000#32)) shapeCasts_S2048x64_S1x1x2048x64

theorem pay8_eq (vc : FVec Ideal S128x64 .f32) (q : Vec Ideal S1x1x2048x64 .f32) : k0_pay8 vc (k0_pay6 x3 x1 q) = value (k0_pay2 x3 x1) vc q := by
  unfold k0_pay8; rw [pay7_eq]

theorem pay12_eq (kc vc : FVec Ideal S128x64 .f32) (q : Vec Ideal S1x1x2048x64 .f32) : k0_pay12 (k0_pay11 kc vc k0_pay4 q) = value kc vc q := by
  unfold k0_pay12 k0_pay11; rw [pay10_eq]

theorem pay15_eq (kc vc : FVec Ideal S128x64 .f32) (q : Vec Ideal S1x1x2048x64 .f32) : k0_pay15 kc vc k0_pay4 q = value kc vc q := by
  unfold k0_pay15; rw [pay14_eq]

theorem pay18_eq (kc vc : FVec Ideal S128x64 .f32) (q : Vec Ideal S1x1x2048x64 .f32) : k0_pay18 kc vc k0_pay4 q = value kc vc q := by
  unfold k0_pay18; rw [pay17_eq]

theorem cast4_read (v : FVec Ideal S2048x64 .f32) (t : Fin 2048) (d : Fin 64) : shapeCast S1x1x2048x64 v shapeCasts_S2048x64_S1x1x2048x64 (ix4 0 0 t d) = v (ix2 t d) := by
  pointwise []

section Heads

variable (H : Good (CmpRef.heads y0) (CmpRef.groups y1) w ov) (R : Reads (CmpRef.heads y0) (CmpRef.groups y1) (CmpRef.groups y2) w ov g x0 x1 x2 x3 x4) {t : Fin 2048} {s : Fin 4 → Fin 127 → ℝ}
  (hs : ∀ h c, Cert.CmpRefIdeal.Read.val_main_v44 (F := Ideal) y0 y1 (ix4 g h t c) = ((s h c : ℝ) : EReal)) (h : Fin 4)
  (inb : ∀ a, (![0, h.val, 0, 0] : Fin 4 → ℕ) a + S1x1x2048x64.size a ≤ S1x4x2048x64.size a)

include H R

/-- The means of the keys' windows. -/
theorem kc_mean (c : Fin 127) (d : Fin 64) : k0_pay2 x3 x1 (ix2 c.castSucc d) = winMean (fun u => CmpRef.groups y1 (ix3 g u d)) c := by
  rw [kc_read, ← table_mean (fun u => w (ix2 c.castSucc u)) _ c (H.table c)]
  exact Finset.sum_congr rfl fun u _ => by rw [R.r3, R.r1]

/-- The means of the values' windows. -/
theorem vc_mean (c : Fin 127) (d : Fin 64) : k0_pay3 x3 x2 (ix2 c.castSucc d) = winMean (fun u => CmpRef.groups y2 (ix3 g u d)) c := by
  rw [vc_read, ← table_mean (fun u => w (ix2 c.castSucc u)) _ c (H.table c)]
  exact Finset.sum_congr rfl fun u _ => by rw [R.r3, R.r2]

include hs

theorem head_weights : weights (k0_pay2 x3 x1) (query x0 h inb) (ix2 t (Fin.last 127)) = 0
    ∧ ∀ c : Fin 127, weights (k0_pay2 x3 x1) (query x0 h inb) (ix2 t c.castSucc) = wt (s h) (Vis t) c :=
  weights_read fun c => by
    rw [← hs h c, CmpRef.v44_read]
    exact congrArg (· * _) (Finset.sum_congr rfl fun d _ => by rw [query_read, R.r0, kc_mean H R])

/-- A head's result is the reference's. -/
theorem head_value (d : Fin 64) : value (k0_pay2 x3 x1) (k0_pay3 x3 x2) (query x0 h inb) (ix4 0 0 t d) = Cert.CmpRefIdeal.Read.val_main_v66 (F := Ideal) y0 y1 y2 (ix4 g h t d) := by
  have hW := head_weights H R hs h inb
  refine (cast4_read _ t d).trans ?_
  rw [pv_read, CmpRef.v66_read _ _ _ (hs h)]
  exact drop_last (w := fun c => weights (k0_pay2 x3 x1) (query x0 h inb) (ix2 t c)) hW.1 hW.2 fun c => vc_mean H R c d

/-- A head's part of a block's importance. -/
theorem head_spread (j : Fin 32) : spread (weights (k0_pay2 x3 x1) (query x0 h inb)) x4 (ix2 t j) = ∑ c, wt (s h) (Vis t) c * (if Over c j then (1 : EReal) else 0) := by
  have hW := head_weights H R hs h inb
  rw [spread_read]
  exact drop_last (w := fun c => weights (k0_pay2 x3 x1) (query x0 h inb) (ix2 t c)) hW.1 hW.2 fun c => (R.r4 _ j).trans (H.over c j)

end Heads

/-! ## The blocks a grid point leaves -/

theorem zero3 : (![0, 0, 0] : Fin 3 → ℕ) = fun _ => 0 := by funext a; match a with | ⟨0, _⟩ => rfl | ⟨1, _⟩ => rfl | ⟨2, _⟩ => rfl
theorem zero2 : (![0, 0] : Fin 2 → ℕ) = fun _ => 0 := by funext a; match a with | ⟨0, _⟩ => rfl | ⟨1, _⟩ => rfl

variable (x0 x1 x2 x3 x4)

/-- The heads' parts of the importance, added up. -/
abbrev added : FVec Ideal S2048x32 .f32 :=
  addf (addf (addf (addf k0_pay5 (spread (weights (k0_pay2 x3 x1) (View.ld x0 r0_2)) x4)) (spread (weights (k0_pay2 x3 x1) (View.ld x0 r0_4)) x4))
    (spread (weights (k0_pay2 x3 x1) (View.ld x0 r0_5)) x4)) (spread (weights (k0_pay2 x3 x1) (View.ld x0 r0_6)) x4)

theorem ld3 : View.ld x3 r0_0 = x3 := View.ld_unit_zero zero2 _ _
theorem ld1 : View.ld x1 r0_1 = x1 := View.ld_unit_zero zero3 _ _
theorem ld4 : View.ld x4 r0_3 = x4 := View.ld_unit_zero zero2 _ _

theorem pay49_eq : k0_pay49 x0 x1 x2 x3 x4 = added x0 x1 x3 x4 := by
  unfold k0_pay49 k0_pay43 k0_pay45 k0_pay46
  rw [ld3, ld1, ld4]
  unfold k0_pay19 k0_pay16 k0_pay13 k0_pay9
  rw [pay17_eq, pay14_eq, pay10_eq, pay7_eq]

theorem sel_eq (x : FVec Ideal S2048x32 .f32) :
    k0_pay1 cols (k0_pay40 cols (k0_pay32 cols (mark (total x) (chosen (total x) 0)) (next (total x))) (k0_pay33 cols (next (total x))) (k0_pay34 cols (next (total x))))
        (k0_pay41 cols (k0_pay33 cols (next (total x))) (k0_pay34 cols (next (total x)))) k0_pay42
      = shapeCast S1x2048x32 (chosen (total x) 8) shapeCasts_S2048x32_S1x2048x32 := by
  generalize total x = X
  rw [pay32_eq, pay33_eq, pay34_eq, pay40_eq, pay41_eq, pay1_eq]
  rfl

theorem out5_eq : out0_5 x0 x1 x2 x3 x4 = View.canon [⟨r0_6, value (k0_pay2 x3 x1) (k0_pay3 x3 x2) (View.ld x0 r0_6)⟩,
    ⟨r0_5, value (k0_pay2 x3 x1) (k0_pay3 x3 x2) (View.ld x0 r0_5)⟩, ⟨r0_4, value (k0_pay2 x3 x1) (k0_pay3 x3 x2) (View.ld x0 r0_4)⟩,
    ⟨r0_2, value (k0_pay2 x3 x1) (k0_pay3 x3 x2) (View.ld x0 r0_2)⟩] := by
  unfold out0_5 k0_pay43 k0_pay44 k0_pay45 k0_pay46
  rw [ld3, ld1, ld1, pay18_eq, pay15_eq, pay12_eq, pay8_eq]

theorem out6_eq : out0_6 x0 x1 x2 x3 x4 = shapeCast S1x2048x32 (chosen (total (added x0 x1 x3 x4)) 8) shapeCasts_S2048x32_S1x2048x32 := by
  unfold out0_6
  rw [View.canon_unit_zero zero3]
  unfold k0_pay55 k0_pay54 k0_pay53 k0_pay52 k0_pay51 k0_pay50 k0_pay48 k0_pay47
  rw [pay49_eq, pay25_eq, pay26_eq]
  exact sel_eq _

theorem cast3_read (v : FVec Ideal S2048x32 .f32) (t : Fin 2048) (j : Fin 32) : shapeCast S1x2048x32 v shapeCasts_S2048x32_S1x2048x32 (ix3 0 t j) = v (ix2 t j) := by
  pointwise []

/-- What a group's block of results holds. -/
def want (y0 : S2048x1024.Idx → EReal) (y1 y2 : S2048x256.Idx → EReal) (g : Fin 4) : Vec Ideal S1x4x2048x64 .f32 :=
  fun y => Cert.CmpRefIdeal.Read.val_main_v66 (F := Ideal) y0 y1 y2 (ix4 g (y 1) (y 2) (y 3))

variable {x0 x1 x2 x3 x4}
variable (H : Good (CmpRef.heads y0) (CmpRef.groups y1) w ov) (R : Reads (CmpRef.heads y0) (CmpRef.groups y1) (CmpRef.groups y2) w ov g x0 x1 x2 x3 x4)

include H R

/-- What is stored for a head, at the block's index. -/
theorem stored (h : Fin 4) (inb : ∀ a, (![0, h.val, 0, 0] : Fin 4 → ℕ) a + S1x1x2048x64.size a ≤ S1x4x2048x64.size a) (x : S1x1x2048x64.Idx) (y : S1x4x2048x64.Idx)
    (h1 : (y 1).val = h.val + 1 * (x 1).val) (h2 : (y 2).val = 0 + 1 * (x 2).val) (h3 : (y 3).val = 0 + 1 * (x 3).val) :
    value (k0_pay2 x3 x1) (k0_pay3 x3 x2) (query x0 h inb) x = want y0 y1 y2 g y := by
  obtain ⟨t, d, rfl⟩ : ∃ (t : Fin 2048) (d : Fin 64), x = ix4 0 0 t d := ⟨x 2, x 3, funext fun a => Fin.ext (by
    match a with
    | ⟨0, _⟩ => exact Nat.lt_one_iff.mp (x 0).isLt
    | ⟨1, _⟩ => exact Nat.lt_one_iff.mp (x 1).isLt
    | ⟨2, _⟩ => rfl
    | ⟨3, _⟩ => rfl)⟩
  have k1 : y 1 = h := Fin.ext h1
  have k2 : y 2 = t := Fin.ext (h2.trans (by show 0 + 1 * t.val = t.val; omega))
  have k3 : y 3 = d := Fin.ext (h3.trans (by show 0 + 1 * d.val = d.val; omega))
  obtain ⟨s, hs⟩ := score_real H g t
  rw [head_value H R hs h inb d, want, k1, k2, k3]

/-- The results a grid point leaves in its block. -/
theorem point5 (y : S1x4x2048x64.Idx) : out0_5 x0 x1 x2 x3 x4 y = want y0 y1 y2 g y := by
  rw [out5_eq]
  refine (View.canon_apply_of_pieces (want y0 y1 y2 g) _ ?_ y (cover0_5 _ _ _ _ y)).trans rfl
  intro pc hpc
  rcases List.mem_cons.mp hpc with rfl | hpc
  · exact fun x => stored H R 3 inb_S1x4x2048x64_S1x1x2048x64_0_3_0_0 x _ rfl rfl rfl
  rcases List.mem_cons.mp hpc with rfl | hpc
  · exact fun x => stored H R 2 inb_S1x4x2048x64_S1x1x2048x64_0_2_0_0 x _ rfl rfl rfl
  rcases List.mem_cons.mp hpc with rfl | hpc
  · exact fun x => stored H R 1 inb_S1x4x2048x64_S1x1x2048x64_0_1_0_0 x _ rfl rfl rfl
  rcases List.mem_cons.mp hpc with rfl | hpc
  · exact fun x => stored H R 0 inb_S1x4x2048x64_S1x1x2048x64_0_0_0_0 x _ rfl rfl rfl
  nomatch hpc

/-- The selection a grid point leaves in its block. -/
theorem point6 (t : Fin 2048) (j : Fin 32) : out0_6 x0 x1 x2 x3 x4 (ix3 0 t j) = Cert.CmpRefIdeal.Read.val_main_v108 (F := Ideal) y0 y1 (ix3 g t j) := by
  obtain ⟨s, hs⟩ := score_real H g t
  have ha (j : Fin 32) : added x0 x1 x3 x4 (ix2 t j) = ∑ h, ∑ c, wt (s h) (Vis t) c * (if Over c j then (1 : EReal) else 0) := by
    have e : added x0 x1 x3 x4 (ix2 t j) = Ideal.ofBits .f32 0x00000000#32 + spread (weights (k0_pay2 x3 x1) (View.ld x0 r0_2)) x4 (ix2 t j) + spread (weights (k0_pay2 x3 x1) (View.ld x0 r0_4)) x4 (ix2 t j)
      + spread (weights (k0_pay2 x3 x1) (View.ld x0 r0_5)) x4 (ix2 t j) + spread (weights (k0_pay2 x3 x1) (View.ld x0 r0_6)) x4 (ix2 t j) := rfl
    rw [e, Ideal.ofBits_zero_f32, zero_add, Fin.sum_univ_four, ← head_spread H R hs 0 inb_S1x4x2048x64_S1x1x2048x64_0_0_0_0, ← head_spread H R hs 1 inb_S1x4x2048x64_S1x1x2048x64_0_1_0_0,
      ← head_spread H R hs 2 inb_S1x4x2048x64_S1x1x2048x64_0_2_0_0, ← head_spread H R hs 3 inb_S1x4x2048x64_S1x1x2048x64_0_3_0_0]
    rfl
  have hx (j : Fin 32) : total (added x0 x1 x3 x4) (ix2 t j) = imp (fun h c => wt (s h) (Vis t) c) t j := by
    rw [total_read, ha]
    rfl
  have hv : (fun j => Cert.CmpRefIdeal.Read.val_main_v103 (F := Ideal) y0 y1 (ix3 g t j)) = imp (fun h c => wt (s h) (Vis t) c) t :=
    funext fun j => CmpRef.v103_read y0 y1 hs j
  have ho := CmpRef.order_spec (imp (fun h c => wt (s h) (Vis t) c) t)
  rw [out6_eq, cast3_read, CmpRef.v108_read, hv]
  exact (rounds _ t _ hx (imp_nonneg (fun h c => wt_nonneg (s h) (Vis t) c) t) _ ho.1 ho.2 8 (by omega)).2 j

end Cert.Proof.CmpIdeal

end
-- ==== Proof.CmpPre.lean ====
/-
  What the compressed branch's precondition gives: finite queries and keys.
-/
module

public import proofs.«01_k».proof.Proof.FlashPre
public import proofs.«01_k».proof.Proof.Gen.Pre_cmp_pre
public import Idealize.ShloMosaic.Lib.ReduceAll

@[expose] public section

set_option maxRecDepth 16384

noncomputable section

namespace Cert.Proof.CmpEq

open Cert.Pre_cmp_pre
open Idealize.ShloMosaic

variable {a0 : FVec Ideal S2048x1024 .f32} {a1 a2 : FVec Ideal S2048x256 .f32}

/-- The precondition's queries and keys are finite. -/
theorem finite_of_pre (h : fn (F := Ideal) a0 a1 a2 = fun _ => 1#1) : (∀ i, ∃ r : ℝ, a0 i = r) ∧ ∀ i, ∃ r : ℝ, a1 i = r := by
  have h0 := congrFun h (fun i => i.elim0)
  dsimp only [fn] at h0
  obtain ⟨ha, hb⟩ := IntOp.andi_eq_one.1 h0
  refine ⟨fun i => ?_, fun i => ?_⟩
  · have e := Host.reduce_andi_all _ _ _ _ _ ha i
    refine FlashEq.real_of_abs_lt _ ?_
    change BitVec.ofBool (decide (max (a0 i) (-a0 i) < Ideal.ofBits .f32 0x7F800000#32)) = 1#1 at e
    rw [WordArith.ofBool_eq_one_iff, decide_eq_true_iff, FlashEq.ofBits_inf] at e
    exact e
  · have e := Host.reduce_andi_all _ _ _ _ _ hb i
    refine FlashEq.real_of_abs_lt _ ?_
    change BitVec.ofBool (decide (max (a1 i) (-a1 i) < Ideal.ofBits .f32 0x7F800000#32)) = 1#1 at e
    rw [WordArith.ofBool_eq_one_iff, decide_eq_true_iff, FlashEq.ofBits_inf] at e
    exact e

end Cert.Proof.CmpEq

end
-- ==== Proof.CmpFinal.lean ====
/-
  The arrays that `CmpIdeal` leaves are the reference's results of the arguments: the compressed branch's result and the
  selection of blocks.
-/
module

public import proofs.«01_k».proof.Proof.Gen.CmpIdeal.Value
public import proofs.«01_k».proof.Proof.CmpPoint
public import proofs.«01_k».proof.Proof.CmpPre
public import Idealize.ShloMosaic.Lib.Pointwise
public import Idealize.ShloMosaic.Lib.Claim

@[expose] public section

set_option maxRecDepth 16384

noncomputable section

namespace Cert.Proof.CmpIdeal

open Cert.CmpIdeal Cert.CmpIdeal.Gen
open Idealize.ShloMosaic Idealize.ShloMosaic.TcCoe Idealize.ShloMosaic.Tactic

variable (m : (ℓ : Loc nD τ sig) → Buf (Elt Ideal) ℓ)

/-- Every window's block index at a grid point. -/
theorem idx : ∀ t : Fin cfg0.N, win0_0.index t = ![t.val, 0, 0, 0] ∧ win0_1.index t = ![t.val, 0, 0] ∧ win0_2.index t = ![t.val, 0, 0] ∧ win0_3.index t = ![0, 0]
    ∧ win0_4.index t = ![0, 0] ∧ win0_5.index t = ![t.val, 0, 0, 0] ∧ win0_6.index t = ![t.val, 0, 0] :=
  (by decide +kernel : ∀ t : Fin grid0.N, _)

variable (c : Dev nD) (t : Fin cfg0.N)

/-! ## The arguments' heads and groups -/

theorem read0 (h : Fin 4) (u : Fin 2048) (d : Fin 64) (ht : t.val < 4) :
    iblk m c 0 t (ix4 0 h u d) = CmpRef.heads (m ((c : Thread nD τ).loc main_arg0)) (ix4 ⟨t.val, ht⟩ h u d) := by
  refine Eq.trans (b := V m c main_v2 (ix4 (⟨t.val, ht⟩ : Fin 4) h u d)) ?_ ?_
  · blk_ext [iblk, idx t]
  · entry_read
    pointwise [Cert.CmpRefIdeal.Read.val_main_v1, Cert.CmpRefIdeal.Read.val_main_v0]
    refine congrArg (m ((c : Thread nD τ).loc main_arg0)) (congrArg (ix2 u) (Fin.ext ?_))
    show (t.val * 4 + h.val) * 64 + d.val = t.val * 256 + h.val * 64 + d.val
    omega

theorem read1 (u : Fin 2048) (d : Fin 64) (ht : t.val < 4) :
    iblk m c 1 t (ix3 0 u d) = CmpRef.groups (m ((c : Thread nD τ).loc main_arg1)) (ix3 ⟨t.val, ht⟩ u d) := by
  refine Eq.trans (b := V m c main_v4 (ix3 (⟨t.val, ht⟩ : Fin 4) u d)) ?_ ?_
  · blk_ext [iblk, idx t]
  · entry_read
    pointwise [Cert.CmpRefIdeal.Read.val_main_v3, Cert.CmpRefIdeal.Read.val_main_v2]

theorem read2 (u : Fin 2048) (d : Fin 64) (ht : t.val < 4) :
    iblk m c 2 t (ix3 0 u d) = CmpRef.groups (m ((c : Thread nD τ).loc main_arg2)) (ix3 ⟨t.val, ht⟩ u d) := by
  refine Eq.trans (b := V m c main_v6 (ix3 (⟨t.val, ht⟩ : Fin 4) u d)) ?_ ?_
  · blk_ext [iblk, idx t]
  · entry_read
    pointwise [Cert.CmpRefIdeal.Read.val_main_v3, Cert.CmpRefIdeal.Read.val_main_v2]

/-! ## The tables -/

/-- The averaging table that the program makes. -/
abbrev means : S128x2048.Idx → EReal := V m c main_v33

/-- The overlap table that the program makes. -/
abbrev overlaps : S128x32.Idx → EReal := V m c main_v65

theorem read3 (k : Fin 128) (u : Fin 2048) : iblk m c 3 t (ix2 k u) = means m c (ix2 k u) := by
  blk_ext [iblk, idx t]

theorem read4 (k : Fin 128) (j : Fin 32) : iblk m c 4 t (ix2 k j) = overlaps m c (ix2 k j) := by
  blk_ext [iblk, idx t]

theorem startWord : ∀ k : Fin 127, IntOp.muli 16#32 (BitVec.ofNat 32 k.val) = BitVec.ofNat 32 (16 * k.val) := by decide +kernel
theorem stopWord : ∀ k : Fin 127, IntOp.addi (BitVec.ofNat 32 (16 * k.val)) 32#32 = BitVec.ofNat 32 (16 * k.val + 32) := by decide +kernel
theorem lastWord : ∀ k : Fin 127, IntOp.subi (BitVec.ofNat 32 (16 * k.val + 32)) 1#32 = BitVec.ofNat 32 (16 * k.val + 31) := by decide +kernel
theorem rowWord : ∀ k : Fin 127, IntOp.cmpi .slt (BitVec.ofNat 32 k.val) 127#32 = 1#1 := by decide +kernel

theorem ofBits_length : Ideal.ofBits .f32 0x42000000#32 = ((32 : ℝ) : EReal) := by
  simp [Ideal.ofBits, Ideal.ieee, -EReal.coe_mul]; norm_num

/-- The averaging table. -/
theorem table (k : Fin 127) (u : Fin 2048) : means m c (ix2 k.castSucc u) = if 16 * k.val ≤ u.val ∧ u.val < 16 * k.val + 32 then ((1 / 32 : ℝ) : EReal) else 0 := by
  have e : means m c (ix2 k.castSucc u) = Ideal.div (FloatOps.uitofp (F := Ideal) .f32 (IntOp.andi (IntOp.andi (IntOp.cmpi .sge (BitVec.ofNat 32 u.val) (IntOp.muli 16#32 (BitVec.ofNat 32 k.val)))
      (IntOp.cmpi .slt (BitVec.ofNat 32 u.val) (IntOp.addi (IntOp.muli 16#32 (BitVec.ofNat 32 k.val)) 32#32))) (IntOp.cmpi .slt (BitVec.ofNat 32 k.val) 127#32))) (Ideal.ofBits .f32 0x42000000#32) := by
    show V m c main_v33 (ix2 k.castSucc u) = _
    entry_read
    pointwise []
    rfl
  have hb : IntOp.andi (IntOp.andi (IntOp.cmpi .sge (BitVec.ofNat 32 u.val) (BitVec.ofNat 32 (16 * k.val))) (IntOp.cmpi .slt (BitVec.ofNat 32 u.val) (BitVec.ofNat 32 (16 * k.val + 32)))) 1#1 = 1#1
      ↔ 16 * k.val ≤ u.val ∧ u.val < 16 * k.val + 32 := by
    rw [CmpRef.andi_one, CmpRef.andi_one, WordCmp.cmpi_sge_ofNat_eq_one_iff (by omega) (by omega), WordCmp.cmpi_slt_ofNat_eq_one_iff (by omega) (by omega)]
    exact and_iff_left rfl
  rw [e, startWord, stopWord, rowWord, CmpRef.ubit_eq, ofBits_length, if_congr hb rfl rfl]
  split
  · rw [Ideal.div_coe (by norm_num), one_mul, one_div]
  · rw [Ideal.div_coe (by norm_num), zero_mul]

/-- The overlap table. -/
theorem over (k : Fin 127) (j : Fin 32) : overlaps m c (ix2 k.castSucc j) = if CmpMath.Over k j then 1 else 0 := by
  have e : overlaps m c (ix2 k.castSucc j) = FloatOps.uitofp (F := Ideal) .f32 (IntOp.andi (IntOp.andi (IntOp.cmpi .sle (IntOp.muli 16#32 (BitVec.ofNat 32 k.val))
      (IntOp.subi (IntOp.addi (IntOp.muli (BitVec.ofNat 32 j.val) 64#32) 64#32) 1#32)) (IntOp.cmpi .sge (IntOp.subi (IntOp.addi (IntOp.muli 16#32 (BitVec.ofNat 32 k.val)) 32#32) 1#32)
      (IntOp.muli (BitVec.ofNat 32 j.val) 64#32))) (IntOp.cmpi .slt (BitVec.ofNat 32 k.val) 127#32)) := by
    show V m c main_v65 (ix2 k.castSucc j) = _
    entry_read
    pointwise []
    rfl
  rw [e, startWord, stopWord, lastWord, rowWord, CmpRef.blockEnd_eq, CmpRef.blockStart_eq, CmpRef.ubit_eq]
  refine if_congr ((CmpRef.andi_one _ _).trans ((and_iff_left rfl).trans ((CmpRef.andi_one _ _).trans (and_congr ?_ ?_)))) rfl rfl
  · exact WordCmp.cmpi_sle_ofNat_eq_one_iff (by omega) (by omega)
  · exact WordCmp.cmpi_sge_ofNat_eq_one_iff (by omega) (by omega)

theorem reads (ht : t.val < 4) : Reads (CmpRef.heads (m ((c : Thread nD τ).loc main_arg0))) (CmpRef.groups (m ((c : Thread nD τ).loc main_arg1))) (CmpRef.groups (m ((c : Thread nD τ).loc main_arg2)))
    (means m c) (overlaps m c) ⟨t.val, ht⟩ (iblk m c 0 t) (iblk m c 1 t) (iblk m c 2 t) (iblk m c 3 t) (iblk m c 4 t) :=
  ⟨fun h u d => read0 m c t h u d ht, fun u d => read1 m c t u d ht, fun u d => read2 m c t u d ht, read3 m c t, read4 m c t⟩

/-- Every entry is real. -/
abbrev AllReal {n : Shape} (x : n.Idx → EReal) : Prop := ∀ i, ∃ r : ℝ, x i = r

variable (H : AllReal (n := S2048x1024) (m ((c : Thread nD τ).loc main_arg0)) ∧ AllReal (n := S2048x256) (m ((c : Thread nD τ).loc main_arg1)))

include H

theorem good : Good (CmpRef.heads (m ((c : Thread nD τ).loc main_arg0))) (CmpRef.groups (m ((c : Thread nD τ).loc main_arg1))) (means m c) (overlaps m c) :=
  ⟨fun _ => H.1 _, fun _ => H.2 _, table m c, over m c⟩

/-- The compressed branch's array after the run. -/
theorem final5 : (dats m 0 c).arrAt 5 cfg0.N = Cert.CmpRefIdeal.Read.val_main_v66 (m ((c : Thread nD τ).loc main_arg0)) (m ((c : Thread nD τ).loc main_arg1))
    (m ((c : Thread nD τ).loc main_arg2)) := by
  refine (dats m 0 c).arrAt_eq_of_covers 5 _ (by decide +kernel) fun t hf y => ?_
  blk_simp
  rw [after0_5]
  have ht : t.val < 4 := t.isLt
  obtain ⟨h, u, d, ey⟩ : ∃ (h : Fin 4) (u : Fin 2048) (d : Fin 64), y = ix4 0 h u d := ⟨y 1, y 2, y 3, funext fun a => Fin.ext (by
    match a with
    | ⟨0, _⟩ => exact Nat.lt_one_iff.mp (y 0).isLt
    | ⟨1, _⟩ => rfl
    | ⟨2, _⟩ => rfl
    | ⟨3, _⟩ => rfl)⟩
  have ee : (win0_5.blk t).view.emb y = ix4 (⟨t.val, ht⟩ : Fin 4) h u d := by
    rw [ey]
    blk_ext [idx t]
  rw [ee, ey]
  exact point5 (good m c H) (reads m c t ht) (ix4 0 h u d)

/-- The selection's array after the run. -/
theorem final6 : (dats m 0 c).arrAt 6 cfg0.N = Cert.CmpRefIdeal.Read.val_main_v108 (m ((c : Thread nD τ).loc main_arg0)) (m ((c : Thread nD τ).loc main_arg1)) := by
  refine (dats m 0 c).arrAt_eq_of_covers 6 _ (by decide +kernel) fun t hf y => ?_
  blk_simp
  rw [after0_6]
  have ht : t.val < 4 := t.isLt
  obtain ⟨u, j, ey⟩ : ∃ (u : Fin 2048) (j : Fin 32), y = ix3 0 u j := ⟨y 1, y 2, funext fun a => Fin.ext (by
    match a with
    | ⟨0, _⟩ => exact Nat.lt_one_iff.mp (y 0).isLt
    | ⟨1, _⟩ => rfl
    | ⟨2, _⟩ => rfl)⟩
  have ee : (win0_6.blk t).view.emb y = ix3 (⟨t.val, ht⟩ : Fin 4) u j := by
    rw [ey]
    blk_ext [idx t]
  rw [ee, ey]
  exact point6 (good m c H) (reads m c t ht) u j

end Cert.Proof.CmpIdeal

end
-- ==== Proof.lean ====
/-
  The certificate: the frames, the idealizations and the value claims, of the projections, of the compressed
  branch, of the attention call and of the output projection.
-/
module

public import proofs.«01_k».proof.Defs
public import proofs.«01_k».proof.Proof.FlashRun
public import proofs.«01_k».proof.Proof.FlashFinal
public import proofs.«01_k».proof.Proof.OprojFinal
public import proofs.«01_k».proof.Proof.Gen.FlashRefIdeal.Run
public import proofs.«01_k».proof.Proof.Gen.Oproj.Frame
public import proofs.«01_k».proof.Proof.Gen.OprojRefIdeal.Run
public import proofs.«01_k».proof.Proof.ProjFinal
public import proofs.«01_k».proof.Proof.Gen.Proj.Frame
public import proofs.«01_k».proof.Proof.CmpFinal
public import proofs.«01_k».proof.Proof.Gen.Cmp.Frame
public import proofs.«01_k».proof.Proof.Gen.CmpRefIdeal.Run
public import proofs.«01_k».proof.Proof.Gen.ProjRefIdeal.Run

@[expose] public section

set_option maxRecDepth 16384

namespace Cert.Proof

open Idealize.ShloMosaic Idealize.ShloMosaic.TcCoe Idealize.ShloMosaic.Tactic
open Idealize.SL.Sem

/-- The attention reference runs and leaves its arguments. -/
theorem frame_flashRef : Cert.quiescent_FlashRefIdeal :=
  fun m g _ => (θ_run Cert.FlashRefIdeal.defs _ _).mono (fun r h => ⟨fun c => (h c).2, sem_eq_zero_of_no_sems (by decide) _⟩) (Cert.FlashRefIdeal.Value.run m g)

/-- The output projection's reference runs and leaves its arguments. -/
theorem frame_oprojRef : Cert.quiescent_OprojRefIdeal :=
  fun m g _ => (θ_run Cert.OprojRefIdeal.defs _ _).mono (fun r h => ⟨fun c => (h c).2, sem_eq_zero_of_no_sems (by decide) _⟩) (Cert.OprojRefIdeal.Value.run m g)

/-- The projections' reference runs and leaves its arguments. -/
theorem frame_projRef : Cert.quiescent_ProjRefIdeal :=
  fun m g _ => (θ_run Cert.ProjRefIdeal.defs _ _).mono (fun r h => ⟨fun c => (h c).2.2.2, sem_eq_zero_of_no_sems (by decide) _⟩) (Cert.ProjRefIdeal.Value.run m g)

/-- The compressed branch's reference runs and leaves its arguments. -/
theorem frame_cmpRef : Cert.quiescent_CmpRefIdeal :=
  fun m g _ => (θ_run Cert.CmpRefIdeal.defs _ _).mono (fun r h => ⟨fun c => (h c).2.2, sem_eq_zero_of_no_sems (by decide) _⟩) (Cert.CmpRefIdeal.Value.run m g)

/-- The attention kernel's result is the reference's. -/
theorem algebraic_flash : Cert.algebraic_FlashIdeal_FlashRefIdeal_pre_flash_pre := by
  pair_intro
  · run_from Cert.Proof.FlashIdeal.run m g
  · run_from Cert.FlashRefIdeal.Value.run m' g'
    rw [Cert.Proof.FlashIdeal.final m c (FlashEq.good_of_pre (hpre c))]
    obtain ⟨e0, e1, e2, e3, e4, e5⟩ := hagree c
    rw [← e0, ← e1, ← e2, ← e3, ← e4, ← e5]
    exact Cert.FlashRefIdeal.Read.val_main_v76_eq m' c

/-- The output projection's result is the reference's. -/
theorem algebraic_oproj : Cert.algebraic_OprojIdeal_OprojRefIdeal := by
  pair_intro
  · run_from Cert.OprojIdeal.Value.run_blocks m g
  · run_from Cert.OprojRefIdeal.Value.run m' g'
    rw [Cert.Proof.OprojIdeal.final m c]
    exact Cert.OprojRefIdeal.Read.val_main_v3_eq (F := Ideal) _ _

/-- The projections' three results are the reference's. -/
theorem algebraic_proj : Cert.algebraic_ProjIdeal_ProjRefIdeal := by
  pair_intro
  · run_from Cert.ProjIdeal.Value.run_blocks m g
  · run_from Cert.ProjRefIdeal.Value.run m' g'
    · rw [Cert.Proof.ProjIdeal.final5 m c]
      exact Cert.ProjRefIdeal.Read.val_main_v67_eq (F := Ideal) _ _ _
    · rw [Cert.Proof.ProjIdeal.final6 m c, ← (hagree c).2.2.2.1]
      exact Cert.ProjRefIdeal.Read.val_main_v68_eq (F := Ideal) _ _ _
    · rw [Cert.Proof.ProjIdeal.final7 m c]
      exact Cert.ProjRefIdeal.Read.val_main_v69_eq (F := Ideal) _ _

/-- The compressed branch's result and its selection of blocks are the reference's. -/
theorem algebraic_cmp : Cert.algebraic_CmpIdeal_CmpRefIdeal_pre_cmp_pre := by
  pair_intro
  · run_from Cert.CmpIdeal.Value.run_blocks m g
  · refine θ_run_mono (Cert.CmpRefIdeal.Value.run m' g') fun r hr c => ?_
    obtain ⟨h0, h1, h⟩ := hr c
    obtain ⟨e0, e1, e2⟩ := hagree c
    refine ⟨h0.trans ?_, h1.trans ?_, h⟩
    · rw [Cert.CmpRefIdeal.Read.val_main_v66_eq, e0, e1, e2]
      exact (Cert.Proof.CmpIdeal.final5 m c (CmpEq.finite_of_pre (hpre c))).symm
    · rw [Cert.CmpRefIdeal.Read.val_main_v108_eq, e0, e1]
      exact (Cert.Proof.CmpIdeal.final6 m c (CmpEq.finite_of_pre (hpre c))).symm

/-- The certificate's claim. -/
theorem claim : Cert.Claim :=
  ⟨Cert.Flash.Gen.facts, Cert.FlashIdeal.Gen.facts, Cert.FlashRefIdeal.Gen.facts, Cert.Oproj.Gen.facts, Cert.OprojIdeal.Gen.facts,
    Cert.OprojRefIdeal.Gen.facts, Cert.Proj.Gen.facts, Cert.ProjIdeal.Gen.facts, Cert.ProjRefIdeal.Gen.facts, Cert.Cmp.Gen.facts, Cert.CmpIdeal.Gen.facts,
    Cert.CmpRefIdeal.Gen.facts, Cert.Pre_flash_pre.Gen.facts, Cert.Pre_cmp_pre.Gen.facts,
    fun m g _ => Cert.Proof.Flash.frame m g, fun m g _ => Cert.Proof.FlashIdeal.frame m g, fun m g _ => Cert.Proof.FlashIdeal.frame m g,
    frame_flashRef, fun m g _ => frame_flashRef m g trivial, fun m g _ => Cert.Oproj.Gen.frame m g, fun m g _ => Cert.OprojIdeal.Gen.frame m g, frame_oprojRef,
    fun m g _ => Cert.Proj.Gen.frame m g, fun m g _ => Cert.ProjIdeal.Gen.frame m g, frame_projRef,
    fun m g _ => Cert.Cmp.Gen.frame m g, fun m g _ => Cert.CmpIdeal.Gen.frame m g, fun m g _ => Cert.CmpIdeal.Gen.frame m g,
    frame_cmpRef, fun m g _ => frame_cmpRef m g trivial,
    IdealRules.named_const.statement Cert.FlashIdeal.κ "mask" .f32 0xF149F2CA#32 ⊥ rfl, algebraic_flash, trivial, algebraic_oproj, trivial, algebraic_proj,
    IdealRules.named_const.statement Cert.CmpIdeal.κ "mask" .f32 0xF149F2CA#32 ⊥ rfl, algebraic_cmp⟩

end Cert.Proof

end
